-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Vt (m : (ℓ : Loc Cert.Vt.nD Cert.Vt.τ Cert.Vt.sig) → Buf (Elt Bits) ℓ) : Prop :=
  True

def Pre_VtIdeal (m : (ℓ : Loc Cert.VtIdeal.nD Cert.VtIdeal.τ Cert.VtIdeal.sig) → Buf (Elt Ideal) ℓ) : Prop :=
  True

def Pre_VtRefIdeal (m : (ℓ : Loc Cert.VtRefIdeal.nD Cert.VtRefIdeal.τ Cert.VtRefIdeal.sig) → Buf (Elt Ideal) ℓ) : Prop :=
  True

def Pre_Hv (m : (ℓ : Loc Cert.Hv.nD Cert.Hv.τ Cert.Hv.sig) → Buf (Elt Bits) ℓ) : Prop :=
  True

def Pre_HvIdeal (m : (ℓ : Loc Cert.HvIdeal.nD Cert.HvIdeal.τ Cert.HvIdeal.sig) → Buf (Elt Ideal) ℓ) : Prop :=
  True

def Pre_HvRefIdeal (m : (ℓ : Loc Cert.HvRefIdeal.nD Cert.HvRefIdeal.τ Cert.HvRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgRefIdeal (m : (ℓ : Loc Cert.HgRefIdeal.nD Cert.HgRefIdeal.τ Cert.HgRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateIdeal_finite_logits [hPre_finite_logits : Cert.Pre_finite_logits.Facts] (m : (ℓ : Loc Cert.FgateIdeal.nD Cert.FgateIdeal.τ Cert.FgateIdeal.sig) → Buf (Elt Ideal) ℓ) : Prop :=
  ∀ c : Dev Cert.FgateIdeal.nD,
    (Cert.Pre_finite_logits.fn (F := Ideal) (m ((c.tc : Thread Cert.FgateIdeal.nD Cert.FgateIdeal.τ).loc Cert.FgateIdeal.main_arg0)) (m ((c.tc : Thread Cert.FgateIdeal.nD Cert.FgateIdeal.τ).loc Cert.FgateIdeal.main_arg1)) (m ((c.tc : Thread Cert.FgateIdeal.nD Cert.FgateIdeal.τ).loc Cert.FgateIdeal.main_arg2))) = (fun _ => 1#1)

def Pre_FgateRefIdeal (m : (ℓ : Loc Cert.FgateRefIdeal.nD Cert.FgateRefIdeal.τ Cert.FgateRefIdeal.sig) → Buf (Elt Ideal) ℓ) : Prop :=
  True

def Pre_FgateRefIdeal_finite_logits [hPre_finite_logits : Cert.Pre_finite_logits.Facts] (m : (ℓ : Loc Cert.FgateRefIdeal.nD Cert.FgateRefIdeal.τ Cert.FgateRefIdeal.sig) → Buf (Elt Ideal) ℓ) : Prop :=
  ∀ c : Dev Cert.FgateRefIdeal.nD,
    (Cert.Pre_finite_logits.fn (F := Ideal) (m ((c.tc : Thread Cert.FgateRefIdeal.nD Cert.FgateRefIdeal.τ).loc Cert.FgateRefIdeal.main_arg0)) (m ((c.tc : Thread Cert.FgateRefIdeal.nD Cert.FgateRefIdeal.τ).loc Cert.FgateRefIdeal.main_arg1)) (m ((c.tc : Thread Cert.FgateRefIdeal.nD Cert.FgateRefIdeal.τ).loc Cert.FgateRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1))
      ∧ r.2.sem = fun _ => 0)

def quiescent_Vt [hVt : Cert.Vt.Facts] : Prop :=
  ∀ (m : (ℓ : Loc Cert.Vt.nD Cert.Vt.τ Cert.Vt.sig) → Buf (Elt Bits) ℓ) (g : Dev Cert.Vt.nD → PrngReg), Pre_Vt m →
    θ_run (Cert.Vt.defs (F := Bits)) (onTc (τ := Cert.Vt.τ) (Cert.Vt.main (F := Bits))) ⟨m, fun _ => 0, g⟩ (fun r => (∀ c : Dev Cert.Vt.nD,
      r.2.mem ((c.tc : Thread Cert.Vt.nD Cert.Vt.τ).loc Cert.Vt.main_arg0) = m ((c.tc : Thread Cert.Vt.nD Cert.Vt.τ).loc Cert.Vt.main_arg0)
      ∧ r.2.mem ((c.tc : Thread Cert.Vt.nD Cert.Vt.τ).loc Cert.Vt.main_arg1) = m ((c.tc : Thread Cert.Vt.nD Cert.Vt.τ).loc Cert.Vt.main_arg1))
      ∧ r.2.sem = fun _ => 0)

def quiescent_VtIdeal [hVtIdeal : Cert.VtIdeal.Facts] : Prop :=
  ∀ (m : (ℓ : Loc Cert.VtIdeal.nD Cert.VtIdeal.τ Cert.VtIdeal.sig) → Buf (Elt Ideal) ℓ) (g : Dev Cert.VtIdeal.nD → PrngReg), Pre_VtIdeal m →
    θ_run (Cert.VtIdeal.defs (F := Ideal)) (onTc (τ := Cert.VtIdeal.τ) (Cert.VtIdeal.main (F := Ideal))) ⟨m, fun _ => 0, g⟩ (fun r => (∀ c : Dev Cert.VtIdeal.nD,
      r.2.mem ((c.tc : Thread Cert.VtIdeal.nD Cert.VtIdeal.τ).loc Cert.VtIdeal.main_arg0) = m ((c.tc : Thread Cert.VtIdeal.nD Cert.VtIdeal.τ).loc Cert.VtIdeal.main_arg0)
      ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ r.2.sem = fun _ => 0)

def quiescent_VtRefIdeal [hVtRefIdeal : Cert.VtRefIdeal.Facts] : Prop :=
  ∀ (m : (ℓ : Loc Cert.VtRefIdeal.nD Cert.VtRefIdeal.τ Cert.VtRefIdeal.sig) → Buf (Elt Ideal) ℓ) (g : Dev Cert.VtRefIdeal.nD → PrngReg), Pre_VtRefIdeal m →
    θ_run (Cert.VtRefIdeal.defs (F := Ideal)) (onTc (τ := Cert.VtRefIdeal.τ) (Cert.VtRefIdeal.main (F := Ideal))) ⟨m, fun _ => 0, g⟩ (fun r => (∀ c : Dev Cert.VtRefIdeal.nD,
      r.2.mem ((c.tc : Thread Cert.VtRefIdeal.nD Cert.VtRefIdeal.τ).loc Cert.VtRefIdeal.main_arg0) = m ((c.tc : Thread Cert.VtRefIdeal.nD Cert.VtRefIdeal.τ).loc Cert.VtRefIdeal.main_arg0)
      ∧ r.2.mem ((c.tc : Thread Cert.VtRefIdeal.nD Cert.VtRefIdeal.τ).loc Cert.VtRefIdeal.main_arg1) = m ((c.tc : Thread Cert.VtRefIdeal.nD Cert.VtRefIdeal.τ).loc Cert.VtRefIdeal.main_arg1))
      ∧ r.2.sem = fun _ => 0)

def quiescent_Hv [hHv : Cert.Hv.Facts] : Prop :=
  ∀ (m : (ℓ : Loc Cert.Hv.nD Cert.Hv.τ Cert.Hv.sig) → Buf (Elt Bits) ℓ) (g : Dev Cert.Hv.nD → PrngReg), Pre_Hv m →
    θ_run (Cert.Hv.defs (F := Bits)) (onTc (τ := Cert.Hv.τ) (Cert.Hv.main (F := Bits))) ⟨m, fun _ => 0, g⟩ (fun r => (∀ c : Dev Cert.Hv.nD,
      r.2.mem ((c.tc : Thread Cert.Hv.nD Cert.Hv.τ).loc Cert.Hv.main_arg0) = m ((c.tc : Thread Cert.Hv.nD Cert.Hv.τ).loc Cert.Hv.main_arg0)
      ∧ r.2.mem ((c.tc : Thread Cert.Hv.nD Cert.Hv.τ).loc Cert.Hv.main_arg1) = m ((c.tc : Thread Cert.Hv.nD Cert.Hv.τ).loc Cert.Hv.main_arg1))
      ∧ r.2.sem = fun _ => 0)

def quiescent_HvIdeal [hHvIdeal : Cert.HvIdeal.Facts] : Prop :=
  ∀ (m : (ℓ : Loc Cert.HvIdeal.nD Cert.HvIdeal.τ Cert.HvIdeal.sig) → Buf (Elt Ideal) ℓ) (g : Dev Cert.HvIdeal.nD → PrngReg), Pre_HvIdeal m →
    θ_run (Cert.HvIdeal.defs (F := Ideal)) (onTc (τ := Cert.HvIdeal.τ) (Cert.HvIdeal.main (F := Ideal))) ⟨m, fun _ => 0, g⟩ (fun r => (∀ c : Dev Cert.HvIdeal.nD,
      r.2.mem ((c.tc : Thread Cert.HvIdeal.nD Cert.HvIdeal.τ).loc Cert.HvIdeal.main_arg0) = m ((c.tc : Thread Cert.HvIdeal.nD Cert.HvIdeal.τ).loc Cert.HvIdeal.main_arg0)
      ∧ r.2.mem ((c.tc : Thread Cert.HvIdeal.nD Cert.HvIdeal.τ).loc Cert.HvIdeal.main_arg1) = m ((c.tc : Thread Cert.HvIdeal.nD Cert.HvIdeal.τ).loc Cert.HvIdeal.main_arg1))
      ∧ r.2.sem = fun _ => 0)

def quiescent_HvRefIdeal [hHvRefIdeal : Cert.HvRefIdeal.Facts] : Prop :=
  ∀ (m : (ℓ : Loc Cert.HvRefIdeal.nD Cert.HvRefIdeal.τ Cert.HvRefIdeal.sig) → Buf (Elt Ideal) ℓ) (g : Dev Cert.HvRefIdeal.nD → PrngReg), Pre_HvRefIdeal m →
    θ_run (Cert.HvRefIdeal.defs (F := Ideal)) (onTc (τ := Cert.HvRefIdeal.τ) (Cert.HvRefIdeal.main (F := Ideal))) ⟨m, fun _ => 0, g⟩ (fun r => (∀ c : Dev Cert.HvRefIdeal.nD,
      r.2.mem ((c.tc : Thread Cert.HvRefIdeal.nD Cert.HvRefIdeal.τ).loc Cert.HvRefIdeal.main_arg0) = m ((c.tc : Thread Cert.HvRefIdeal.nD Cert.HvRefIdeal.τ).loc Cert.HvRefIdeal.main_arg0)
      ∧ r.2.mem ((c.tc : Thread Cert.HvRefIdeal.nD Cert.HvRefIdeal.τ).loc Cert.HvRefIdeal.main_arg1) = m ((c.tc : Thread Cert.HvRefIdeal.nD Cert.HvRefIdeal.τ).loc Cert.HvRefIdeal.main_arg1))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4))
      ∧ r.2.sem = fun _ => 0)

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1)
      ∧ r.2.mem ((c.tc : Thread Cert.Fgate.nD Cert.Fgate.τ).loc Cert.Fgate.main_arg2) = m ((c.tc : Thread Cert.Fgate.nD Cert.Fgate.τ).loc Cert.Fgate.main_arg2))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
      ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2))
      ∧ r.2.sem = fun _ => 0)

def quiescent_FgateIdeal_pre_finite_logits [hFgateIdeal : Cert.FgateIdeal.Facts] [hPre_finite_logits : Cert.Pre_finite_logits.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal_finite_logits m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
      ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2))
      ∧ r.2.sem = fun _ => 0)

def quiescent_FgateRefIdeal [hFgateRefIdeal : Cert.FgateRefIdeal.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1)
      ∧ r.2.mem ((c.tc : Thread Cert.FgateRefIdeal.nD Cert.FgateRefIdeal.τ).loc Cert.FgateRefIdeal.main_arg2) = m ((c.tc : Thread Cert.FgateRefIdeal.nD Cert.FgateRefIdeal.τ).loc Cert.FgateRefIdeal.main_arg2))
      ∧ r.2.sem = fun _ => 0)

def quiescent_FgateRefIdeal_pre_finite_logits [hFgateRefIdeal : Cert.FgateRefIdeal.Facts] [hPre_finite_logits : Cert.Pre_finite_logits.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal_finite_logits m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1)
      ∧ r.2.mem ((c.tc : Thread Cert.FgateRefIdeal.nD Cert.FgateRefIdeal.τ).loc Cert.FgateRefIdeal.main_arg2) = m ((c.tc : Thread Cert.FgateRefIdeal.nD Cert.FgateRefIdeal.τ).loc Cert.FgateRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Fox_FoxIdeal : Prop :=
  IdealRules.named_const.Statement Cert.FoxIdeal.κ "mask" .f32 0xF149F2CA#32 ⊥

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v38) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v36) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v33) = v0 c
          ∧ r.2.mem ((c.tc : Thread Cert.DownRefIdeal.nD Cert.DownRefIdeal.τ).loc Cert.DownRefIdeal.main_v34) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v36) = v0 c
          ∧ r.2.mem ((c.tc : Thread Cert.MixRefIdeal.nD Cert.MixRefIdeal.τ).loc Cert.MixRefIdeal.main_v37) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v3)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v3) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v6) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v6_0)) (v1 : (c : Dev Cert.CrossIdeal.nD) → Buf (Elt Ideal) ((c.tc : Thread Cert.CrossIdeal.nD Cert.CrossIdeal.τ).loc Cert.CrossIdeal.main_v6_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6_0) = v0 c
          ∧ r.2.mem ((c.tc : Thread Cert.CrossIdeal.nD Cert.CrossIdeal.τ).loc Cert.CrossIdeal.main_v6_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v54) = v0 c
          ∧ r.2.mem ((c.tc : Thread Cert.CrossRefIdeal.nD Cert.CrossRefIdeal.τ).loc Cert.CrossRefIdeal.main_v55) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)) →
    ∃ (v0 : (c : Dev Cert.QkIdeal.nD) → Buf (Elt Ideal) ((c.tc : Thread Cert.QkIdeal.nD Cert.QkIdeal.τ).loc Cert.QkIdeal.main_v6)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v6) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v9) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1))

def preserves_Vt_VtIdeal : Prop :=
  True

def algebraic_VtIdeal_VtRefIdeal [hVtIdeal : Cert.VtIdeal.Facts] [hVtRefIdeal : Cert.VtRefIdeal.Facts] : Prop :=
  ∀ (m : (ℓ : Loc Cert.VtIdeal.nD Cert.VtIdeal.τ Cert.VtIdeal.sig) → Buf (Elt Ideal) ℓ) (g : Dev Cert.VtIdeal.nD → PrngReg)
    (m' : (ℓ : Loc Cert.VtRefIdeal.nD Cert.VtRefIdeal.τ Cert.VtRefIdeal.sig) → Buf (Elt Ideal) ℓ) (g' : Dev Cert.VtRefIdeal.nD → PrngReg), Pre_VtIdeal m →
    (∀ c : Dev Cert.VtIdeal.nD,
      m' ((c.tc : Thread Cert.VtRefIdeal.nD Cert.VtRefIdeal.τ).loc Cert.VtRefIdeal.main_arg0) = m ((c.tc : Thread Cert.VtIdeal.nD Cert.VtIdeal.τ).loc Cert.VtIdeal.main_arg0)
      ∧ m' ((c.tc : Thread Cert.VtRefIdeal.nD Cert.VtRefIdeal.τ).loc Cert.VtRefIdeal.main_arg1) = m ((c.tc : Thread Cert.VtIdeal.nD Cert.VtIdeal.τ).loc Cert.VtIdeal.main_arg1)) →
    ∃ (v0 : (c : Dev Cert.VtIdeal.nD) → Buf (Elt Ideal) ((c.tc : Thread Cert.VtIdeal.nD Cert.VtIdeal.τ).loc Cert.VtIdeal.main_v4)),
      θ_run (Cert.VtIdeal.defs (F := Ideal)) (onTc (τ := Cert.VtIdeal.τ) (Cert.VtIdeal.main (F := Ideal))) ⟨m, fun _ => 0, g⟩ (fun r => ∀ c : Dev Cert.VtIdeal.nD,
          r.2.mem ((c.tc : Thread Cert.VtIdeal.nD Cert.VtIdeal.τ).loc Cert.VtIdeal.main_v4) = v0 c
          ∧ r.2.mem ((c.tc : Thread Cert.VtIdeal.nD Cert.VtIdeal.τ).loc Cert.VtIdeal.main_arg0) = m ((c.tc : Thread Cert.VtIdeal.nD Cert.VtIdeal.τ).loc Cert.VtIdeal.main_arg0)
          ∧ r.2.mem ((c.tc : Thread Cert.VtIdeal.nD Cert.VtIdeal.τ).loc Cert.VtIdeal.main_arg1) = m ((c.tc : Thread Cert.VtIdeal.nD Cert.VtIdeal.τ).loc Cert.VtIdeal.main_arg1))
      ∧ θ_run (Cert.VtRefIdeal.defs (F := Ideal)) (onTc (τ := Cert.VtRefIdeal.τ) (Cert.VtRefIdeal.main (F := Ideal))) ⟨m', fun _ => 0, g'⟩ (fun r => ∀ c : Dev Cert.VtRefIdeal.nD,
          r.2.mem ((c.tc : Thread Cert.VtRefIdeal.nD Cert.VtRefIdeal.τ).loc Cert.VtRefIdeal.main_v6) = v0 c
          ∧ r.2.mem ((c.tc : Thread Cert.VtRefIdeal.nD Cert.VtRefIdeal.τ).loc Cert.VtRefIdeal.main_arg0) = m' ((c.tc : Thread Cert.VtRefIdeal.nD Cert.VtRefIdeal.τ).loc Cert.VtRefIdeal.main_arg0)
          ∧ r.2.mem ((c.tc : Thread Cert.VtRefIdeal.nD Cert.VtRefIdeal.τ).loc Cert.VtRefIdeal.main_arg1) = m' ((c.tc : Thread Cert.VtRefIdeal.nD Cert.VtRefIdeal.τ).loc Cert.VtRefIdeal.main_arg1))

def preserves_Hv_HvIdeal : Prop :=
  True

def algebraic_HvIdeal_HvRefIdeal [hHvIdeal : Cert.HvIdeal.Facts] [hHvRefIdeal : Cert.HvRefIdeal.Facts] : Prop :=
  ∀ (m : (ℓ : Loc Cert.HvIdeal.nD Cert.HvIdeal.τ Cert.HvIdeal.sig) → Buf (Elt Ideal) ℓ) (g : Dev Cert.HvIdeal.nD → PrngReg)
    (m' : (ℓ : Loc Cert.HvRefIdeal.nD Cert.HvRefIdeal.τ Cert.HvRefIdeal.sig) → Buf (Elt Ideal) ℓ) (g' : Dev Cert.HvRefIdeal.nD → PrngReg), Pre_HvIdeal m →
    (∀ c : Dev Cert.HvIdeal.nD,
      m' ((c.tc : Thread Cert.HvRefIdeal.nD Cert.HvRefIdeal.τ).loc Cert.HvRefIdeal.main_arg0) = m ((c.tc : Thread Cert.HvIdeal.nD Cert.HvIdeal.τ).loc Cert.HvIdeal.main_arg0)
      ∧ m' ((c.tc : Thread Cert.HvRefIdeal.nD Cert.HvRefIdeal.τ).loc Cert.HvRefIdeal.main_arg1) = m ((c.tc : Thread Cert.HvIdeal.nD Cert.HvIdeal.τ).loc Cert.HvIdeal.main_arg1)) →
    ∃ (v0 : (c : Dev Cert.HvIdeal.nD) → Buf (Elt Ideal) ((c.tc : Thread Cert.HvIdeal.nD Cert.HvIdeal.τ).loc Cert.HvIdeal.main_v4)),
      θ_run (Cert.HvIdeal.defs (F := Ideal)) (onTc (τ := Cert.HvIdeal.τ) (Cert.HvIdeal.main (F := Ideal))) ⟨m, fun _ => 0, g⟩ (fun r => ∀ c : Dev Cert.HvIdeal.nD,
          r.2.mem ((c.tc : Thread Cert.HvIdeal.nD Cert.HvIdeal.τ).loc Cert.HvIdeal.main_v4) = v0 c
          ∧ r.2.mem ((c.tc : Thread Cert.HvIdeal.nD Cert.HvIdeal.τ).loc Cert.HvIdeal.main_arg0) = m ((c.tc : Thread Cert.HvIdeal.nD Cert.HvIdeal.τ).loc Cert.HvIdeal.main_arg0)
          ∧ r.2.mem ((c.tc : Thread Cert.HvIdeal.nD Cert.HvIdeal.τ).loc Cert.HvIdeal.main_arg1) = m ((c.tc : Thread Cert.HvIdeal.nD Cert.HvIdeal.τ).loc Cert.HvIdeal.main_arg1))
      ∧ θ_run (Cert.HvRefIdeal.defs (F := Ideal)) (onTc (τ := Cert.HvRefIdeal.τ) (Cert.HvRefIdeal.main (F := Ideal))) ⟨m', fun _ => 0, g'⟩ (fun r => ∀ c : Dev Cert.HvRefIdeal.nD,
          r.2.mem ((c.tc : Thread Cert.HvRefIdeal.nD Cert.HvRefIdeal.τ).loc Cert.HvRefIdeal.main_v5) = v0 c
          ∧ r.2.mem ((c.tc : Thread Cert.HvRefIdeal.nD Cert.HvRefIdeal.τ).loc Cert.HvRefIdeal.main_arg0) = m' ((c.tc : Thread Cert.HvRefIdeal.nD Cert.HvRefIdeal.τ).loc Cert.HvRefIdeal.main_arg0)
          ∧ r.2.mem ((c.tc : Thread Cert.HvRefIdeal.nD Cert.HvRefIdeal.τ).loc Cert.HvRefIdeal.main_arg1) = m' ((c.tc : Thread Cert.HvRefIdeal.nD Cert.HvRefIdeal.τ).loc Cert.HvRefIdeal.main_arg1))

def preserves_Hg_HgIdeal : Prop :=
  True

def algebraic_HgIdeal_HgRefIdeal [hHgIdeal : Cert.HgIdeal.Facts] [hHgRefIdeal : Cert.HgRefIdeal.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)) →
    ∃ (v0 : (c : Dev Cert.HgIdeal.nD) → Buf (Elt Ideal) ((c.tc : Thread Cert.HgIdeal.nD Cert.HgIdeal.τ).loc Cert.HgIdeal.main_v4)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v4) = v0 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v4) = v0 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v4) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Hgrn_HgrnIdeal : Prop :=
  IdealRules.named_const.Statement Cert.HgrnIdeal.κ "inv_ln2" .f32 0x3FB8AA3B#32 (((Real.log 2)⁻¹ : ℝ) : EReal)

def preserves_Fgate_FgateIdeal : Prop :=
  True

def algebraic_FgateIdeal_FgateRefIdeal_pre_finite_logits [hFgateIdeal : Cert.FgateIdeal.Facts] [hFgateRefIdeal : Cert.FgateRefIdeal.Facts] [hPre_finite_logits : Cert.Pre_finite_logits.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateRefIdeal.nD Cert.FgateRefIdeal.τ Cert.FgateRefIdeal.sig) → Buf (Elt Ideal) ℓ) (g' : Dev Cert.FgateRefIdeal.nD → PrngReg), Pre_FgateIdeal_finite_logits m →
    (∀ c : Dev Cert.FgateIdeal.nD,
      m' ((c.tc : Thread Cert.FgateRefIdeal.nD Cert.FgateRefIdeal.τ).loc Cert.FgateRefIdeal.main_arg0) = m ((c.tc : Thread Cert.FgateIdeal.nD Cert.FgateIdeal.τ).loc Cert.FgateIdeal.main_arg0)
      ∧ m' ((c.tc : Thread Cert.FgateRefIdeal.nD Cert.FgateRefIdeal.τ).loc Cert.FgateRefIdeal.main_arg1) = m ((c.tc : Thread Cert.FgateIdeal.nD Cert.FgateIdeal.τ).loc Cert.FgateIdeal.main_arg1)
      ∧ m' ((c.tc : Thread Cert.FgateRefIdeal.nD Cert.FgateRefIdeal.τ).loc Cert.FgateRefIdeal.main_arg2) = m ((c.tc : Thread Cert.FgateIdeal.nD Cert.FgateIdeal.τ).loc Cert.FgateIdeal.main_arg2)) →
    ∃ (v0 : (c : Dev Cert.FgateIdeal.nD) → Buf (Elt Ideal) ((c.tc : Thread Cert.FgateIdeal.nD Cert.FgateIdeal.τ).loc Cert.FgateIdeal.main_v40_0)) (v1 : (c : Dev Cert.FgateIdeal.nD) → Buf (Elt Ideal) ((c.tc : Thread Cert.FgateIdeal.nD Cert.FgateIdeal.τ).loc Cert.FgateIdeal.main_v40_1)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v40_0) = v0 c
          ∧ r.2.mem ((c.tc : Thread Cert.FgateIdeal.nD Cert.FgateIdeal.τ).loc Cert.FgateIdeal.main_v40_1) = v1 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1)
          ∧ r.2.mem ((c.tc : Thread Cert.FgateIdeal.nD Cert.FgateIdeal.τ).loc Cert.FgateIdeal.main_arg2) = m ((c.tc : Thread Cert.FgateIdeal.nD Cert.FgateIdeal.τ).loc Cert.FgateIdeal.main_arg2))
      ∧ θ_run (Cert.FgateRefIdeal.defs (F := Ideal)) (onTc (τ := Cert.FgateRefIdeal.τ) (Cert.FgateRefIdeal.main (F := Ideal))) ⟨m', fun _ => 0, g'⟩ (fun r => ∀ c : Dev Cert.FgateRefIdeal.nD,
          r.2.mem ((c.tc : Thread Cert.FgateRefIdeal.nD Cert.FgateRefIdeal.τ).loc Cert.FgateRefIdeal.main_v40) = v0 c
          ∧ r.2.mem ((c.tc : Thread Cert.FgateRefIdeal.nD Cert.FgateRefIdeal.τ).loc Cert.FgateRefIdeal.main_v42) = v1 c
          ∧ r.2.mem ((c.tc : Thread Cert.FgateRefIdeal.nD Cert.FgateRefIdeal.τ).loc Cert.FgateRefIdeal.main_arg0) = m' ((c.tc : Thread Cert.FgateRefIdeal.nD Cert.FgateRefIdeal.τ).loc Cert.FgateRefIdeal.main_arg0)
          ∧ r.2.mem ((c.tc : Thread Cert.FgateRefIdeal.nD Cert.FgateRefIdeal.τ).loc Cert.FgateRefIdeal.main_arg1) = m' ((c.tc : Thread Cert.FgateRefIdeal.nD Cert.FgateRefIdeal.τ).loc Cert.FgateRefIdeal.main_arg1)
          ∧ r.2.mem ((c.tc : Thread Cert.FgateRefIdeal.nD Cert.FgateRefIdeal.τ).loc Cert.FgateRefIdeal.main_arg2) = m' ((c.tc : Thread Cert.FgateRefIdeal.nD Cert.FgateRefIdeal.τ).loc Cert.FgateRefIdeal.main_arg2))

def Claim : Prop :=
  ∃ (hKernel : Cert.Kernel.Facts) (hKernelIdeal : Cert.KernelIdeal.Facts) (hReferenceIdeal : Cert.ReferenceIdeal.Facts) (hFox : Cert.Fox.Facts) (hFoxIdeal : Cert.FoxIdeal.Facts) (hFoxRefIdeal : Cert.FoxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hXq : Cert.Xq.Facts) (hXqIdeal : Cert.XqIdeal.Facts) (hXqRefIdeal : Cert.XqRefIdeal.Facts) (hCross : Cert.Cross.Facts) (hCrossIdeal : Cert.CrossIdeal.Facts) (hCrossRefIdeal : Cert.CrossRefIdeal.Facts) (hQk : Cert.Qk.Facts) (hQkIdeal : Cert.QkIdeal.Facts) (hQkRefIdeal : Cert.QkRefIdeal.Facts) (hVt : Cert.Vt.Facts) (hVtIdeal : Cert.VtIdeal.Facts) (hVtRefIdeal : Cert.VtRefIdeal.Facts) (hHv : Cert.Hv.Facts) (hHvIdeal : Cert.HvIdeal.Facts) (hHvRefIdeal : Cert.HvRefIdeal.Facts) (hHg : Cert.Hg.Facts) (hHgIdeal : Cert.HgIdeal.Facts) (hHgRefIdeal : Cert.HgRefIdeal.Facts) (hKv : Cert.Kv.Facts) (hKvIdeal : Cert.KvIdeal.Facts) (hKvRefIdeal : Cert.KvRefIdeal.Facts) (hHgrn : Cert.Hgrn.Facts) (hHgrnIdeal : Cert.HgrnIdeal.Facts) (hHgrnRefIdeal : Cert.HgrnRefIdeal.Facts) (hFgate : Cert.Fgate.Facts) (hFgateIdeal : Cert.FgateIdeal.Facts) (hFgateRefIdeal : Cert.FgateRefIdeal.Facts) (hPre_finite_scores : Cert.Pre_finite_scores.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixRefIdeal (hMixRefIdeal := hMixRefIdeal)
    ∧ quiescent_Xq (hXq := hXq)
    ∧ quiescent_XqIdeal (hXqIdeal := hXqIdeal)
    ∧ quiescent_XqRefIdeal (hXqRefIdeal := hXqRefIdeal)
    ∧ quiescent_Cross (hCross := hCross)
    ∧ quiescent_CrossIdeal (hCrossIdeal := hCrossIdeal)
    ∧ quiescent_CrossRefIdeal (hCrossRefIdeal := hCrossRefIdeal)
    ∧ quiescent_Qk (hQk := hQk)
    ∧ quiescent_QkIdeal (hQkIdeal := hQkIdeal)
    ∧ quiescent_QkRefIdeal (hQkRefIdeal := hQkRefIdeal)
    ∧ quiescent_Vt (hVt := hVt)
    ∧ quiescent_VtIdeal (hVtIdeal := hVtIdeal)
    ∧ quiescent_VtRefIdeal (hVtRefIdeal := hVtRefIdeal)
    ∧ quiescent_Hv (hHv := hHv)
    ∧ quiescent_HvIdeal (hHvIdeal := hHvIdeal)
    ∧ quiescent_HvRefIdeal (hHvRefIdeal := hHvRefIdeal)
    ∧ quiescent_Hg (hHg := hHg)
    ∧ quiescent_HgIdeal (hHgIdeal := hHgIdeal)
    ∧ quiescent_HgRefIdeal (hHgRefIdeal := hHgRefIdeal)
    ∧ quiescent_Kv (hKv := hKv)
    ∧ quiescent_KvIdeal (hKvIdeal := hKvIdeal)
    ∧ quiescent_KvRefIdeal (hKvRefIdeal := hKvRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Fgate (hFgate := hFgate)
    ∧ quiescent_FgateIdeal (hFgateIdeal := hFgateIdeal)
    ∧ quiescent_FgateIdeal_pre_finite_logits (hFgateIdeal := hFgateIdeal) (hPre_finite_logits := hPre_finite_logits)
    ∧ quiescent_FgateRefIdeal (hFgateRefIdeal := hFgateRefIdeal)
    ∧ quiescent_FgateRefIdeal_pre_finite_logits (hFgateRefIdeal := hFgateRefIdeal) (hPre_finite_logits := hPre_finite_logits)
    ∧ preserves_Kernel_KernelIdeal
    ∧ algebraic_KernelIdeal_ReferenceIdeal (hKernelIdeal := hKernelIdeal) (hReferenceIdeal := hReferenceIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal (hMixIdeal := hMixIdeal) (hMixRefIdeal := hMixRefIdeal)
    ∧ preserves_Xq_XqIdeal
    ∧ algebraic_XqIdeal_XqRefIdeal (hXqIdeal := hXqIdeal) (hXqRefIdeal := hXqRefIdeal)
    ∧ preserves_Cross_CrossIdeal
    ∧ algebraic_CrossIdeal_CrossRefIdeal (hCrossIdeal := hCrossIdeal) (hCrossRefIdeal := hCrossRefIdeal)
    ∧ preserves_Qk_QkIdeal
    ∧ algebraic_QkIdeal_QkRefIdeal (hQkIdeal := hQkIdeal) (hQkRefIdeal := hQkRefIdeal)
    ∧ preserves_Vt_VtIdeal
    ∧ algebraic_VtIdeal_VtRefIdeal (hVtIdeal := hVtIdeal) (hVtRefIdeal := hVtRefIdeal)
    ∧ preserves_Hv_HvIdeal
    ∧ algebraic_HvIdeal_HvRefIdeal (hHvIdeal := hHvIdeal) (hHvRefIdeal := hHvRefIdeal)
    ∧ preserves_Hg_HgIdeal
    ∧ algebraic_HgIdeal_HgRefIdeal (hHgIdeal := hHgIdeal) (hHgRefIdeal := hHgRefIdeal)
    ∧ preserves_Kv_KvIdeal
    ∧ algebraic_KvIdeal_KvRefIdeal (hKvIdeal := hKvIdeal) (hKvRefIdeal := hKvRefIdeal)
    ∧ preserves_Hgrn_HgrnIdeal
    ∧ preserves_Fgate_FgateIdeal
    ∧ algebraic_FgateIdeal_FgateRefIdeal_pre_finite_logits (hFgateIdeal := hFgateIdeal) (hFgateRefIdeal := hFgateRefIdeal) (hPre_finite_logits := hPre_finite_logits)
-- ==== Pre_finite_logits.lean ====
abbrev S4x4096x2048 : Shape := ⟨3, ![4, 4096, 2048]⟩
abbrev S2x2048x7176 : Shape := ⟨3, ![2, 2048, 7176]⟩
abbrev S2x8 : Shape := ⟨2, ![2, 8]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x8 : Shape := ⟨3, ![4, 4096, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩

class Facts : Prop where
  slices_S2x2048x7176_S1x2048x7176_1_0_0 : S2x2048x7176.Slices ![1, 0, 0] S1x2048x7176
  shapeCasts_S1x2048x7176_S2048x7176 : S1x2048x7176.ShapeCasts S2048x7176
  slices_S4x4096x7176_S4x4096x8_0_0_3072 : S4x4096x7176.Slices ![0, 0, 3072] S4x4096x8
  slices_S2x8_S1x8_1_0 : S2x8.Slices ![1, 0] S1x8
  shapeCasts_S1x8_S8 : S1x8.ShapeCasts S8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S_S4x4096x8 : S_.BroadcastsInDim S4x4096x8 (![] : Fin 0 → Fin S4x4096x8.rank)
  dot_S4x4096x2048_S2048x7176_S4x4096x7176_2_0_01_1_n_n_wf : DotDims.WF S4x4096x2048 S2048x7176 S4x4096x7176 [2] [0] [0, 1] [1] [] []

variable [Facts]

def dot_S4x4096x2048_S2048x7176_S4x4096x7176_2_0_01_1_n_n : DotDims S4x4096x2048 S2048x7176 S4x4096x7176 where
  lhsContracting := [2]
  rhsContracting := [0]
  lhsNonContracting := [0, 1]
  rhsNonContracting := [1]
  lhsBatch := []
  rhsBatch := []
  wf := dot_S4x4096x2048_S2048x7176_S4x4096x7176_2_0_01_1_n_n_wf
def fn {F : FTy → Type} [FloatOps F] (main_arg0 : FVec F S4x4096x2048 .f32) (main_arg1 : FVec F S2x2048x7176 .f32) (main_arg2 : FVec F S2x8 .f32) : IVec S4x4096x8 1 :=
  let main_v0 : FVec F S1x2048x7176 .f32 := (extractStridedSlice S1x2048x7176 ![1, 0, 0] · slices_S2x2048x7176_S1x2048x7176_1_0_0) main_arg1
  let main_v1 : FVec F S2048x7176 .f32 := shapeCast S2048x7176 main_v0 shapeCasts_S1x2048x7176_S2048x7176
  let main_v2 : FVec F S4x4096x7176 .f32 := (fun l r => Host.dotGeneral dot_S4x4096x2048_S2048x7176_S4x4096x7176_2_0_01_1_n_n none l r) main_arg0 main_v1
  let main_v3 : FVec F S4x4096x8 .f32 := (extractStridedSlice S4x4096x8 ![0, 0, 3072] · slices_S4x4096x7176_S4x4096x8_0_0_3072) main_v2
  let main_v4 : FVec F S1x8 .f32 := (extractStridedSlice S1x8 ![1, 0] · slices_S2x8_S1x8_1_0) main_arg2
  let main_v5 : FVec F S8 .f32 := shapeCast S8 main_v4 shapeCasts_S1x8_S8
  let main_v6 : FVec F S1x1x8 .f32 := broadcastInDim S1x1x8 ![2] bcast_S8_S1x1x8_2 main_v5
  let main_v7 : FVec F S4x4096x8 .f32 := broadcastInDim S4x4096x8 ![0, 1, 2] bcast_S1x1x8_S4x4096x8_0_1_2 main_v6
  let main_v8 : FVec F S4x4096x8 .f32 := addf main_v3 main_v7
  let main_v9 : FVec F S4x4096x8 .f32 := Host.absf main_v8
  let main_cst : FVec F S_ .f32 := constant S_ .f32 0x7F800000#32
  let main_v10 : FVec F S4x4096x8 .f32 := broadcastInDim S4x4096x8 ![] bcast_S_S4x4096x8 main_cst
  let main_v11 : IVec S4x4096x8 1 := cmpf .olt main_v9 main_v10
  main_v11
-- ==== Pre_finite_scores.lean ====
abbrev S4x4096x2048 : Shape := ⟨3, ![4, 4096, 2048]⟩
abbrev S4x4096x1024 : Shape := ⟨3, ![4, 4096, 1024]⟩
abbrev S1024x16384 : Shape := ⟨2, ![1024, 16384]⟩
abbrev S4x4096x4096 : Shape := ⟨3, ![4, 4096, 4096]⟩
abbrev S_ : Shape := ⟨0, ![]⟩

class Facts : Prop where
  concatenates_S4x4096x2048_S4x4096x1024_S4x4096x1024_S4x4096x4096_d2 : Shape.Concatenates [S4x4096x2048, S4x4096x1024, S4x4096x1024] S4x4096x4096 2
  bcast_S_S4x4096x4096 : S_.BroadcastsInDim S4x4096x4096 (![] : Fin 0 → Fin S4x4096x4096.rank)

variable [Facts]

def fn {F : FTy → Type} [FloatOps F] (main_arg0 : FVec F S4x4096x2048 .bf16) (main_arg1 : FVec F S4x4096x1024 .bf16) (main_arg2 : FVec F S4x4096x1024 .bf16) (main_arg3 : FVec F S1024x16384 .bf16) : IVec S4x4096x4096 1 :=
  let main_v0 : FVec F S4x4096x4096 .bf16 := concatenate S4x4096x4096 2 [⟨S4x4096x2048, main_arg0⟩, ⟨S4x4096x1024, main_arg1⟩, ⟨S4x4096x1024, main_arg2⟩] concatenates_S4x4096x2048_S4x4096x1024_S4x4096x1024_S4x4096x4096_d2
  let main_v1 : FVec F S4x4096x4096 .bf16 := Host.absf main_v0
  let main_cst : FVec F S_ .bf16 := constant S_ .bf16 0x7F80#16
  let main_v2 : FVec F S4x4096x4096 .bf16 := broadcastInDim S4x4096x4096 ![] bcast_S_S4x4096x4096 main_cst
  let main_v3 : IVec S4x4096x4096 1 := cmpf .olt main_v1 main_v2
  main_v3
-- ==== Kernel.lean ====
abbrev S4x4096x2048 : Shape := ⟨3, ![4, 4096, 2048]⟩
abbrev S2x2048x7176 : Shape := ⟨3, ![2, 2048, 7176]⟩
abbrev S16384x2048 : Shape := ⟨2, ![16384, 2048]⟩
abbrev S2x7176x2048 : Shape := ⟨3, ![2, 7176, 2048]⟩
abbrev S_ : Shape := ⟨0, ![]⟩
abbrev S1x1024 : Shape := ⟨2, ![1, 1024]⟩
abbrev S1x2048 : Shape := ⟨2, ![1, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S16384x2048, .f32⟩
  | .hbm, ⟨3, _⟩ => ⟨S16384x2048, .bf16⟩
  | .hbm, ⟨4, _⟩ => ⟨S2x7176x2048, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x2048, .f32⟩
  | .hbm, ⟨10, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c3080_i32 : BitVec 32 := 3080#32
  let arg0 : BitVec 32 := BitVec.ofNat 32 (i 0).val
  let c1024_i32 : BitVec 32 := 1024#32
  let v0 : BitVec 32 := Scalar.muli arg0 c1024_i32
  let v1 : BitVec 32 := Scalar.addi c3080_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c3080_i32 : BitVec 32 := 3080#32
  let v1 : BitVec 32 := Scalar.addi c3080_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x4096x2048 : Shape := ⟨3, ![4, 4096, 2048]⟩
abbrev S2x2048x7176 : Shape := ⟨3, ![2, 2048, 7176]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x1024 : Shape := ⟨3, ![4, 4096, 1024]⟩
abbrev S_ : Shape := ⟨0, ![]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S1x2048x7176, .f32⟩
  | .hbm, ⟨3, _⟩ => ⟨S2048x7176, .f32⟩
  | .hbm, ⟨4, _⟩ => ⟨S4x4096x7176, .f32⟩
  | .hbm, ⟨5, _⟩ => ⟨S4x4096x1024, .f32⟩
  | .hbm, ⟨6, _⟩ => ⟨S_, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x2048, .f32⟩
  | .hbm, ⟨11, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Fox.lean ====
abbrev S4x4096x2048 : Shape := ⟨3, ![4, 4096, 2048]⟩
abbrev S4x4096x1024 : Shape := ⟨3, ![4, 4096, 1024]⟩
abbrev S1024x16384 : Shape := ⟨2, ![1024, 16384]⟩
abbrev S1x1024x128 : Shape := ⟨3, ![1, 1024, 128]⟩
abbrev S1x4096x128 : Shape := ⟨3, ![1, 4096, 128]⟩
abbrev S128x4096 : Shape := ⟨2, ![128, 4096]⟩
abbrev S512x256 : Shape := ⟨2, ![512, 256]⟩
abbrev S1x256x128 : Shape := ⟨3, ![1, 256, 128]⟩
abbrev S256x128 : Shape := ⟨2, ![256, 128]⟩
abbrev S256x256 : Shape := ⟨2, ![256, 256]⟩
abbrev S1x256 : Shape := ⟨2, ![1, 256]⟩
abbrev S144x256 : Shape := ⟨2, ![144, 256]⟩
abbrev S1x512x128 : Shape := ⟨3, ![1, 512, 128]⟩
abbrev S512x128 : Shape := ⟨2, ![512, 128]⟩
abbrev S128x512 : Shape := ⟨2, ![128, 512]⟩
abbrev S256 : Shape := ⟨1, ![256]⟩
abbrev S16x512 : Shape := ⟨2, ![16, 512]⟩
abbrev S144x512 : Shape := ⟨2, ![144, 512]⟩
abbrev S128x256 : Shape := ⟨2, ![128, 256]⟩
abbrev S16x256 : Shape := ⟨2, ![16, 256]⟩
abbrev S128x1024 : Shape := ⟨2, ![128, 1024]⟩
abbrev S1024x128 : Shape := ⟨2, ![1024, 128]⟩

abbrev nBuf : Space → Nat
  | .hbm => 5
  | .vmem => 20
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x4096x1024, .bf16⟩
  | .hbm, ⟨3, _⟩ => ⟨S1024x16384, .bf16⟩
  | .hbm, ⟨4, _⟩ => ⟨S4x4096x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S128x4096, .bf16⟩
  | .local _ .vmem, ⟨9, _⟩ => ⟨S128x4096, .bf16⟩
  | .local _ .vmem, ⟨10, _⟩ => ⟨S1x1024x128, .bf16⟩
  | .local _ .vmem, ⟨11, _⟩ => ⟨S1x1024x128, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_mult1 : BitVec 32 :=
  let c0_i32 : BitVec 32 := 0#32
  c0_i32
@[reducible] def k0_t1_loop (i : grid0.Coords) : Scf.Loop 32 :=
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_45 : BitVec 32 := 1#32
  ⟨c0_i32_43, v57, c1_i32_45⟩
def k0_mult2 (i : grid0.Coords) (k0_t1 : Fin (k0_t1_loop i).trips) : BitVec 32 :=
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let c1_i32_100 : BitVec 32 := 1#32
  let v241 : BitVec 32 := Scalar.addi v240 c1_i32_100
  let c512_i32_101 : BitVec 32 := 512#32
  let v242 : BitVec 32 := Scalar.muli v241 c512_i32_101
  v242
def k0_off1 (i : grid0.Coords) (k0_t1 : Fin (k0_t1_loop i).trips) (c1_i32_100 : BitVec 32) : Fin 3 → Nat :=
  let c0_102 : Index := 0#32
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let v241 : BitVec 32 := Scalar.addi v240 c1_i32_100
  let c512_i32_101 : BitVec 32 := 512#32
  let v242 : BitVec 32 := Scalar.muli v241 c512_i32_101
  let v243 : BitVec 32 := v242
  let v244 : Index := Scalar.indexCast v243
  let c0_103 : Index := 0#32
  ![0, v244.toNat, 0]
def k0_off2 (i : grid0.Coords) (k0_t1 : Fin (k0_t1_loop i).trips) (c1_i32_100 : BitVec 32) : Fin 2 → Nat :=
  let c0_106 : Index := 0#32
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let v241 : BitVec 32 := Scalar.addi v240 c1_i32_100
  let c512_i32_101 : BitVec 32 := 512#32
  let v242 : BitVec 32 := Scalar.muli v241 c512_i32_101
  let v243 : BitVec 32 := v242
  let v251 : Index := Scalar.indexCast v243
  ![0, v251.toNat]
def k0_mult3 (i : grid0.Coords) (k0_t1 : Fin (k0_t1_loop i).trips) : BitVec 32 :=
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let c2_i32_131 : BitVec 32 := 2#32
  let v309 : BitVec 32 := Scalar.addi v240 c2_i32_131
  let c512_i32_132 : BitVec 32 := 512#32
  let v310 : BitVec 32 := Scalar.muli v309 c512_i32_132
  v310
def k0_mult4 (i : grid0.Coords) (k0_t1 : Fin (k0_t1_loop i).trips) : BitVec 32 :=
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let c512_i32_150 : BitVec 32 := 512#32
  let v337 : BitVec 32 := Scalar.muli v240 c512_i32_150
  v337
def k0_off3 (i : grid0.Coords) (k0_t1 : Fin (k0_t1_loop i).trips) : Fin 3 → Nat :=
  let c0_151 : Index := 0#32
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let c512_i32_150 : BitVec 32 := 512#32
  let v337 : BitVec 32 := Scalar.muli v240 c512_i32_150
  let v338 : BitVec 32 := v337
  let v339 : Index := Scalar.indexCast v338
  let c0_152 : Index := 0#32
  ![0, v339.toNat, 0]
def k0_off4 (i : grid0.Coords) (k0_t1 : Fin (k0_t1_loop i).trips) : Fin 2 → Nat :=
  let c0_155 : Index := 0#32
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let c512_i32_150 : BitVec 32 := 512#32
  let v337 : BitVec 32 := Scalar.muli v240 c512_i32_150
  let v338 : BitVec 32 := v337
  let v346 : Index := Scalar.indexCast v338
  ![0, v346.toNat]
def k0_mult5 (i : grid0.Coords) (k0_t1 : Fin (k0_t1_loop i).trips) : BitVec 32 :=
  let c2_i32 : BitVec 32 := 2#32
  let c0_i32_43 : BitVec 32 := 0#32
  let c1_i32_45 : BitVec 32 := 1#32
  let arg17 : BitVec 32 := Scf.iv c0_i32_43 c1_i32_45 k0_t1
  let v240 : BitVec 32 := Scalar.muli c2_i32 arg17
  let c1_i32_176 : BitVec 32 := 1#32
  let v412 : BitVec 32 := Scalar.addi v240 c1_i32_176
  let c512_i32_177 : BitVec 32 := 512#32
  let v413 : BitVec 32 := Scalar.muli v412 c512_i32_177
  v413
@[reducible] def k0_t2_loop (i : grid0.Coords) : Scf.Loop 32 :=
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let v54 : BitVec 32 := Scalar.addi c0_i32_43 v53
  let c1_i32_46 : BitVec 32 := 1#32
  ⟨v57, v54, c1_i32_46⟩
def k0_mult6 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let c1_i32_100 : BitVec 32 := 1#32
  let v241 : BitVec 32 := Scalar.addi v240 c1_i32_100
  let c512_i32_101 : BitVec 32 := 512#32
  let v242 : BitVec 32 := Scalar.muli v241 c512_i32_101
  v242
def k0_off5 (i : grid0.Coords) (k0_t2 : Fin (k0_t2_loop i).trips) (c1_i32_100 : BitVec 32) : Fin 3 → Nat :=
  let c0_102 : Index := 0#32
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let v241 : BitVec 32 := Scalar.addi v240 c1_i32_100
  let c512_i32_101 : BitVec 32 := 512#32
  let v242 : BitVec 32 := Scalar.muli v241 c512_i32_101
  let v243 : BitVec 32 := v242
  let v244 : Index := Scalar.indexCast v243
  let c0_103 : Index := 0#32
  ![0, v244.toNat, 0]
def k0_off6 (i : grid0.Coords) (k0_t2 : Fin (k0_t2_loop i).trips) (c1_i32_100 : BitVec 32) : Fin 2 → Nat :=
  let c0_106 : Index := 0#32
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let v241 : BitVec 32 := Scalar.addi v240 c1_i32_100
  let c512_i32_101 : BitVec 32 := 512#32
  let v242 : BitVec 32 := Scalar.muli v241 c512_i32_101
  let v243 : BitVec 32 := v242
  let v251 : Index := Scalar.indexCast v243
  ![0, v251.toNat]
def k0_mult7 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let c2_i32_131 : BitVec 32 := 2#32
  let v309 : BitVec 32 := Scalar.addi v240 c2_i32_131
  let c512_i32_132 : BitVec 32 := 512#32
  let v310 : BitVec 32 := Scalar.muli v309 c512_i32_132
  v310
def k0_mult8 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let c512_i32_150 : BitVec 32 := 512#32
  let v337 : BitVec 32 := Scalar.muli v240 c512_i32_150
  v337
def k0_off7 (i : grid0.Coords) (k0_t2 : Fin (k0_t2_loop i).trips) : Fin 3 → Nat :=
  let c0_151 : Index := 0#32
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let c512_i32_150 : BitVec 32 := 512#32
  let v337 : BitVec 32 := Scalar.muli v240 c512_i32_150
  let v338 : BitVec 32 := v337
  let v339 : Index := Scalar.indexCast v338
  let c0_152 : Index := 0#32
  ![0, v339.toNat, 0]
def k0_off8 (i : grid0.Coords) (k0_t2 : Fin (k0_t2_loop i).trips) : Fin 2 → Nat :=
  let c0_155 : Index := 0#32
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let c512_i32_150 : BitVec 32 := 512#32
  let v337 : BitVec 32 := Scalar.muli v240 c512_i32_150
  let v338 : BitVec 32 := v337
  let v346 : Index := Scalar.indexCast v338
  ![0, v346.toNat]
def k0_mult9 (i : grid0.Coords) (k0_t2 : Fin (k0_t2_loop i).trips) : BitVec 32 :=
  let c2_i32 : BitVec 32 := 2#32
  let c0_i32_43 : BitVec 32 := 0#32
  let arg2 : BitVec 32 := BitVec.ofNat 32 (i 2).val
  let c1_i32 : BitVec 32 := 1#32
  let v52 : BitVec 32 := Scalar.muli arg2 c1_i32
  let v53 : BitVec 32 := Scalar.subi v52 c0_i32_43
  let c1_i32_44 : BitVec 32 := 1#32
  let v55 : BitVec 32 := Scalar.divsi v53 c1_i32_44
  let v56 : BitVec 32 := Scalar.muli v55 c1_i32_44
  let v57 : BitVec 32 := Scalar.addi c0_i32_43 v56
  let c1_i32_46 : BitVec 32 := 1#32
  let arg17 : BitVec 32 := Scf.iv v57 c1_i32_46 k0_t2
  let v240 : BitVec 32 := Scalar.muli c2_i32 arg17
  let c1_i32_176 : BitVec 32 := 1#32
  let v412 : BitVec 32 := Scalar.addi v240 c1_i32_176
  let c512_i32_177 : BitVec 32 := 512#32
  let v413 : BitVec 32 := Scalar.muli v412 c512_i32_177
  v413
def k0_mult10 (i : grid0.Coords) : BitVec 32 :=
  let arg2 : BitVec 32 := BitVec.ofNat 32 (i 2).val
  let c1024_i32 : BitVec 32 := 1024#32
  let v60 : BitVec 32 := Scalar.muli arg2 c1024_i32
  let c512_i32 : BitVec 32 := 512#32
  let v61 : BitVec 32 := Scalar.addi v60 c512_i32
  v61
def k0_off9 (i : grid0.Coords) : Fin 3 → Nat :=
  let c0_47 : Index := 0#32
  let arg2 : BitVec 32 := BitVec.ofNat 32 (i 2).val
  let c1024_i32 : BitVec 32 := 1024#32
  let v60 : BitVec 32 := Scalar.muli arg2 c1024_i32
  let c512_i32 : BitVec 32 := 512#32
  let v61 : BitVec 32 := Scalar.addi v60 c512_i32
  let v62 : BitVec 32 := v61
  let v63 : Index := Scalar.indexCast v62
  let c0_48 : Index := 0#32
  ![0, v63.toNat, 0]
def k0_off10 (i : grid0.Coords) : Fin 2 → Nat :=
  let c0_51 : Index := 0#32
  let arg2 : BitVec 32 := BitVec.ofNat 32 (i 2).val
  let c1024_i32 : BitVec 32 := 1024#32
  let v60 : BitVec 32 := Scalar.muli arg2 c1024_i32
  let c512_i32 : BitVec 32 := 512#32
  let v61 : BitVec 32 := Scalar.addi v60 c512_i32
  let v62 : BitVec 32 := v61
  let v70 : Index := Scalar.indexCast v62
  ![0, v70.toNat]
def k0_mult11 (i : grid0.Coords) : BitVec 32 :=
  let arg2 : BitVec 32 := BitVec.ofNat 32 (i 2).val
  let c1024_i32 : BitVec 32 := 1024#32
  let v60 : BitVec 32 := Scalar.muli arg2 c1024_i32
  let c512_i32_56 : BitVec 32 := 512#32
  let v82 : BitVec 32 := Scalar.addi v60 c512_i32_56
  v82
def k0_off11 (i : grid0.Coords) : Fin 3 → Nat :=
  let c0_57 : Index := 0#32
  let arg2 : BitVec 32 := BitVec.ofNat 32 (i 2).val
  let c1024_i32 : BitVec 32 := 1024#32
  let v60 : BitVec 32 := Scalar.muli arg2 c1024_i32
  let c512_i32_56 : BitVec 32 := 512#32
  let v82 : BitVec 32 := Scalar.addi v60 c512_i32_56
  let v83 : BitVec 32 := v82
  let v84 : Index := Scalar.indexCast v83
  let c0_58 : Index := 0#32
  ![0, v84.toNat, 0]
def k0_off12 (i : grid0.Coords) : Fin 2 → Nat :=
  let c0_61 : Index := 0#32
  let arg2 : BitVec 32 := BitVec.ofNat 32 (i 2).val
  let c1024_i32 : BitVec 32 := 1024#32
  let v60 : BitVec 32 := Scalar.muli arg2 c1024_i32
  let c512_i32_56 : BitVec 32 := 512#32
  let v82 : BitVec 32 := Scalar.addi v60 c512_i32_56
  let v83 : BitVec 32 := v82
  let v91 : Index := Scalar.indexCast v83
  ![0, v91.toNat]
def k0_mult12 (i : grid0.Coords) : BitVec 32 :=
  let arg2 : BitVec 32 := BitVec.ofNat 32 (i 2).val
  let c1024_i32 : BitVec 32 := 1024#32
  let v60 : BitVec 32 := Scalar.muli arg2 c1024_i32
  v60
def k0_off13 (i : grid0.Coords) : Fin 2 → Nat :=
  let c0_65 : Index := 0#32
  let arg2 : BitVec 32 := BitVec.ofNat 32 (i 2).val
  let c1024_i32 : BitVec 32 := 1024#32
  let v60 : BitVec 32 := Scalar.muli arg2 c1024_i32
  let v103 : BitVec 32 := v60
  let v104 : Index := Scalar.indexCast v103
  ![0, v104.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S4x4096x2048 : Shape := ⟨3, ![4, 4096, 2048]⟩
abbrev S4x4096x1024 : Shape := ⟨3, ![4, 4096, 1024]⟩
abbrev S1024x16384 : Shape := ⟨2, ![1024, 16384]⟩
abbrev S4x4096x8x128 : Shape := ⟨4, ![4, 4096, 8, 128]⟩
abbrev S4x8x4096x128 : Shape := ⟨4, ![4, 8, 4096, 128]⟩
abbrev S8x128x4x4096 : Shape := ⟨4, ![8, 128, 4, 4096]⟩
abbrev S4x8x4096x4096 : Shape := ⟨4, ![4, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x4096 : Shape := ⟨3, ![4, 8, 4096]⟩
abbrev S4x8x4096x1 : Shape := ⟨4, ![4, 8, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x4096x1024, .bf16⟩
  | .hbm, ⟨3, _⟩ => ⟨S1024x16384, .bf16⟩
  | .hbm, ⟨4, _⟩ => ⟨S4x4096x1024, .bf16⟩
  | .hbm, ⟨5, _⟩ => ⟨S4x4096x8x128, .bf16⟩
  | .hbm, ⟨6, _⟩ => ⟨S4x8x4096x128, .bf16⟩
  | .hbm, ⟨7, _⟩ => ⟨S4x4096x1024, .bf16⟩
  | .hbm, ⟨8, _⟩ => ⟨S4x4096x8x128, .bf16⟩
  | .hbm, ⟨9, _⟩ => ⟨S4x8x4096x128, .bf16⟩
  | .hbm, ⟨10, _⟩ => ⟨S4x4096x8x128, .bf16⟩
  | .hbm, ⟨11, _⟩ => ⟨S4x8x4096x128, .bf16⟩
  | .hbm, ⟨12, _⟩ => ⟨S4x4096x8x128, .bf16⟩
  | .hbm, ⟨13, _⟩ => ⟨S4x8x4096x128, .bf16⟩
  | .hbm, ⟨14, _⟩ => ⟨S8x128x4x4096, .bf16⟩
  | .hbm, ⟨15, _⟩ => ⟨S4x8x4096x128, .bf16⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x8x4096x4096, .f32⟩
  | .hbm, ⟨25, _⟩ => ⟨S_, .f32⟩
  | .hbm, ⟨26, _⟩ => ⟨S_, .f32⟩
  | .hbm, ⟨27, _⟩ => ⟨S4x8x4096x4096, .i1⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096, .f32⟩
  | .hbm, ⟨42, _⟩ => ⟨S4x8x4096x1, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .bf16⟩
  | .hbm, ⟨46, _⟩ => ⟨S4x8x4096x128, .f32⟩
  | .hbm, ⟨47, _⟩ => ⟨S4x4096x8x128, .f32⟩
  | .hbm, ⟨48, _⟩ => ⟨S4x4096x1024, .f32⟩
  | .hbm, ⟨49, _⟩ => ⟨S4x4096x1024, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Up.lean ====
abbrev S4x4096x2048 : Shape := ⟨3, ![4, 4096, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S16384x2048 : Shape := ⟨2, ![16384, 2048]⟩
abbrev S2x1x11264 : Shape := ⟨3, ![2, 1, 11264]⟩
abbrev S16384x5632 : Shape := ⟨2, ![16384, 5632]⟩
abbrev S2048x2048 : Shape := ⟨2, ![2048, 2048]⟩
abbrev S1x2048x512 : Shape := ⟨3, ![1, 2048, 512]⟩
abbrev S1x3x512 : Shape := ⟨3, ![1, 3, 512]⟩
abbrev S1x1x512 : Shape := ⟨3, ![1, 1, 512]⟩
abbrev S2048x512 : Shape := ⟨2, ![2048, 512]⟩
abbrev S2x2048x512 : Shape := ⟨3, ![2, 2048, 512]⟩
abbrev S2x8x512 : Shape := ⟨3, ![2, 8, 512]⟩
abbrev S3x512 : Shape := ⟨2, ![3, 512]⟩
abbrev S1x512 : Shape := ⟨2, ![1, 512]⟩
abbrev S1x8x512 : Shape := ⟨3, ![1, 8, 512]⟩
abbrev S8x512 : Shape := ⟨2, ![8, 512]⟩
abbrev S256x2048 : Shape := ⟨2, ![256, 2048]⟩
abbrev S256x512 : Shape := ⟨2, ![256, 512]⟩
abbrev S16x512 : Shape := ⟨2, ![16, 512]⟩
abbrev S248x512 : Shape := ⟨2, ![248, 512]⟩

abbrev nBuf : Space → Nat
  | .hbm => 8
  | .vmem => 18
  | .smem => 0
  | _ => 0

abbrev bufTy : (tb : Table) → Fin (tcTables nBuf tb) → BufTy
  | .hbm, ⟨0, _⟩ => ⟨S4x4096x2048, .f32⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S16384x2048, .f32⟩
  | .hbm, ⟨5, _⟩ => ⟨S16384x2048, .bf16⟩
  | .hbm, ⟨6, _⟩ => ⟨S2x1x11264, .f32⟩
  | .hbm, ⟨7, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x3x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S2048x512, .bf16⟩
  | .local _ .vmem, ⟨15, _⟩ => ⟨S2048x512, .bf16⟩
  | .local _ .vmem, ⟨16, _⟩ => ⟨S2x2048x512, .bf16⟩
  | .local _ .vmem, ⟨17, _⟩ => ⟨S2x8x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S4x4096x2048 : Shape := ⟨3, ![4, 4096, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S_ : Shape := ⟨0, ![]⟩
abbrev S4x4098x11264 : Shape := ⟨3, ![4, 4098, 11264]⟩
abbrev S1x1x11264 : Shape := ⟨3, ![1, 1, 11264]⟩
abbrev S11264 : Shape := ⟨1, ![11264]⟩
abbrev S1x11264 : Shape := ⟨2, ![1, 11264]⟩
abbrev S4x4096x5632 : Shape := ⟨3, ![4, 4096, 5632]⟩
abbrev S16384x5632 : Shape := ⟨2, ![16384, 5632]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x11264, .f32⟩
  | .hbm, ⟨2, _⟩ => ⟨S2x3x11264, .f32⟩
  | .hbm, ⟨3, _⟩ => ⟨S2x11264, .f32⟩
  | .hbm, ⟨4, _⟩ => ⟨S1x2048x11264, .f32⟩
  | .hbm, ⟨5, _⟩ => ⟨S2048x11264, .f32⟩
  | .hbm, ⟨6, _⟩ => ⟨S4x4096x11264, .f32⟩
  | .hbm, ⟨7, _⟩ => ⟨S_, .i32⟩
  | .hbm, ⟨8, _⟩ => ⟨S_, .f32⟩
  | .hbm, ⟨9, _⟩ => ⟨S4x4098x11264, .f32⟩
  | .hbm, ⟨10, _⟩ => ⟨S1x1x11264, .f32⟩
  | .hbm, ⟨11, _⟩ => ⟨S11264, .f32⟩
  | .hbm, ⟨12, _⟩ => ⟨S4x4096x11264, .f32⟩
  | .hbm, ⟨13, _⟩ => ⟨S1x1x11264, .f32⟩
  | .hbm, ⟨14, _⟩ => ⟨S4x4096x11264, .f32⟩
  | .hbm, ⟨15, _⟩ => ⟨S4x4096x11264, .f32⟩
  | .hbm, ⟨16, _⟩ => ⟨S_, .f32⟩
  | .hbm, ⟨17, _⟩ => ⟨S4x4096x11264, .f32⟩
  | .hbm, ⟨18, _⟩ => ⟨S4x4096x11264, .f32⟩
  | .hbm, ⟨19, _⟩ => ⟨S1x1x11264, .f32⟩
  | .hbm, ⟨20, _⟩ => ⟨S11264, .f32⟩
  | .hbm, ⟨21, _⟩ => ⟨S4x4096x11264, .f32⟩
  | .hbm, ⟨22, _⟩ => ⟨S1x1x11264, .f32⟩
  | .hbm, ⟨23, _⟩ => ⟨S4x4096x11264, .f32⟩
  | .hbm, ⟨24, _⟩ => ⟨S4x4096x11264, .f32⟩
  | .hbm, ⟨25, _⟩ => ⟨S4x4096x11264, .f32⟩
  | .hbm, ⟨26, _⟩ => ⟨S1x1x11264, .f32⟩
  | .hbm, ⟨27, _⟩ => ⟨S11264, .f32⟩
  | .hbm, ⟨28, _⟩ => ⟨S4x4096x11264, .f32⟩
  | .hbm, ⟨29, _⟩ => ⟨S1x1x11264, .f32⟩
  | .hbm, ⟨30, _⟩ => ⟨S4x4096x11264, .f32⟩
  | .hbm, ⟨31, _⟩ => ⟨S4x4096x11264, .f32⟩
  | .hbm, ⟨32, _⟩ => ⟨S4x4096x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S4x4096x11264, .f32⟩
  | .hbm, ⟨37, _⟩ => ⟨S4x4096x11264, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S_, .f32⟩
  | .hbm, ⟨43, _⟩ => ⟨S4x4096x5632, .f32⟩
  | .hbm, ⟨44, _⟩ => ⟨S4x4096x5632, .f32⟩
  | .hbm, ⟨45, _⟩ => ⟨S_, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S16384x5632, .f32⟩
  | .hbm, ⟨51, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S4x4096x2048 : Shape := ⟨3, ![4, 4096, 2048]⟩
abbrev S2x2048 : Shape := ⟨2, ![2, 2048]⟩
abbrev S16384x2048 : Shape := ⟨2, ![16384, 2048]⟩
abbrev S2x1x2048 : Shape := ⟨3, ![2, 1, 2048]⟩
abbrev S256x5632 : Shape := ⟨2, ![256, 5632]⟩
abbrev S256x2048 : Shape := ⟨2, ![256, 2048]⟩
abbrev S1x1x2048 : Shape := ⟨3, ![1, 1, 2048]⟩
abbrev S128x5632 : Shape := ⟨2, ![128, 5632]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S4x4096x2048, .f32⟩
  | .hbm, ⟨3, _⟩ => ⟨S2x2048, .f32⟩
  | .hbm, ⟨4, _⟩ => ⟨S2x2048, .f32⟩
  | .hbm, ⟨5, _⟩ => ⟨S16384x2048, .f32⟩
  | .hbm, ⟨6, _⟩ => ⟨S2x1x2048, .f32⟩
  | .hbm, ⟨7, _⟩ => ⟨S2x1x2048, .f32⟩
  | .hbm, ⟨8, _⟩ => ⟨S16384x2048, .f32⟩
  | .hbm, ⟨9, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x5632 : Shape := ⟨2, ![16384, 5632]⟩
abbrev S5632x2048 : Shape := ⟨2, ![5632, 2048]⟩
abbrev S4x4096x2048 : Shape := ⟨3, ![4, 4096, 2048]⟩
abbrev S2x2048 : Shape := ⟨2, ![2, 2048]⟩
abbrev S16384x2048 : Shape := ⟨2, ![16384, 2048]⟩
abbrev S_ : Shape := ⟨0, ![]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .bf16⟩
  | .hbm, ⟨2, _⟩ => ⟨S4x4096x2048, .f32⟩
  | .hbm, ⟨3, _⟩ => ⟨S2x2048, .f32⟩
  | .hbm, ⟨4, _⟩ => ⟨S2x2048, .f32⟩
  | .hbm, ⟨5, _⟩ => ⟨S16384x2048, .f32⟩
  | .hbm, ⟨6, _⟩ => ⟨S4x4096x2048, .f32⟩
  | .hbm, ⟨7, _⟩ => ⟨S_, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S1x1x2048, .f32⟩
  | .hbm, ⟨42, _⟩ => ⟨S4x4096x2048, .f32⟩
  | .hbm, ⟨43, _⟩ => ⟨S4x4096x2048, .f32⟩
  | .hbm, ⟨44, _⟩ => ⟨S16384x2048, .f32⟩
  | .hbm, ⟨45, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Mix.lean ====
abbrev S4x4096x1024 : Shape := ⟨3, ![4, 4096, 1024]⟩
abbrev S2x2048x2048 : Shape := ⟨3, ![2, 2048, 2048]⟩
abbrev S4x4096x2048 : Shape := ⟨3, ![4, 4096, 2048]⟩
abbrev S2x2048 : Shape := ⟨2, ![2, 2048]⟩
abbrev S16384x1024 : Shape := ⟨2, ![16384, 1024]⟩
abbrev S16384x2048 : Shape := ⟨2, ![16384, 2048]⟩
abbrev S2x1x2048 : Shape := ⟨3, ![2, 1, 2048]⟩
abbrev S512x1024 : Shape := ⟨2, ![512, 1024]⟩
abbrev S1x1024x2048 : Shape := ⟨3, ![1, 1024, 2048]⟩
abbrev S512x2048 : Shape := ⟨2, ![512, 2048]⟩
abbrev S1x1x2048 : Shape := ⟨3, ![1, 1, 2048]⟩
abbrev S2x1024x2048 : Shape := ⟨3, ![2, 1024, 2048]⟩
abbrev S1024x2048 : Shape := ⟨2, ![1024, 2048]⟩
abbrev S128x1024 : Shape := ⟨2, ![128, 1024]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S2x2048x2048, .f32⟩
  | .hbm, ⟨3, _⟩ => ⟨S4x4096x2048, .f32⟩
  | .hbm, ⟨4, _⟩ => ⟨S2x2048, .f32⟩
  | .hbm, ⟨5, _⟩ => ⟨S2x2048, .f32⟩
  | .hbm, ⟨6, _⟩ => ⟨S16384x1024, .bf16⟩
  | .hbm, ⟨7, _⟩ => ⟨S16384x1024, .bf16⟩
  | .hbm, ⟨8, _⟩ => ⟨S16384x2048, .f32⟩
  | .hbm, ⟨9, _⟩ => ⟨S2x1x2048, .f32⟩
  | .hbm, ⟨10, _⟩ => ⟨S2x1x2048, .f32⟩
  | .hbm, ⟨11, _⟩ => ⟨S16384x2048, .f32⟩
  | .hbm, ⟨12, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .f32⟩
  | .local _ .vmem, ⟨5, _⟩ => ⟨S1x1024x2048, .f32⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S2x1024x2048, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixRefIdeal.lean ====
abbrev S4x4096x1024 : Shape := ⟨3, ![4, 4096, 1024]⟩
abbrev S2x2048x2048 : Shape := ⟨3, ![2, 2048, 2048]⟩
abbrev S4x4096x2048 : Shape := ⟨3, ![4, 4096, 2048]⟩
abbrev S2x2048 : Shape := ⟨2, ![2, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S2x2048x2048, .f32⟩
  | .hbm, ⟨3, _⟩ => ⟨S4x4096x2048, .f32⟩
  | .hbm, ⟨4, _⟩ => ⟨S2x2048, .f32⟩
  | .hbm, ⟨5, _⟩ => ⟨S2x2048, .f32⟩
  | .hbm, ⟨6, _⟩ => ⟨S4x4096x2048, .bf16⟩
  | .hbm, ⟨7, _⟩ => ⟨S4x4096x2048, .f32⟩
  | .hbm, ⟨8, _⟩ => ⟨S1x2048x2048, .f32⟩
  | .hbm, ⟨9, _⟩ => ⟨S2048x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S16384x2048, .f32⟩
  | .hbm, ⟨49, _⟩ => ⟨S16384x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Xq.lean ====
abbrev S4x4096x2048 : Shape := ⟨3, ![4, 4096, 2048]⟩
abbrev S2x2048x2048 : Shape := ⟨3, ![2, 2048, 2048]⟩
abbrev S_ : Shape := ⟨0, ![]⟩
abbrev S1x2048 : Shape := ⟨2, ![1, 2048]⟩
abbrev S16384x2048 : Shape := ⟨2, ![16384, 2048]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2x2048x2048, .f32⟩
  | .hbm, ⟨2, _⟩ => ⟨S_, .f32⟩
  | .hbm, ⟨3, _⟩ => ⟨S1x2048, .f32⟩
  | .hbm, ⟨4, _⟩ => ⟨S16384x2048, .f32⟩
  | .hbm, ⟨5, _⟩ => ⟨S16384x2048, .bf16⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XqRefIdeal.lean ====
abbrev S4x4096x2048 : Shape := ⟨3, ![4, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S_ : Shape := ⟨0, ![]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S4x4096x2048, .f32⟩
  | .hbm, ⟨5, _⟩ => ⟨S_, .f32⟩
  | .hbm, ⟨6, _⟩ => ⟨S4x4096x2048, .f32⟩
  | .hbm, ⟨7, _⟩ => ⟨S4x4096x2048, .f32⟩
  | .hbm, ⟨8, _⟩ => ⟨S16384x2048, .f32⟩
  | .hbm, ⟨9, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Cross.lean ====
abbrev S4x4096x2048 : Shape := ⟨3, ![4, 4096, 2048]⟩
abbrev S4x256x2048 : Shape := ⟨3, ![4, 256, 2048]⟩
abbrev S2x2048x2048 : Shape := ⟨3, ![2, 2048, 2048]⟩
abbrev S2x2048 : Shape := ⟨2, ![2, 2048]⟩
abbrev S16384x2048 : Shape := ⟨2, ![16384, 2048]⟩
abbrev S1024x2048 : Shape := ⟨2, ![1024, 2048]⟩
abbrev S2x1x2048 : Shape := ⟨3, ![2, 1, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S128x2048 : Shape := ⟨2, ![128, 2048]⟩
abbrev S1x2048 : Shape := ⟨2, ![1, 2048]⟩
abbrev S128 : Shape := ⟨1, ![128]⟩
abbrev S128x1 : Shape := ⟨2, ![128, 1]⟩

abbrev nBuf : Space → Nat
  | .hbm => 15
  | .vmem => 16
  | .smem => 0
  | _ => 0

abbrev bufTy : (tb : Table) → Fin (tcTables nBuf tb) → BufTy
  | .hbm, ⟨0, _⟩ => ⟨S4x4096x2048, .bf16⟩
  | .hbm, ⟨1, _⟩ => ⟨S4x256x2048, .bf16⟩
  | .hbm, ⟨2, _⟩ => ⟨S4x256x2048, .bf16⟩
  | .hbm, ⟨3, _⟩ => ⟨S2x2048x2048, .f32⟩
  | .hbm, ⟨4, _⟩ => ⟨S4x4096x2048, .f32⟩
  | .hbm, ⟨5, _⟩ => ⟨S2x2048, .f32⟩
  | .hbm, ⟨6, _⟩ => ⟨S2x2048, .f32⟩
  | .hbm, ⟨7, _⟩ => ⟨S16384x2048, .bf16⟩
  | .hbm, ⟨8, _⟩ => ⟨S1024x2048, .bf16⟩
  | .hbm, ⟨9, _⟩ => ⟨S1024x2048, .bf16⟩
  | .hbm, ⟨10, _⟩ => ⟨S16384x2048, .f32⟩
  | .hbm, ⟨11, _⟩ => ⟨S2x1x2048, .f32⟩
  | .hbm, ⟨12, _⟩ => ⟨S2x1x2048, .f32⟩
  | .hbm, ⟨13, _⟩ => ⟨S16384x2048, .f32⟩
  | .hbm, ⟨14, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048x2048, .f32⟩
  | .local _ .vmem, ⟨7, _⟩ => ⟨S256x2048, .f32⟩
  | .local _ .vmem, ⟨8, _⟩ => ⟨S256x2048, .f32⟩
  | .local _ .vmem, ⟨9, _⟩ => ⟨S1x1x2048, .f32⟩
  | .local _ .vmem, ⟨10, _⟩ => ⟨S1x1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S2048x2048, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CrossRefIdeal.lean ====
abbrev S4x4096x2048 : Shape := ⟨3, ![4, 4096, 2048]⟩
abbrev S4x256x2048 : Shape := ⟨3, ![4, 256, 2048]⟩
abbrev S2x2048x2048 : Shape := ⟨3, ![2, 2048, 2048]⟩
abbrev S2x2048 : Shape := ⟨2, ![2, 2048]⟩
abbrev S4x4096x4x512 : Shape := ⟨4, ![4, 4096, 4, 512]⟩
abbrev S4x256x4x512 : Shape := ⟨4, ![4, 256, 4, 512]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x512x4096 : Shape := ⟨4, ![4, 4, 512, 4096]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x256x2048, .bf16⟩
  | .hbm, ⟨2, _⟩ => ⟨S4x256x2048, .bf16⟩
  | .hbm, ⟨3, _⟩ => ⟨S2x2048x2048, .f32⟩
  | .hbm, ⟨4, _⟩ => ⟨S4x4096x2048, .f32⟩
  | .hbm, ⟨5, _⟩ => ⟨S2x2048, .f32⟩
  | .hbm, ⟨6, _⟩ => ⟨S2x2048, .f32⟩
  | .hbm, ⟨7, _⟩ => ⟨S4x4096x4x512, .bf16⟩
  | .hbm, ⟨8, _⟩ => ⟨S4x256x4x512, .bf16⟩
  | .hbm, ⟨9, _⟩ => ⟨S4x4x4096x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4x4096, .f32⟩
  | .hbm, ⟨14, _⟩ => ⟨S4x4x4096x1, .f32⟩
  | .hbm, ⟨15, _⟩ => ⟨S4x4x4096x256, .f32⟩
  | .hbm, ⟨16, _⟩ => ⟨S4x4x4096x256, .f32⟩
  | .hbm, ⟨17, _⟩ => ⟨S4x4x4096x256, .f32⟩
  | .hbm, ⟨18, _⟩ => ⟨S4x4x4096x256, .f32⟩
  | .hbm, ⟨19, _⟩ => ⟨S4x4x4096x256, .f32⟩
  | .hbm, ⟨20, _⟩ => ⟨S_, .f32⟩
  | .hbm, ⟨21, _⟩ => ⟨S4x4x4096, .f32⟩
  | .hbm, ⟨22, _⟩ => ⟨S4x4x4096x1, .f32⟩
  | .hbm, ⟨23, _⟩ => ⟨S4x4x4096x256, .f32⟩
  | .hbm, ⟨24, _⟩ => ⟨S4x4x4096x256, .f32⟩
  | .hbm, ⟨25, _⟩ => ⟨S4x256x4x512, .bf16⟩
  | .hbm, ⟨26, _⟩ => ⟨S4x256x4x512, .f32⟩
  | .hbm, ⟨27, _⟩ => ⟨S4x4x512x4096, .f32⟩
  | .hbm, ⟨28, _⟩ => ⟨S4x4096x4x512, .f32⟩
  | .hbm, ⟨29, _⟩ => ⟨S4x4096x2048, .f32⟩
  | .hbm, ⟨30, _⟩ => ⟨S_, .f32⟩
  | .hbm, ⟨31, _⟩ => ⟨S4x4096x2048, .f32⟩
  | .hbm, ⟨32, _⟩ => ⟨S4x4096x2048, .f32⟩
  | .hbm, ⟨33, _⟩ => ⟨S1x2048x2048, .f32⟩
  | .hbm, ⟨34, _⟩ => ⟨S2048x2048, .f32⟩
  | .hbm, ⟨35, _⟩ => ⟨S4x4096x2048, .f32⟩
  | .hbm, ⟨36, _⟩ => ⟨S4x4096x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S2048, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x2048, .f32⟩
  | .hbm, ⟨63, _⟩ => ⟨S4x4096x2048, .f32⟩
  | .hbm, ⟨64, _⟩ => ⟨S1x1x2048, .f32⟩
  | .hbm, ⟨65, _⟩ => ⟨S4x4096x2048, .f32⟩
  | .hbm, ⟨66, _⟩ => ⟨S4x4096x2048, .f32⟩
  | .hbm, ⟨67, _⟩ => ⟨S1x1x2048, .f32⟩
  | .hbm, ⟨68, _⟩ => ⟨S4x4096x2048, .f32⟩
  | .hbm, ⟨69, _⟩ => ⟨S4x4096x2048, .f32⟩
  | .hbm, ⟨70, _⟩ => ⟨S16384x2048, .f32⟩
  | .hbm, ⟨71, _⟩ => ⟨S16384x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Qk.lean ====
abbrev S4x4096x2048 : Shape := ⟨3, ![4, 4096, 2048]⟩
abbrev S2x2048x7176 : Shape := ⟨3, ![2, 2048, 7176]⟩
abbrev S_ : Shape := ⟨0, ![]⟩
abbrev S1x1024 : Shape := ⟨2, ![1, 1024]⟩
abbrev S1x2048 : Shape := ⟨2, ![1, 2048]⟩
abbrev S16384x2048 : Shape := ⟨2, ![16384, 2048]⟩
abbrev S2x7176x2048 : Shape := ⟨3, ![2, 7176, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S_, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x2048, .f32⟩
  | .hbm, ⟨7, _⟩ => ⟨S16384x2048, .f32⟩
  | .hbm, ⟨8, _⟩ => ⟨S16384x2048, .bf16⟩
  | .hbm, ⟨9, _⟩ => ⟨S2x7176x2048, .f32⟩
  | .hbm, ⟨10, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c1_i32 : BitVec 32 := 1#32
  let c0_i32_0 : BitVec 32 := 0#32
  let c0_i32_1 : BitVec 32 := 0#32
  ![c1_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkRefIdeal.lean ====
abbrev S4x4096x2048 : Shape := ⟨3, ![4, 4096, 2048]⟩
abbrev S2x2048x7176 : Shape := ⟨3, ![2, 2048, 7176]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x1024 : Shape := ⟨3, ![4, 4096, 1024]⟩
abbrev S_ : Shape := ⟨0, ![]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S1x2048x7176, .f32⟩
  | .hbm, ⟨3, _⟩ => ⟨S2048x7176, .f32⟩
  | .hbm, ⟨4, _⟩ => ⟨S4x4096x7176, .f32⟩
  | .hbm, ⟨5, _⟩ => ⟨S4x4096x1024, .f32⟩
  | .hbm, ⟨6, _⟩ => ⟨S_, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x2048, .f32⟩
  | .hbm, ⟨11, _⟩ => ⟨S16384x2048, .f32⟩
  | .hbm, ⟨12, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Vt.lean ====
abbrev S4x4096x2048 : Shape := ⟨3, ![4, 4096, 2048]⟩
abbrev S2x2048x7176 : Shape := ⟨3, ![2, 2048, 7176]⟩
abbrev S_ : Shape := ⟨0, ![]⟩
abbrev S1x1024 : Shape := ⟨2, ![1, 1024]⟩
abbrev S16384x2048 : Shape := ⟨2, ![16384, 2048]⟩
abbrev S2x7176x2048 : Shape := ⟨3, ![2, 7176, 2048]⟩
abbrev S1024x16384 : Shape := ⟨2, ![1024, 16384]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S_, .f32⟩
  | .hbm, ⟨3, _⟩ => ⟨S1x1024, .f32⟩
  | .hbm, ⟨4, _⟩ => ⟨S16384x2048, .f32⟩
  | .hbm, ⟨5, _⟩ => ⟨S16384x2048, .bf16⟩
  | .hbm, ⟨6, _⟩ => ⟨S2x7176x2048, .f32⟩
  | .hbm, ⟨7, _⟩ => ⟨S1024x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c2048_i32 : BitVec 32 := 2048#32
  let arg0 : BitVec 32 := BitVec.ofNat 32 (i 0).val
  let c1024_i32 : BitVec 32 := 1024#32
  let v0 : BitVec 32 := Scalar.muli arg0 c1024_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.addi c2048_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== VtRefIdeal.lean ====
abbrev S4x4096x2048 : Shape := ⟨3, ![4, 4096, 2048]⟩
abbrev S2x2048x7176 : Shape := ⟨3, ![2, 2048, 7176]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x1024 : Shape := ⟨3, ![4, 4096, 1024]⟩
abbrev S16384x1024 : Shape := ⟨2, ![16384, 1024]⟩
abbrev S1024x16384 : Shape := ⟨2, ![1024, 16384]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S1x2048x7176, .f32⟩
  | .hbm, ⟨3, _⟩ => ⟨S2048x7176, .f32⟩
  | .hbm, ⟨4, _⟩ => ⟨S4x4096x7176, .f32⟩
  | .hbm, ⟨5, _⟩ => ⟨S4x4096x1024, .f32⟩
  | .hbm, ⟨6, _⟩ => ⟨S16384x1024, .f32⟩
  | .hbm, ⟨7, _⟩ => ⟨S1024x16384, .f32⟩
  | .hbm, ⟨8, _⟩ => ⟨S1024x16384, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Hv.lean ====
abbrev S4x4096x2048 : Shape := ⟨3, ![4, 4096, 2048]⟩
abbrev S2x2048x7176 : Shape := ⟨3, ![2, 2048, 7176]⟩
abbrev S_ : Shape := ⟨0, ![]⟩
abbrev S1x1024 : Shape := ⟨2, ![1, 1024]⟩
abbrev S16384x2048 : Shape := ⟨2, ![16384, 2048]⟩
abbrev S2x7176x2048 : Shape := ⟨3, ![2, 7176, 2048]⟩
abbrev S16384x1024 : Shape := ⟨2, ![16384, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S_, .f32⟩
  | .hbm, ⟨3, _⟩ => ⟨S1x1024, .f32⟩
  | .hbm, ⟨4, _⟩ => ⟨S16384x2048, .f32⟩
  | .hbm, ⟨5, _⟩ => ⟨S16384x2048, .bf16⟩
  | .hbm, ⟨6, _⟩ => ⟨S2x7176x2048, .f32⟩
  | .hbm, ⟨7, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c5128_i32 : BitVec 32 := 5128#32
  let arg0 : BitVec 32 := BitVec.ofNat 32 (i 0).val
  let c1024_i32 : BitVec 32 := 1024#32
  let v0 : BitVec 32 := Scalar.muli arg0 c1024_i32
  let v1 : BitVec 32 := Scalar.addi c5128_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c5128_i32 : BitVec 32 := 5128#32
  let v1 : BitVec 32 := Scalar.addi c5128_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HvRefIdeal.lean ====
abbrev S4x4096x2048 : Shape := ⟨3, ![4, 4096, 2048]⟩
abbrev S2x2048x7176 : Shape := ⟨3, ![2, 2048, 7176]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x1024 : Shape := ⟨3, ![4, 4096, 1024]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S1x2048x7176, .f32⟩
  | .hbm, ⟨3, _⟩ => ⟨S2048x7176, .f32⟩
  | .hbm, ⟨4, _⟩ => ⟨S4x4096x7176, .f32⟩
  | .hbm, ⟨5, _⟩ => ⟨S4x4096x1024, .f32⟩
  | .hbm, ⟨6, _⟩ => ⟨S16384x1024, .f32⟩
  | .hbm, ⟨7, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Hg.lean ====
abbrev S4x4096x2048 : Shape := ⟨3, ![4, 4096, 2048]⟩
abbrev S2x2048x7176 : Shape := ⟨3, ![2, 2048, 7176]⟩
abbrev S_ : Shape := ⟨0, ![]⟩
abbrev S1x1024 : Shape := ⟨2, ![1, 1024]⟩
abbrev S16384x2048 : Shape := ⟨2, ![16384, 2048]⟩
abbrev S2x7176x2048 : Shape := ⟨3, ![2, 7176, 2048]⟩
abbrev S16384x1024 : Shape := ⟨2, ![16384, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S_, .f32⟩
  | .hbm, ⟨3, _⟩ => ⟨S1x1024, .f32⟩
  | .hbm, ⟨4, _⟩ => ⟨S16384x2048, .f32⟩
  | .hbm, ⟨5, _⟩ => ⟨S16384x2048, .bf16⟩
  | .hbm, ⟨6, _⟩ => ⟨S2x7176x2048, .f32⟩
  | .hbm, ⟨7, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let c6152_i32 : BitVec 32 := 6152#32
  let arg0 : BitVec 32 := BitVec.ofNat 32 (i 0).val
  let c1024_i32 : BitVec 32 := 1024#32
  let v0 : BitVec 32 := Scalar.muli arg0 c1024_i32
  let v1 : BitVec 32 := Scalar.addi c6152_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c6152_i32 : BitVec 32 := 6152#32
  let v1 : BitVec 32 := Scalar.addi c6152_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HgRefIdeal.lean ====
abbrev S4x4096x2048 : Shape := ⟨3, ![4, 4096, 2048]⟩
abbrev S2x2048x7176 : Shape := ⟨3, ![2, 2048, 7176]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x1024 : Shape := ⟨3, ![4, 4096, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S1x2048x7176, .f32⟩
  | .hbm, ⟨3, _⟩ => ⟨S2048x7176, .f32⟩
  | .hbm, ⟨4, _⟩ => ⟨S4x4096x7176, .f32⟩
  | .hbm, ⟨5, _⟩ => ⟨S4x4096x1024, .f32⟩
  | .hbm, ⟨6, _⟩ => ⟨S16384x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kv.lean ====
abbrev S4x256x2048 : Shape := ⟨3, ![4, 256, 2048]⟩
abbrev S2x2048x2048 : Shape := ⟨3, ![2, 2048, 2048]⟩
abbrev S_ : Shape := ⟨0, ![]⟩
abbrev S1x2048 : Shape := ⟨2, ![1, 2048]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S2x2048x2048, .f32⟩
  | .hbm, ⟨2, _⟩ => ⟨S_, .f32⟩
  | .hbm, ⟨3, _⟩ => ⟨S1x2048, .f32⟩
  | .hbm, ⟨4, _⟩ => ⟨S1024x2048, .f32⟩
  | .hbm, ⟨5, _⟩ => ⟨S1024x2048, .bf16⟩
  | .hbm, ⟨6, _⟩ => ⟨S1024x2048, .bf16⟩
  | .local _ .vmem, ⟨0, _⟩ => ⟨S1024x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S4x256x2048 : Shape := ⟨3, ![4, 256, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S4x256x2048, .f32⟩
  | .hbm, ⟨5, _⟩ => ⟨S1024x2048, .f32⟩
  | .hbm, ⟨6, _⟩ => ⟨S1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Hgrn.lean ====
abbrev S4x4096x2048 : Shape := ⟨3, ![4, 4096, 2048]⟩
abbrev S4x4096x1024 : Shape := ⟨3, ![4, 4096, 1024]⟩
abbrev S2x1024 : Shape := ⟨2, ![2, 1024]⟩
abbrev S2x1x1024 : Shape := ⟨3, ![2, 1, 1024]⟩
abbrev S1x1024x128 : Shape := ⟨3, ![1, 1024, 128]⟩
abbrev S2x128 : Shape := ⟨2, ![2, 128]⟩
abbrev S1x1x128 : Shape := ⟨3, ![1, 1, 128]⟩
abbrev S128x128 : Shape := ⟨2, ![128, 128]⟩
abbrev S128 : Shape := ⟨1, ![128]⟩
abbrev S1x128 : Shape := ⟨2, ![1, 128]⟩
abbrev S1024x128 : Shape := ⟨2, ![1024, 128]⟩
abbrev S128x384 : Shape := ⟨2, ![128, 384]⟩
abbrev S1x64x128 : Shape := ⟨3, ![1, 64, 128]⟩
abbrev S2x32x128 : Shape := ⟨3, ![2, 32, 128]⟩
abbrev S4x16x128 : Shape := ⟨3, ![4, 16, 128]⟩
abbrev S8x8x128 : Shape := ⟨3, ![8, 8, 128]⟩
abbrev S384x128 : Shape := ⟨2, ![384, 128]⟩
abbrev S1x128x128 : Shape := ⟨3, ![1, 128, 128]⟩
abbrev S2x64x128 : Shape := ⟨3, ![2, 64, 128]⟩
abbrev S2x1x128 : Shape := ⟨3, ![2, 1, 128]⟩
abbrev S4x32x128 : Shape := ⟨3, ![4, 32, 128]⟩
abbrev S4x1x128 : Shape := ⟨3, ![4, 1, 128]⟩
abbrev S8x16x128 : Shape := ⟨3, ![8, 16, 128]⟩
abbrev S8x1x128 : Shape := ⟨3, ![8, 1, 128]⟩
abbrev S16x8x128 : Shape := ⟨3, ![16, 8, 128]⟩
abbrev S16x1x128 : Shape := ⟨3, ![16, 1, 128]⟩
abbrev S128x1 : Shape := ⟨2, ![128, 1]⟩

abbrev nBuf : Space → Nat
  | .hbm => 7
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .bf16⟩
  | .hbm, ⟨3, _⟩ => ⟨S2x1024, .f32⟩
  | .hbm, ⟨4, _⟩ => ⟨S2x1024, .f32⟩
  | .hbm, ⟨5, _⟩ => ⟨S2x1x1024, .f32⟩
  | .hbm, ⟨6, _⟩ => ⟨S4x4096x1024, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .bf16⟩
  | .local _ .vmem, ⟨7, _⟩ => ⟨S1x1024x128, .bf16⟩
  | .local _ .vmem, ⟨8, _⟩ => ⟨S2x128, .f32⟩
  | .local _ .vmem, ⟨9, _⟩ => ⟨S2x128, .f32⟩
  | .local _ .vmem, ⟨10, _⟩ => ⟨S1x1x128, .f32⟩
  | .local _ .vmem, ⟨11, _⟩ => ⟨S1x1x128, .f32⟩
  | .local _ .vmem, ⟨12, _⟩ => ⟨S1x1024x128, .bf16⟩
  | .local _ .vmem, ⟨13, _⟩ => ⟨S1x1024x128, .bf16⟩
  | .local _ .vmem, ⟨14, _⟩ => ⟨S128x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== HgrnIdeal.lean ====
variable {F : FTy → Type} [FloatOps F] [Named F]
def κ : String → Option EReal := fun
  | "inv_ln2" => some (((Real.log 2)⁻¹ : ℝ) : EReal)
  | _ => none
-- ==== HgrnRefIdeal.lean ====
abbrev S4x4096x2048 : Shape := ⟨3, ![4, 4096, 2048]⟩
abbrev S4x4096x1024 : Shape := ⟨3, ![4, 4096, 1024]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S4x4096x8x128 : Shape := ⟨4, ![4, 4096, 8, 128]⟩
abbrev S4x8x4096x128 : Shape := ⟨4, ![4, 8, 4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4x8x4096x1x128 : Shape := ⟨5, ![4, 8, 4096, 1, 128]⟩
abbrev S4x8x1x4096x128 : Shape := ⟨5, ![4, 8, 1, 4096, 128]⟩
abbrev S4x8x4096x4096x128 : Shape := ⟨5, ![4, 8, 4096, 4096, 128]⟩
abbrev S1x1x4096x4096x1 : Shape := ⟨5, ![1, 1, 4096, 4096, 1]⟩
abbrev S4x8x4096x4096 : Shape := ⟨4, ![4, 8, 4096, 4096]⟩
abbrev S4x4096x8 : Shape := ⟨3, ![4, 4096, 8]⟩
abbrev S4x4096x8x1 : Shape := ⟨4, ![4, 4096, 8, 1]⟩
abbrev S8x128 : Shape := ⟨2, ![8, 128]⟩
abbrev S1x1x8x128 : Shape := ⟨4, ![1, 1, 8, 128]⟩

abbrev nBuf : Space → Nat
  | .hbm => 140
  | .vmem => 0
  | .smem => 0
  | _ => 0

abbrev hbmTy0_0 (i : Nat) : BufTy := match i % 128 with
  | 0 => ⟨S4x4096x2048, .f32⟩
  | 1 => ⟨S4x4096x1024, .f32⟩
  | 2 => ⟨S4x4096x1024, .bf16⟩
  | 3 => ⟨S2x1024, .f32⟩
  | 4 => ⟨S2x1024, .f32⟩
  | 5 => ⟨S_, .f32⟩
  | 6 => ⟨S1024, .f32⟩
  | 7 => ⟨S_, .f32⟩
  | 8 => ⟨S1024, .f32⟩
  | 9 => ⟨S1024, .f32⟩
  | 10 => ⟨S1x1024, .f32⟩
  | 11 => ⟨S2x1024, .f32⟩
  | 12 => ⟨S2x1024, .f32⟩
  | 13 => ⟨S2x1024, .f32⟩
  | 14 => ⟨S_, .f32⟩
  | 15 => ⟨S1024, .f32⟩
  | 16 => ⟨S1x1024, .f32⟩
  | 17 => ⟨S2x1024, .f32⟩
  | 18 => ⟨S2x1024, .f32⟩
  | 19 => ⟨S_, .f32⟩
  | 20 => ⟨S_, .f32⟩
  | 21 => ⟨S2x1024, .f32⟩
  | 22 => ⟨S1x1024, .f32⟩
  | 23 => ⟨S1024, .f32⟩
  | 24 => ⟨S1x1024, .f32⟩
  | 25 => ⟨S1024, .f32⟩
  | 26 => ⟨S1024, .f32⟩
  | 27 => ⟨S4x4096x1024, .f32⟩
  | 28 => ⟨S4x4096x1024, .f32⟩
  | 29 => ⟨S_, .f32⟩
  | 30 => ⟨S1024, .f32⟩
  | 31 => ⟨S1024, .f32⟩
  | 32 => ⟨S4x4096x1024, .f32⟩
  | 33 => ⟨S4x4096x1024, .f32⟩
  | 34 => ⟨S_, .f32⟩
  | 35 => ⟨S4x4096x1024, .f32⟩
  | 36 => ⟨S4x4096x1024, .f32⟩
  | 37 => ⟨S_, .f32⟩
  | 38 => ⟨S4x4096x1024, .f32⟩
  | 39 => ⟨S4x4096x1024, .f32⟩
  | 40 => ⟨S1x1x1024, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S4x4096x1024, .f32⟩
  | 50 => ⟨S4x4096x8x128, .f32⟩
  | 51 => ⟨S4x8x4096x128, .f32⟩
  | 52 => ⟨S_, .f32⟩
  | 53 => ⟨S1024, .f32⟩
  | 54 => ⟨S1024, .f32⟩
  | 55 => ⟨S4x4096x1024, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S_, .f32⟩
  | 62 => ⟨S4x4096x1024, .f32⟩
  | 63 => ⟨S4x4096x1024, .f32⟩
  | 64 => ⟨S1x1x1024, .f32⟩
  | 65 => ⟨S4x4096x1024, .f32⟩
  | 66 => ⟨S4x4096x1024, .f32⟩
  | 67 => ⟨S4x4096x8x128, .f32⟩
  | 68 => ⟨S4x8x4096x128, .f32⟩
  | 69 => ⟨S4x4096x1024, .f32⟩
  | 70 => ⟨S4x4096x8x128, .f32⟩
  | 71 => ⟨S4x8x4096x128, .f32⟩
  | 72 => ⟨S4x4096x8x128, .f32⟩
  | 73 => ⟨S4x8x4096x128, .f32⟩
  | 74 => ⟨S_, .f32⟩
  | 75 => ⟨S_, .f32⟩
  | 76 => ⟨S4x8x4096x128, .f32⟩
  | 77 => ⟨S4096, .i32⟩
  | 78 => ⟨S1x4096, .i32⟩
  | 79 => ⟨S4096x1, .i32⟩
  | 80 => ⟨S4096x4096, .i32⟩
  | 81 => ⟨S4096x4096, .i32⟩
  | 82 => ⟨S4096x4096, .i1⟩
  | 83 => ⟨S4096x4096x1, .i1⟩
  | 84 => ⟨S4x8x4096x1x128, .f32⟩
  | 85 => ⟨S4x8x1x4096x128, .f32⟩
  | 86 => ⟨S4x8x4096x4096x128, .f32⟩
  | 87 => ⟨S4x8x4096x4096x128, .f32⟩
  | 88 => ⟨S4x8x4096x4096x128, .f32⟩
  | 89 => ⟨S_, .f32⟩
  | 90 => ⟨S_, .f32⟩
  | 91 => ⟨S4x8x4096x4096x128, .i1⟩
  | 92 => ⟨S4x8x4096x4096x128, .f32⟩
  | 93 => ⟨S4x8x4096x4096x128, .f32⟩
  | 94 => ⟨S4x8x4096x4096x128, .f32⟩
  | 95 => ⟨S4096x4096x1, .f32⟩
  | 96 => ⟨S1x1x4096x4096x1, .f32⟩
  | 97 => ⟨S4x8x4096x4096x128, .f32⟩
  | 98 => ⟨S4x8x4096x4096x128, .f32⟩
  | 99 => ⟨S4x8x4096x1x128, .f32⟩
  | 100 => ⟨S4x8x4096x4096x128, .f32⟩
  | 101 => ⟨S4x8x4096x4096x128, .f32⟩
  | 102 => ⟨S4x8x1x4096x128, .f32⟩
  | 103 => ⟨S4x8x4096x4096x128, .f32⟩
  | 104 => ⟨S4x8x4096x4096x128, .f32⟩
  | 105 => ⟨S_, .f32⟩
  | 106 => ⟨S4x8x4096x4096, .f32⟩
  | 107 => ⟨S4x8x4096x128, .f32⟩
  | 108 => ⟨S4x4096x8x128, .f32⟩
  | 109 => ⟨S4x4096x8x128, .f32⟩
  | 110 => ⟨S_, .f32⟩
  | 111 => ⟨S4x4096x8, .f32⟩
  | 112 => ⟨S4x4096x8x1, .f32⟩
  | 113 => ⟨S_, .f32⟩
  | 114 => ⟨S4x4096x8x1, .f32⟩
  | 115 => ⟨S4x4096x8x1, .f32⟩
  | 116 => ⟨S_, .f32⟩
  | 117 => ⟨S4x4096x8x1, .f32⟩
  | 118 => ⟨S4x4096x8x1, .f32⟩
  | 119 => ⟨S4x4096x8x1, .f32⟩
  | 120 => ⟨S4x4096x8x128, .f32⟩
  | 121 => ⟨S4x4096x8x128, .f32⟩
  | 122 => ⟨S1x1024, .f32⟩
  | 123 => ⟨S1024, .f32⟩
  | 124 => ⟨S8x128, .f32⟩
  | 125 => ⟨S1x1x8x128, .f32⟩
  | 126 => ⟨S4x4096x8x128, .f32⟩
  | 127 => ⟨S4x4096x8x128, .f32⟩
  | _ => ⟨S4x4096x2048, .f32⟩

abbrev hbmTy0_1 (i : Nat) : BufTy := match i % 128 with
  | 0 => ⟨S4x4096x1024, .f32⟩
  | 1 => ⟨S4x4096x1024, .f32⟩
  | 2 => ⟨S4x4096x1024, .f32⟩
  | 3 => ⟨S_, .f32⟩
  | 4 => ⟨S4x4096x1024, .f32⟩
  | 5 => ⟨S4x4096x1024, .f32⟩
  | 6 => ⟨S_, .f32⟩
  | 7 => ⟨S4x4096x1024, .f32⟩
  | 8 => ⟨S4x4096x1024, .f32⟩
  | 9 => ⟨S4x4096x1024, .f32⟩
  | 10 => ⟨S4x4096x1024, .f32⟩
  | 11 => ⟨S4x4096x1024, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call1_call0_cst : Ref sig .tc := ⟨.hbm, 74, rfl⟩
abbrev main_call1_call0_v0 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_cst_13 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_call3_v0 : Ref sig .tc := ⟨.hbm, 129, rfl⟩
abbrev main_call3_v1 : Ref sig .tc := ⟨.hbm, 130, rfl⟩
abbrev main_call3_cst : Ref sig .tc := ⟨.hbm, 131, rfl⟩
abbrev main_call3_v2 : Ref sig .tc := ⟨.hbm, 132, rfl⟩
abbrev main_call3_v3 : Ref sig .tc := ⟨.hbm, 133, rfl⟩
abbrev main_call3_cst_0 : Ref sig .tc := ⟨.hbm, 134, rfl⟩
abbrev main_call3_v4 : Ref sig .tc := ⟨.hbm, 135, rfl⟩
abbrev main_call3_v5 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩

abbrev nD : Nat := 1
abbrev τ : Topo := Topo.v7x

variable {F : FTy → Type} [FloatOps F]
-- ==== Fgate.lean ====
abbrev S4x4096x2048 : Shape := ⟨3, ![4, 4096, 2048]⟩
abbrev S2x2048x7176 : Shape := ⟨3, ![2, 2048, 7176]⟩
abbrev S2x8 : Shape := ⟨2, ![2, 8]⟩
abbrev S_ : Shape := ⟨0, ![]⟩
abbrev S1x128 : Shape := ⟨2, ![1, 128]⟩
abbrev S1x8 : Shape := ⟨2, ![1, 8]⟩
abbrev S8 : Shape := ⟨1, ![8]⟩
abbrev S1 : Shape := ⟨1, ![1]⟩
abbrev S2 : Shape := ⟨1, ![2]⟩
abbrev S16384x2048 : Shape := ⟨2, ![16384, 2048]⟩
abbrev S2x7176x2048 : Shape := ⟨3, ![2, 7176, 2048]⟩
abbrev S3x128x8x128 : Shape := ⟨4, ![3, 128, 8, 128]⟩
abbrev S384x1024 : Shape := ⟨2, ![384, 1024]⟩
abbrev S8x128 : Shape := ⟨2, ![8, 128]⟩
abbrev S1x1024 : Shape := ⟨2, ![1, 1024]⟩
abbrev S16384x1024 : Shape := ⟨2, ![16384, 1024]⟩
abbrev S512x2048 : Shape := ⟨2, ![512, 2048]⟩
abbrev S1x128x2048 : Shape := ⟨3, ![1, 128, 2048]⟩
abbrev S512x1024 : Shape := ⟨2, ![512, 1024]⟩
abbrev S128x2048 : Shape := ⟨2, ![128, 2048]⟩
abbrev S256x2048 : Shape := ⟨2, ![256, 2048]⟩
abbrev S256x128 : Shape := ⟨2, ![256, 128]⟩
abbrev S512x128 : Shape := ⟨2, ![512, 128]⟩
abbrev S512x384 : Shape := ⟨2, ![512, 384]⟩
abbrev S256x384 : Shape := ⟨2, ![256, 384]⟩
abbrev S256x1024 : Shape := ⟨2, ![256, 1024]⟩

abbrev nBuf : Space → Nat
  | .hbm => 68
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S2x8, .f32⟩
  | .hbm, ⟨3, _⟩ => ⟨S_, .f32⟩
  | .hbm, ⟨4, _⟩ => ⟨S1x128, .f32⟩
  | .hbm, ⟨5, _⟩ => ⟨S1x8, .f32⟩
  | .hbm, ⟨6, _⟩ => ⟨S8, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S16384x2048, .f32⟩
  | .hbm, ⟨14, _⟩ => ⟨S16384x2048, .bf16⟩
  | .hbm, ⟨15, _⟩ => ⟨S2x7176x2048, .f32⟩
  | .hbm, ⟨16, _⟩ => ⟨S3x128x8x128, .i32⟩
  | .hbm, ⟨17, _⟩ => ⟨S3x128x8x128, .i32⟩
  | .hbm, ⟨18, _⟩ => ⟨S3x128x8x128, .i32⟩
  | .hbm, ⟨19, _⟩ => ⟨S3x128x8x128, .i32⟩
  | .hbm, ⟨20, _⟩ => ⟨S3x128x8x128, .i1⟩
  | .hbm, ⟨21, _⟩ => ⟨S3x128x8x128, .i1⟩
  | .hbm, ⟨22, _⟩ => ⟨S3x128x8x128, .i1⟩
  | .hbm, ⟨23, _⟩ => ⟨S_, .f32⟩
  | .hbm, ⟨24, _⟩ => ⟨S_, .f32⟩
  | .hbm, ⟨25, _⟩ => ⟨S3x128x8x128, .f32⟩
  | .hbm, ⟨26, _⟩ => ⟨S3x128x8x128, .f32⟩
  | .hbm, ⟨27, _⟩ => ⟨S3x128x8x128, .f32⟩
  | .hbm, ⟨28, _⟩ => ⟨S384x1024, .f32⟩
  | .hbm, ⟨29, _⟩ => ⟨S3x128x8x128, .i1⟩
  | .hbm, ⟨30, _⟩ => ⟨S_, .i32⟩
  | .hbm, ⟨31, _⟩ => ⟨S3x128x8x128, .i32⟩
  | .hbm, ⟨32, _⟩ => ⟨S3x128x8x128, .i32⟩
  | .hbm, ⟨33, _⟩ => ⟨S3x128x8x128, .i1⟩
  | .hbm, ⟨34, _⟩ => ⟨S3x128x8x128, .i1⟩
  | .hbm, ⟨35, _⟩ => ⟨S_, .f32⟩
  | .hbm, ⟨36, _⟩ => ⟨S_, .f32⟩
  | .hbm, ⟨37, _⟩ => ⟨S3x128x8x128, .f32⟩
  | .hbm, ⟨38, _⟩ => ⟨S3x128x8x128, .f32⟩
  | .hbm, ⟨39, _⟩ => ⟨S3x128x8x128, .f32⟩
  | .hbm, ⟨40, _⟩ => ⟨S384x1024, .f32⟩
  | .hbm, ⟨41, _⟩ => ⟨S8x128, .i32⟩
  | .hbm, ⟨42, _⟩ => ⟨S_, .i32⟩
  | .hbm, ⟨43, _⟩ => ⟨S8x128, .i32⟩
  | .hbm, ⟨44, _⟩ => ⟨S8x128, .i1⟩
  | .hbm, ⟨45, _⟩ => ⟨S_, .i32⟩
  | .hbm, ⟨46, _⟩ => ⟨S8x128, .i32⟩
  | .hbm, ⟨47, _⟩ => ⟨S8x128, .i1⟩
  | .hbm, ⟨48, _⟩ => ⟨S8x128, .i1⟩
  | .hbm, ⟨49, _⟩ => ⟨S_, .f32⟩
  | .hbm, ⟨50, _⟩ => ⟨S_, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S1x1024, .f32⟩
  | .hbm, ⟨55, _⟩ => ⟨S_, .i32⟩
  | .hbm, ⟨56, _⟩ => ⟨S8x128, .i32⟩
  | .hbm, ⟨57, _⟩ => ⟨S8x128, .i1⟩
  | .hbm, ⟨58, _⟩ => ⟨S_, .f32⟩
  | .hbm, ⟨59, _⟩ => ⟨S_, .f32⟩
  | .hbm, ⟨60, _⟩ => ⟨S8x128, .f32⟩
  | .hbm, ⟨61, _⟩ => ⟨S8x128, .f32⟩
  | .hbm, ⟨62, _⟩ => ⟨S8x128, .f32⟩
  | .hbm, ⟨63, _⟩ => ⟨S1x1024, .f32⟩
  | .hbm, ⟨64, _⟩ => ⟨S384x1024, .bf16⟩
  | .hbm, ⟨65, _⟩ => ⟨S384x1024, .bf16⟩
  | .hbm, ⟨66, _⟩ => ⟨S16384x1024, .bf16⟩
  | .hbm, ⟨67, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S1x128x2048, .f32⟩
  | .local _ .vmem, ⟨3, _⟩ => ⟨S1x128, .f32⟩
  | .local _ .vmem, ⟨4, _⟩ => ⟨S384x1024, .bf16⟩
  | .local _ .vmem, ⟨5, _⟩ => ⟨S384x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S128x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_cst_12 : Ref sig .tc := ⟨.hbm, 59, rfl⟩
abbrev main_call3_v0 : Ref sig .tc := ⟨.hbm, 60, rfl⟩
abbrev main_call3_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40_0 : Ref sig .tc := ⟨.hbm, 66, rfl⟩
abbrev main_v40_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c3072_i32 : BitVec 32 := 3072#32
  let c0_i32 : BitVec 32 := 0#32
  let c0_i32_0 : BitVec 32 := 0#32
  ![c1_i32.toNat, c3072_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FgateRefIdeal.lean ====
abbrev S4x4096x2048 : Shape := ⟨3, ![4, 4096, 2048]⟩
abbrev S2x2048x7176 : Shape := ⟨3, ![2, 2048, 7176]⟩
abbrev S2x8 : Shape := ⟨2, ![2, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x8 : Shape := ⟨3, ![4, 4096, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S4x8x4096 : Shape := ⟨3, ![4, 8, 4096]⟩
abbrev S4x4096x8x1 : Shape := ⟨4, ![4, 4096, 8, 1]⟩
abbrev S128 : Shape := ⟨1, ![128]⟩
abbrev S4x4096x8x128 : Shape := ⟨4, ![4, 4096, 8, 128]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x7176, .f32⟩
  | .hbm, ⟨2, _⟩ => ⟨S2x8, .f32⟩
  | .hbm, ⟨3, _⟩ => ⟨S4096, .i32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .f32⟩
  | .hbm, ⟨10, _⟩ => ⟨S1x2048x7176, .f32⟩
  | .hbm, ⟨11, _⟩ => ⟨S2048x7176, .f32⟩
  | .hbm, ⟨12, _⟩ => ⟨S4x4096x7176, .f32⟩
  | .hbm, ⟨13, _⟩ => ⟨S4x4096x8, .f32⟩
  | .hbm, ⟨14, _⟩ => ⟨S1x8, .f32⟩
  | .hbm, ⟨15, _⟩ => ⟨S8, .f32⟩
  | .hbm, ⟨16, _⟩ => ⟨S1x1x8, .f32⟩
  | .hbm, ⟨17, _⟩ => ⟨S4x4096x8, .f32⟩
  | .hbm, ⟨18, _⟩ => ⟨S4x4096x8, .f32⟩
  | .hbm, ⟨19, _⟩ => ⟨S4x4096x8, .f32⟩
  | .hbm, ⟨20, _⟩ => ⟨S_, .f32⟩
  | .hbm, ⟨21, _⟩ => ⟨S4x4096x8, .f32⟩
  | .hbm, ⟨22, _⟩ => ⟨S4x4096x8, .f32⟩
  | .hbm, ⟨23, _⟩ => ⟨S4x4096x8, .f32⟩
  | .hbm, ⟨24, _⟩ => ⟨S4x4096x8, .f32⟩
  | .hbm, ⟨25, _⟩ => ⟨S4x4096x8, .i1⟩
  | .hbm, ⟨26, _⟩ => ⟨S4x4096x8, .f32⟩
  | .hbm, ⟨27, _⟩ => ⟨S4x4096x8, .f32⟩
  | .hbm, ⟨28, _⟩ => ⟨S4x4096x8, .f32⟩
  | .hbm, ⟨29, _⟩ => ⟨S4x4096x8, .f32⟩
  | .hbm, ⟨30, _⟩ => ⟨S4x4096x8, .f32⟩
  | .hbm, ⟨31, _⟩ => ⟨S4x4096x8, .f32⟩
  | .hbm, ⟨32, _⟩ => ⟨S4x4096x8, .f32⟩
  | .hbm, ⟨33, _⟩ => ⟨S4x4096x8, .f32⟩
  | .hbm, ⟨34, _⟩ => ⟨S4x4096x8, .f32⟩
  | .hbm, ⟨35, _⟩ => ⟨S4x8x4096, .f32⟩
  | .hbm, ⟨36, _⟩ => ⟨S4x4096x8, .f32⟩
  | .hbm, ⟨37, _⟩ => ⟨S_, .f32⟩
  | .hbm, ⟨38, _⟩ => ⟨S4x4096x8, .f32⟩
  | .hbm, ⟨39, _⟩ => ⟨S4x4096x8, .f32⟩
  | .hbm, ⟨40, _⟩ => ⟨S4x4096x8x1, .f32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S4x4096x8x1, .f32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S128, .i1⟩
  | .hbm, ⟨53, _⟩ => ⟨S_, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S4x4096x8x128, .i1⟩
  | .hbm, ⟨60, _⟩ => ⟨S4x4096x8x128, .f32⟩
  | .hbm, ⟨61, _⟩ => ⟨S4x4096x8x128, .f32⟩
  | .hbm, ⟨62, _⟩ => ⟨S4x4096x8x128, .f32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S4x4096x8x128, .i1⟩
  | .hbm, ⟨76, _⟩ => ⟨S4x4096x8x128, .f32⟩
  | .hbm, ⟨77, _⟩ => ⟨S4x4096x8x128, .f32⟩
  | .hbm, ⟨78, _⟩ => ⟨S4x4096x8x128, .f32⟩
  | .hbm, ⟨79, _⟩ => ⟨S16384x1024, .f32⟩
  | .hbm, ⟨80, _⟩ => ⟨S16384x1024, .bf16⟩
  | .hbm, ⟨81, _⟩ => ⟨S16384x1024, .f32⟩
  | .hbm, ⟨82, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_0 : Ref sig .tc := ⟨.hbm, 46, rfl⟩
abbrev main_v26 : Ref sig .tc := ⟨.hbm, 47, rfl⟩
abbrev main_v27 : Ref sig .tc := ⟨.hbm, 48, rfl⟩
abbrev main_c_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_2 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_v31 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_v32 : Ref sig .tc := ⟨.hbm, 62, rfl⟩
abbrev main_c_4 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_cst_7 : Ref sig .tc := ⟨.hbm, 70, rfl⟩
abbrev main_call3_v0 : Ref sig .tc := ⟨.hbm, 71, rfl⟩
abbrev main_call3_v1 : Ref sig .tc := ⟨.hbm, 72, rfl⟩
abbrev main_v37 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩

abbrev nD : Nat := 1
abbrev τ : Topo := Topo.v7x

variable {F : FTy → Type} [FloatOps F]
-- ==== Proof.InProj.lean ====
/-
  The in-projection call, read as a value.
-/
module

public import proofs.«01_k».proof.Defs
public import proofs.«01_k».proof.Proof.Gen.KernelIdeal.Value
public import proofs.«01_k».proof.Proof.Gen.ReferenceIdeal.Run
public import Idealize.ShloMosaic.Lib.Tactic
public import Idealize.ShloMosaic.Lib.Claim
public import Idealize.ShloMosaic.Lib.Pointwise

@[expose] public section

noncomputable section

open Idealize.ShloMosaic Idealize.ShloMosaic.TcCoe Idealize.SL.Sem

namespace Cert.InProj

open Cert.KernelIdeal Cert.KernelIdeal.Gen Cert.KernelIdeal.Value

section AnyF
variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

theorem scr_A (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x2048 .bf16) (harg6 : arg6.IsWhole) (hc0 : cond0_0 i)
    (x0 : Vec F S1024x2048 .bf16) (x1 : Vec F S1x1024x2048 .f32) (x2 : Vec F S1x1024 .f32) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zero2]
  simp only [View.readAt_eq_ld, harg3.read_unread, View.ld_unit_zero (S := S1x1024x2048) zero3]

theorem out_A (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x2048 .bf16) (harg6 : arg6.IsWhole) (hc0 : cond0_0 i)
    (x0 : Vec F S1024x2048 .bf16) (x1 : Vec F S1x1024x2048 .f32) (x2 : Vec F S1x1024 .f32) :
    out0_A_3 c i arg2 harg2 arg3 harg3 arg4 harg4 arg5 harg5 arg6 harg6 hc0 x0 x1 x2 = k0_pay2 x0 (k0_pay1 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero zero2, View.readCov_unit_zero (S := S1024x2048) _ zero2]
  simp only [View.readAt_eq_ld, harg2.read_unread, harg3.read_unread, harg4.read_unread, View.ld_unit_zero (S := S1x1024x2048) zero3, View.ld_unit_zero (S := S1024x2048) zero2, View.ld_unit_zero (S := S1x1024) zero2]

theorem out_B (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x2048 .bf16) (harg6 : arg6.IsWhole) (hc0 : ¬cond0_0 i)
    (x0 : Vec F S1024x2048 .bf16) (x1 : Vec F S1x1024x2048 .f32) (x2 : Vec F S1x1024 .f32) (xs : Vec F S1024x2048 .bf16) :
    out0_B_3 c i arg2 harg2 arg3 harg3 arg4 harg4 arg5 harg5 arg6 harg6 hc0 x0 x1 x2 xs = k0_pay2 x0 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  rw [View.canon_unit_zero zero2]
  simp only [View.readAt_eq_ld, harg2.read_unread, harg6.read_unread, harg4.read_unread, View.ld_unit_zero (S := S1024x2048) zero2, View.ld_unit_zero (S := S1x1024) zero2]

end AnyF

variable (m : (ℓ : Loc nD τ sig) → Buf (Elt Ideal) ℓ)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 3080 + 1024 * (t.val / 16) ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)

theorem rows_apply (c : Dev nD) (t : Fin cfg0.N) (r : Fin 1024) (k : Fin 2048) :
    (iblk m c 0 t : Vec Ideal S1024x2048 .bf16) (ix2 r k)
      = V m c main_v1 (ix2 (⟨1024 * (t.val % 16) + r.val, by omega⟩ : Fin 16384) k) := by
  have hi := idx0 t
  unfold iblk
  rw [View.read_apply]
  show V m c main_v1 _ = _
  congr 1
  funext a
  apply Fin.ext
  match a with
  | ⟨0, _⟩ => show win0_0.index t 0 * 1024 + 1 * r.val = 1024 * (t.val % 16) + r.val; rw [hi.1]; omega
  | ⟨1, _⟩ => show win0_0.index t 1 * 2048 + 1 * k.val = k.val; rw [hi.2]; omega

theorem weight_apply (c : Dev nD) (t : Fin cfg0.N) (a : Fin 1024) (k : Fin 2048) :
    (iblk m c 1 t : Vec Ideal S1x1024x2048 .f32) (ix3 0 a k)
      = V m c main_v2 (ix3 (1 : Fin 2) (⟨3080 + 1024 * (t.val / 16) + a.val, by have := t.isLt; have : cfg0.N = 32 := N_0; omega⟩ : Fin 7176) k) := by
  have hi := idx1 t
  unfold iblk
  rw [View.read_apply]
  show V m c main_v2 _ = _
  congr 1
  funext b
  apply Fin.ext
  match b with
  | ⟨0, _⟩ => show win0_1.index t 0 + 1 * 0 = 1; rw [hi.1]
  | ⟨1, _⟩ => show win0_1.index t 1 + 1 * a.val = _; rw [hi.2.1]; simp
  | ⟨2, _⟩ => show win0_1.index t 2 + 1 * k.val = k.val; rw [hi.2.2]; omega

theorem scale_apply (c : Dev nD) (t : Fin cfg0.N) (a : Fin 1024) :
    (iblk m c 2 t : Vec Ideal S1x1024 .f32) (ix2 0 a)
      = V m c main_v5 (ix2 (0 : Fin 1) (⟨1024 * (t.val / 16) + a.val, by have := t.isLt; have : cfg0.N = 32 := N_0; omega⟩ : Fin 2048)) := by
  have hi := idx2 t
  unfold iblk
  rw [View.read_apply]
  show V m c main_v5 _ = _
  congr 1
  funext b
  apply Fin.ext
  match b with
  | ⟨0, _⟩ => show win0_2.index t 0 * 1 + 1 * 0 = 0; rw [hi.1]
  | ⟨1, _⟩ => show win0_2.index t 1 * 1024 + 1 * a.val = _; rw [hi.2]; simp; omega

/-- What the scratch holds after a point: the weight block of the point's own column group. -/
theorem carried (c : Dev nD) (n : ℕ) (h : n < cfg0.N) :
    (outsAt0 m c n h).2 = k0_pay1 (iblk m c 1 ⟨n, h⟩) := by
  induction n with
  | zero => rw [outsAt0_A m c ⟨0, h⟩ rfl]; dsimp only; rw [scr_A]
  | succ n ih =>
    by_cases h0 : (n + 1) % 16 = 0
    · rw [outsAt0_A m c ⟨n + 1, h⟩ h0]; dsimp only; rw [scr_A]
    · rw [outsAt0_B m c ⟨n + 1, h⟩ h0]
      dsimp only
      unfold sout0_B_0
      refine (ih (Nat.lt_of_succ_lt h)).trans (congrArg k0_pay1 ?_)
      funext y
      obtain ⟨z, a, k, rfl⟩ : ∃ z a k, y = ix3 z a k := ⟨y 0, y 1, y 2, eq_ix3 y⟩
      obtain rfl : z = 0 := Subsingleton.elim _ _
      refine (weight_apply m c _ a k).trans ((weight_apply m c _ a k).trans ?_).symm
      have : (n + 1) / 16 = n / 16 := by omega
      simp only [this]

theorem written (c : Dev nD) (t : Fin cfg0.N) :
    (outsAt0 m c t.val t.isLt).1 = k0_pay2 (iblk m c 0 t) (k0_pay1 (iblk m c 1 t)) (iblk m c 2 t) := by
  by_cases h0 : t.val % 16 = 0
  · rw [outsAt0_A m c t h0]; dsimp only; rw [out_A]
  · have hc := carried m c t.val t.isLt
    rw [outsAt0_B m c t h0] at hc ⊢
    dsimp only at hc ⊢
    unfold sout0_B_0 at hc
    rw [out_B, hc]

theorem entry_rows (c : Dev nD) (r : Fin 16384) (k : Fin 2048) :
    V m c main_v1 (ix2 r k) = m ((c : Thread nD τ).loc main_arg0) (ix3 (⟨r.val / 4096, by omega⟩ : Fin 4) (⟨r.val % 4096, by omega⟩ : Fin 4096) k) := by
  entry_read
  pointwise

theorem entry_weight (c : Dev nD) (l : Fin 2) (a : Fin 7176) (k : Fin 2048) :
    V m c main_v2 (ix3 l a k) = m ((c : Thread nD τ).loc main_arg1) (ix3 l k a) := by
  entry_read
  pointwise

theorem entry_scale (c : Dev nD) (a : Fin 2048) :
    V m c main_v5 (ix2 0 a) = if a.val < 1024 then Ideal.ofBits .f32 0x3DB504F3#32 else 1 := by
  entry_read
  pointwise
  split <;> rfl

theorem pay1_apply (w : Vec Ideal S1x1024x2048 .f32) (a : Fin 1024) (k : Fin 2048) :
    k0_pay1 w (ix2 a k) = w (ix3 0 a k) := by
  unfold k0_pay1
  pointwise

theorem pay2_apply (x w : Vec Ideal S1024x2048 .bf16) (s : Vec Ideal S1x1024 .f32) (r a : Fin 1024) :
    k0_pay2 x w s (ix2 r a) = (∑ k : Fin 2048, x (ix2 r k) * w (ix2 a k)) * s (ix2 0 a) := by
  unfold k0_pay2
  pointwise

def spec (x : Vec Ideal S4x4096x2048 .f32) (w : Vec Ideal S2x2048x7176 .f32) : Vec Ideal S16384x2048 .f32 := fun i =>
  (∑ k : Fin 2048, x (ix3 (⟨(i 0).val / 4096, by have : (i 0).val < 16384 := (i 0).isLt; omega⟩ : Fin 4) (⟨(i 0).val % 4096, by omega⟩ : Fin 4096) k)
      * w (ix3 (1 : Fin 2) k (⟨3080 + (i 1).val, by have : (i 1).val < 2048 := (i 1).isLt; omega⟩ : Fin 7176)))
    * if (i 1).val < 1024 then Ideal.ofBits .f32 0x3DB504F3#32 else 1

theorem kernel_value (c : Dev nD) :
    G3 m c = spec (m ((c : Thread nD τ).loc main_arg0)) (m ((c : Thread nD τ).loc main_arg1)) := by
  funext i
  have h0 : (i 0).val < 16384 := (i 0).isLt
  have h1 : (i 1).val < 2048 := (i 1).isLt
  have hN : cfg0.N = 32 := N_0
  have hp : pt3Of i = (i 0).val / 1024 + 16 * ((i 1).val / 1024) := by show 1 * ((i 0).val / 1024 - 0) + 16 * ((i 1).val / 1024 - 0) = _; omega
  have hlt : pt3Of i < cfg0.N := by omega
  unfold G3
  rw [dif_pos hlt, ← outsAt0_sweep m c (pt3Of i) hlt, written m c ⟨pt3Of i, hlt⟩]
  have hl : loc3Of i = ix2 (⟨(i 0).val % 1024, by omega⟩ : Fin 1024) (⟨(i 1).val % 1024, by omega⟩ : Fin 1024) := eq_ix2 _
  rw [hl, pay2_apply]
  unfold spec
  refine congrArg₂ (· * ·) (Finset.sum_congr rfl fun k _ => ?_) ?_
  · rw [pay1_apply, rows_apply, weight_apply, entry_rows, entry_weight]
    refine congrArg₂ (· * ·) (congrArg _ ?_) (congrArg _ ?_)
    · congr 1 <;> apply Fin.ext <;> dsimp only <;> omega
    · congr 1; apply Fin.ext; dsimp only; omega
  · rw [scale_apply, entry_scale]
    have : 1024 * (pt3Of i / 16) + (i 1).val % 1024 = (i 1).val := by omega
    simp only [this]

end Cert.InProj

theorem Cert.InProj.algebraic : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hx, hw⟩ := hagree c
  rw [(h c).1, Cert.InProj.kernel_value]
  funext i
  obtain ⟨r, a, rfl⟩ : ∃ r a, i = ix2 r a := ⟨i 0, i 1, eq_ix2 i⟩
  unfold Cert.InProj.spec
  pointwise
  rw [hx, hw]
  by_cases ha : a.val < 1024
  · simp only [ha, ↓reduceDIte, ↓reduceIte]
  · simp only [ha, ↓reduceDIte, ↓reduceIte, mul_one]
    refine Finset.sum_congr rfl fun k _ => congrArg₂ (· * ·) rfl (congrArg _ ?_)
    congr 1
    apply Fin.ext
    dsimp only
    omega
-- ==== Proof.FoxLoop.lean ====
module

public import proofs.«01_k».proof.Proof.Gen.FoxIdeal.Loops
public import proofs.«01_k».proof.Proof.Gen.FoxIdeal.Points
public import Idealize.ShloMosaic.Lib.Pipeline.Value
public import Idealize.ShloMosaic.Lib.Pipeline.ValueKit.Tiles
public import Idealize.ShloMosaic.Lib.VecWindow
public import Idealize.ShloMosaic.Lib.Pointwise

@[expose] public section

set_option maxRecDepth 16384

noncomputable section

namespace Cert.FoxIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxIdeal Cert.FoxIdeal.Gen

variable {F : FTy → Type} [FloatOps F] [Named F]

local notation "𝕄" => MT nD τ sig Unit (Elt F) ℕ (UR sig nD τ) ℕ

/-! ## What one block of keys does to a stream -/

/-- Rows `512 n … 512 n + 511` of a batch's keys (of either operand). -/
def blkK (x : Vec F S1x4096x128 .bf16) (n : ℕ) : Vec F S1x512x128 .bf16 :=
  fun y => x (ix3 0 ⟨(512 * n + (y 1).val) % 4096, Nat.mod_lt _ (by decide)⟩ (y 2))

/-- The same, the first half of the block. -/
def halfK (x : Vec F S1x4096x128 .bf16) (n : ℕ) : Vec F S1x256x128 .bf16 :=
  fun y => x (ix3 0 ⟨(512 * n + (y 1).val) % 4096, Nat.mod_lt _ (by decide)⟩ (y 2))

/-- The values of the same keys. -/
def blkV (x : Vec F S128x4096 .bf16) (n : ℕ) : Vec F S128x512 .bf16 :=
  fun y => x (ix2 (y 0) ⟨(512 * n + (y 1).val) % 4096, Nat.mod_lt _ (by decide)⟩)

/-- The values of the half block. -/
def halfV (x : Vec F S128x4096 .bf16) (n : ℕ) : Vec F S128x256 .bf16 :=
  fun y => x (ix2 (y 0) ⟨(512 * n + (y 1).val) % 4096, Nat.mod_lt _ (by decide)⟩)

/-- The scores of the block's keys against 256 queries. -/
def score (q : FVec F S256x256 .bf16) (x5 x6 : Vec F S1x4096x128 .bf16) (n : ℕ) : FVec F S512x256 .f32 :=
  k0_pay3 q (blkK x5 n) (blkK x6 n)

/-- The running maximum and the running sums after the first `n` blocks of keys. -/
def stp (q : FVec F S256x256 .bf16) (x5 x6 : Vec F S1x4096x128 .bf16) (x7 : Vec F S128x4096 .bf16) :
    ℕ → FVec F S1x256 .f32 × FVec F S144x256 .f32
  | 0 => (k0_pay96, k0_pay97)
  | n + 1 =>
    (k0_pay14 (stp q x5 x6 x7 n).1 (score q x5 x6 n),
     k0_pay31 (stp q x5 x6 x7 n).2 (k0_pay15 (stp q x5 x6 x7 n).1 (score q x5 x6 n))
       (k0_pay16 (stp q x5 x6 x7 n).1 (score q x5 x6 n)) (blkV x7 n))

/-- The four streams' state, as the loop carries it. -/
def tup (q0 q1 q2 q3 : FVec F S256x256 .bf16) (x5 x6 : Vec F S1x4096x128 .bf16) (x7 : Vec F S128x4096 .bf16) (n : ℕ) :
    FVec F S1x256 .f32 × FVec F S144x256 .f32 × FVec F S1x256 .f32 × FVec F S144x256 .f32 ×
      FVec F S1x256 .f32 × FVec F S144x256 .f32 × FVec F S1x256 .f32 × FVec F S144x256 .f32 :=
  ((stp q0 x5 x6 x7 n).1, (stp q0 x5 x6 x7 n).2, (stp q1 x5 x6 x7 n).1, (stp q1 x5 x6 x7 n).2,
   (stp q2 x5 x6 x7 n).1, (stp q2 x5 x6 x7 n).2, (stp q3 x5 x6 x7 n).1, (stp q3 x5 x6 x7 n).2)

/-! ## The loads at computed offsets -/

theorem ldK (x : Vec F S1x4096x128 .bf16) (off : Fin 3 → ℕ) (inb) (n : ℕ) (h : off = ![0, 512 * n, 0]) :
    View.ld (Val := Elt F) (e' := .bf16) x (Rect.unit (s := S1x4096x128) off S1x512x128.size inb) = blkK x n := by
  subst h
  funext y
  have hb : 512 * n + 512 ≤ 4096 := inb 1
  have hy : (y 1).val < 512 := (y 1).isLt
  refine View.ld_unit_apply_of _ _ _ _ y _ fun a => ?_
  match a with
  | ⟨0, _⟩ => have : (y 0).val < 1 := (y 0).isLt; show 0 = 0 + (y 0).val; omega
  | ⟨1, _⟩ => show (512 * n + (y 1).val) % 4096 = 512 * n + (y 1).val; omega
  | ⟨2, _⟩ => show (y 2).val = 0 + (y 2).val; omega

theorem ldHalfK (x : Vec F S1x4096x128 .bf16) (off : Fin 3 → ℕ) (inb) (n : ℕ) (h : off = ![0, 512 * n, 0]) :
    View.ld (Val := Elt F) (e' := .bf16) x (Rect.unit (s := S1x4096x128) off S1x256x128.size inb) = halfK x n := by
  subst h
  funext y
  have hb : 512 * n + 256 ≤ 4096 := inb 1
  have hy : (y 1).val < 256 := (y 1).isLt
  refine View.ld_unit_apply_of _ _ _ _ y _ fun a => ?_
  match a with
  | ⟨0, _⟩ => have : (y 0).val < 1 := (y 0).isLt; show 0 = 0 + (y 0).val; omega
  | ⟨1, _⟩ => show (512 * n + (y 1).val) % 4096 = 512 * n + (y 1).val; omega
  | ⟨2, _⟩ => show (y 2).val = 0 + (y 2).val; omega

theorem ldV (x : Vec F S128x4096 .bf16) (off : Fin 2 → ℕ) (inb) (n : ℕ) (h : off = ![0, 512 * n]) :
    View.ld (Val := Elt F) (e' := .bf16) x (Rect.unit (s := S128x4096) off S128x512.size inb) = blkV x n := by
  subst h
  funext y
  have hb : 512 * n + 512 ≤ 4096 := inb 1
  have hy : (y 1).val < 512 := (y 1).isLt
  refine View.ld_unit_apply_of _ _ _ _ y _ fun a => ?_
  match a with
  | ⟨0, _⟩ => show (y 0).val = 0 + (y 0).val; omega
  | ⟨1, _⟩ => show (512 * n + (y 1).val) % 4096 = 512 * n + (y 1).val; omega

theorem ldHalfV (x : Vec F S128x4096 .bf16) (off : Fin 2 → ℕ) (inb) (n : ℕ) (h : off = ![0, 512 * n]) :
    View.ld (Val := Elt F) (e' := .bf16) x (Rect.unit (s := S128x4096) off S128x256.size inb) = halfV x n := by
  subst h
  funext y
  have hb : 512 * n + 256 ≤ 4096 := inb 1
  have hy : (y 1).val < 256 := (y 1).isLt
  refine View.ld_unit_apply_of _ _ _ _ y _ fun a => ?_
  match a with
  | ⟨0, _⟩ => show (y 0).val = 0 + (y 0).val; omega
  | ⟨1, _⟩ => show (512 * n + (y 1).val) % 4096 = 512 * n + (y 1).val; omega

/-- Rows `256 r … 256 r + 255` of a block of queries. -/
def qrow (x : Vec F S1x1024x128 .bf16) (r : ℕ) : Vec F S1x256x128 .bf16 :=
  fun y => x (ix3 0 ⟨(256 * r + (y 1).val) % 1024, Nat.mod_lt _ (by decide)⟩ (y 2))

/-- A stream's queries beside their bias columns. -/
def qx (x3 x4 : Vec F S1x1024x128 .bf16) (r : ℕ) : FVec F S256x256 .bf16 := k0_pay92 (qrow x3 r) (qrow x4 r)

theorem ldQ (x : Vec F S1x1024x128 .bf16) (off : Fin 3 → ℕ) (inb) (r : ℕ) (h : off = ![0, 256 * r, 0]) :
    View.ld (Val := Elt F) (e' := .bf16) x (Rect.unit (s := S1x1024x128) off S1x256x128.size inb) = qrow x r := by
  subst h
  funext y
  have hb : 256 * r + 256 ≤ 1024 := inb 1
  have hy : (y 1).val < 256 := (y 1).isLt
  refine View.ld_unit_apply_of _ _ _ _ y _ fun a => ?_
  match a with
  | ⟨0, _⟩ => have : (y 0).val < 1 := (y 0).isLt; show 0 = 0 + (y 0).val; omega
  | ⟨1, _⟩ => show (256 * r + (y 1).val) % 1024 = 256 * r + (y 1).val; omega
  | ⟨2, _⟩ => show (y 2).val = 0 + (y 2).val; omega

/-- The block the body writes, from the blocks it reads: the state before the diagonal, then the diagonal's blocks. -/
def outF (i : grid0.Coords) (x3 x4 : Vec F S1x1024x128 .bf16) (x5 x6 : Vec F S1x4096x128 .bf16) (x7 : Vec F S128x4096 .bf16) :
    Vec F S1x1024x128 .bf16 :=
  let n := 2 * (i 2).val
  let s := fun r => stp (qx x3 x4 r) x5 x6 x7 n
  let S := fun r => score (qx x3 x4 r) x5 x6 n
  let v81 := k0_pay113 (qx x3 x4 2) (halfK x5 (n + 1)) (halfK x6 (n + 1))
  let v102 := k0_pay117 (k0_pay114 (qx x3 x4 3) (blkK x5 (n + 1)) (blkK x6 (n + 1))) k0_pay115
    (iota .tc S512x256 32 [1] iota_S512x256_d1_w32) k0_pay116
  k0_pay1 (k0_pay127 (halfV x7 (n + 1)) v81 (blkV x7 (n + 1)) v102
    (k0_pay118 (s 0).1 (s 0).2 (blkV x7 n) (S 0))
    (k0_pay121 (s 1).1 (s 1).2 (blkV x7 n) (k0_pay119 (S 1)) (k0_pay120 (S 1)))
    (k0_pay122 (s 2).1 (S 2)) (k0_pay123 (s 2).1 (s 2).2 (blkV x7 n) (S 2))
    (k0_pay124 (s 3).1 (S 3)) (k0_pay125 (s 3).1 (s 3).2 (blkV x7 n) (S 3)) (k0_pay126 v81))

theorem trips1 (i : grid0.Coords) : Scf.trips (k0_t1_loop i).lb (k0_t1_loop i).ub (k0_t1_loop i).st = (i 2).val := by
  have h : ∀ (a : Fin 4) (j : grid0.Coords), j 2 = a → Scf.trips (k0_t1_loop j).lb (k0_t1_loop j).ub (k0_t1_loop j).st = a.val := by
    intro a j e
    unfold k0_t1_loop
    dsimp only
    rw [e]
    clear e j i
    revert a
    decide +kernel
  exact h (i 2) i rfl

section Reads

theorem rdQ (a : Memref sig .tc .vmem S1x1024x128 .bf16) (ha : a.IsWhole) (x : Vec F S1x1024x128 .bf16) (off : Fin 3 → ℕ) (inb) (r : ℕ)
    (h : off = ![0, 256 * r, 0]) :
    a.view.readAt (Elt F) (Rect.unit (s := S1x1024x128) off S1x256x128.size inb).toLoadRect (ha.unread x) = qrow x r :=
  (congrArg (fun z => View.ld z _) (ha.read_unread x)).trans (ldQ x off inb r h)

theorem rdK (a : Memref sig .tc .vmem S1x4096x128 .bf16) (ha : a.IsWhole) (x : Vec F S1x4096x128 .bf16) (off : Fin 3 → ℕ) (inb) (n : ℕ)
    (h : off = ![0, 512 * n, 0]) :
    a.view.readAt (Elt F) (Rect.unit (s := S1x4096x128) off S1x512x128.size inb).toLoadRect (ha.unread x) = blkK x n :=
  (congrArg (fun z => View.ld z _) (ha.read_unread x)).trans (ldK x off inb n h)

theorem rdHalfK (a : Memref sig .tc .vmem S1x4096x128 .bf16) (ha : a.IsWhole) (x : Vec F S1x4096x128 .bf16) (off : Fin 3 → ℕ) (inb) (n : ℕ)
    (h : off = ![0, 512 * n, 0]) :
    a.view.readAt (Elt F) (Rect.unit (s := S1x4096x128) off S1x256x128.size inb).toLoadRect (ha.unread x) = halfK x n :=
  (congrArg (fun z => View.ld z _) (ha.read_unread x)).trans (ldHalfK x off inb n h)

theorem rdV (a : Memref sig .tc .vmem S128x4096 .bf16) (ha : a.IsWhole) (x : Vec F S128x4096 .bf16) (off : Fin 2 → ℕ) (inb) (n : ℕ)
    (h : off = ![0, 512 * n]) :
    a.view.readAt (Elt F) (Rect.unit (s := S128x4096) off S128x512.size inb).toLoadRect (ha.unread x) = blkV x n :=
  (congrArg (fun z => View.ld z _) (ha.read_unread x)).trans (ldV x off inb n h)

theorem rdHalfV (a : Memref sig .tc .vmem S128x4096 .bf16) (ha : a.IsWhole) (x : Vec F S128x4096 .bf16) (off : Fin 2 → ℕ) (inb) (n : ℕ)
    (h : off = ![0, 512 * n]) :
    a.view.readAt (Elt F) (Rect.unit (s := S128x4096) off S128x256.size inb).toLoadRect (ha.unread x) = halfV x n :=
  (congrArg (fun z => View.ld z _) (ha.read_unread x)).trans (ldHalfV x off inb n h)

end Reads

theorem off9 (i : grid0.Coords) : k0_off9 i = ![0, 512 * (2 * (i 2).val + 1), 0] := (k0_off9_eq i).trans (by congr 2; omega)
theorem off10 (i : grid0.Coords) : k0_off10 i = ![0, 512 * (2 * (i 2).val + 1)] := (k0_off10_eq i).trans (by congr 2; omega)
theorem off11 (i : grid0.Coords) : k0_off11 i = ![0, 512 * (2 * (i 2).val + 1), 0] := (k0_off11_eq i).trans (by congr 2; omega)
theorem off12 (i : grid0.Coords) : k0_off12 i = ![0, 512 * (2 * (i 2).val + 1)] := (k0_off12_eq i).trans (by congr 2; omega)
theorem off13 (i : grid0.Coords) : k0_off13 i = ![0, 512 * (2 * (i 2).val)] := (k0_off13_eq i).trans (by congr 2; omega)

theorem off1_0 (i : grid0.Coords) (k : Fin (k0_t1_loop i).trips) : k0_off1 i k 1#32 = ![0, 512 * (2 * k.val + 1), 0] :=
  (k0_off1_eq i k 0).trans (by congr 2; show 1024 * k.val + 512 * 0 + 512 = _; omega)
theorem off1_1 (i : grid0.Coords) (k : Fin (k0_t1_loop i).trips) : k0_off1 i k 2#32 = ![0, 512 * (2 * k.val + 2), 0] :=
  (k0_off1_eq i k 1).trans (by congr 2; show 1024 * k.val + 512 * 1 + 512 = _; omega)
theorem off2_0 (i : grid0.Coords) (k : Fin (k0_t1_loop i).trips) : k0_off2 i k 1#32 = ![0, 512 * (2 * k.val + 1)] :=
  (k0_off2_eq i k 0).trans (by congr 2; show 1024 * k.val + 512 * 0 + 512 = _; omega)
theorem off4 (i : grid0.Coords) (k : Fin (k0_t1_loop i).trips) : k0_off4 i k = ![0, 512 * (2 * k.val)] :=
  (k0_off4_eq i k).trans (by congr 2; omega)

theorem zero2 : (![0, 0] : Fin 2 → ℕ) = fun _ => 0 := by decide

/-- A score buffer stored whole and loaded whole reads what was stored. -/
theorem readS (a : Memref sig .tc .vmem S512x256 .f32) (inb) (inb') (w : Vec F S512x256 .f32) :
    a.view.readCov (Val := Elt F) [⟨Rect.unit (s := S512x256) ![0, 0] ![512, 256] inb, w⟩]
      (Rect.unit (s := S512x256) ![0, 0] ![512, 256] inb').toLoadRect = w :=
  View.readCov_full a.view inb' inb w []

/-- The same, at the generated bounds. -/
theorem readS' (a : Memref sig .tc .vmem S512x256 .f32) (w : Vec F S512x256 .f32) :
    a.view.readCov (Val := Elt F) [⟨Rect.unit (s := S512x256) ![0, 0] S512x256.size inb_S512x256_S512x256_0_0, w⟩]
      (Rect.unit (s := S512x256) ![0, 0] S512x256.size inb_S512x256_S512x256_0_0).toLoadRect = w :=
  View.readCov_full a.view _ _ w []

/-! ## The loop over pairs of blocks -/

section Loop

variable {c : Dev nD} {i : grid0.Coords}
  {arg3 : Memref sig .tc .vmem S1x1024x128 .bf16} {harg3 : arg3.IsWhole}
  {arg4 : Memref sig .tc .vmem S1x1024x128 .bf16} {harg4 : arg4.IsWhole}
  {arg5 : Memref sig .tc .vmem S1x4096x128 .bf16} {harg5 : arg5.IsWhole}
  {arg6 : Memref sig .tc .vmem S1x4096x128 .bf16} {harg6 : arg6.IsWhole}
  {arg7 : Memref sig .tc .vmem S128x4096 .bf16} {harg7 : arg7.IsWhole}
  {arg8 : Memref sig .tc .vmem S1x1024x128 .bf16} {harg8 : arg8.IsWhole}
  {arg9 : Memref sig .tc .vmem S512x256 .f32} {harg9 : arg9.IsWhole}
  {arg10 : Memref sig .tc .vmem S512x256 .f32} {harg10 : arg10.IsWhole}
  {arg11 : Memref sig .tc .vmem S512x256 .f32} {harg11 : arg11.IsWhole}
  {arg12 : Memref sig .tc .vmem S512x256 .f32} {harg12 : arg12.IsWhole}
  {arg13 : Memref sig .tc .vmem S512x256 .f32} {harg13 : arg13.IsWhole}
  {arg14 : Memref sig .tc .vmem S512x256 .f32} {harg14 : arg14.IsWhole}
  {arg15 : Memref sig .tc .vmem S512x256 .f32} {harg15 : arg15.IsWhole}
  {arg16 : Memref sig .tc .vmem S512x256 .f32} {harg16 : arg16.IsWhole}
  {v4 v9 v14 v19 : FVec F S256x256 .bf16}

/-- A score buffer at given scores. -/
abbrev holds (c : Dev nD) (a : Memref sig .tc .vmem S512x256 .f32) (S : FVec F S512x256 .f32) : sProp 𝕄 :=
  iprop(∃ f : Buf (Elt F) (a.view.loc (c : Thread nD τ)), (a.view.loc (c : Thread nD τ) ↦[a.view.set]{fullShare}
    a.view.writes (Elt F) f [⟨Rect.unit (s := S512x256) ![0, 0] S512x256.size inb_S512x256_S512x256_0_0, S⟩]))

/-- A score buffer at anything. -/
abbrev some' (c : Dev nD) (a : Memref sig .tc .vmem S512x256 .f32) : sProp 𝕄 :=
  iprop(∃ f : Buf (Elt F) (a.view.loc (c : Thread nD τ)), (a.view.loc (c : Thread nD τ) ↦[a.view.set]{fullShare} f))

variable (x5 x6 : Vec F S1x4096x128 .bf16) (x7 : Vec F S128x4096 .bf16)

/-- The resources of the loops: the keys and values, the first four score buffers at the scores of block `n`, the
    others at anything. -/
abbrev resAt (c : Dev nD) (arg5 : Memref sig .tc .vmem S1x4096x128 .bf16) (harg5 : arg5.IsWhole)
    (arg6 : Memref sig .tc .vmem S1x4096x128 .bf16) (harg6 : arg6.IsWhole)
    (arg7 : Memref sig .tc .vmem S128x4096 .bf16) (harg7 : arg7.IsWhole)
    (arg9 arg10 arg11 arg12 arg13 arg14 arg15 arg16 : Memref sig .tc .vmem S512x256 .f32)
    (v4 v9 v14 v19 : FVec F S256x256 .bf16) (n : ℕ) : sProp 𝕄 :=
  iprop((arg5.view.loc (c : Thread nD τ) ↦[arg5.view.set]{fullShare} harg5.unread x5)
    ∗ (arg6.view.loc (c : Thread nD τ) ↦[arg6.view.set]{fullShare} harg6.unread x6)
    ∗ (arg7.view.loc (c : Thread nD τ) ↦[arg7.view.set]{fullShare} harg7.unread x7)
    ∗ holds c arg9 (score v4 x5 x6 n) ∗ holds c arg10 (score v9 x5 x6 n) ∗ holds c arg11 (score v14 x5 x6 n)
    ∗ holds c arg12 (score v19 x5 x6 n) ∗ some' c arg13 ∗ some' c arg14 ∗ some' c arg15 ∗ some' c arg16)

set_option warn.classDefReducibility false in
set_option maxHeartbeats 4000000 in
/-- The invariant before trip `k`: block `2 k` scored, the state that of the `2 k` blocks before. -/
@[sl_loop] def loopInv1 {init} :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 0#32 v4 v9 v14 v19 k0_pay96 k0_pay97 k0_pay98 k0_pay99 k0_pay100 k0_pay101 (Named.named κ "mask" 0xF149F2CA#32) init where
  inv k acc := iprop(resAt x5 x6 x7 c arg5 harg5 arg6 harg6 arg7 harg7 arg9 arg10 arg11 arg12 arg13 arg14 arg15 arg16 v4 v9 v14 v19 (2 * k)
    ∗ ⌜acc = tup v4 v9 v14 v19 x5 x6 x7 (2 * k)⌝)
  step k acc := by
    iintro ⟨⟨H5, H6, H7, ⟨%f9, H9⟩, ⟨%f10, H10⟩, ⟨%f11, H11⟩, ⟨%f12, H12⟩, ⟨%f13, H13⟩, ⟨%f14, H14⟩, ⟨%f15, H15⟩, ⟨%f16, H16⟩⟩, %hacc⟩
    subst hacc
    have e5a := rdK arg5 harg5 x5 _ (k0_off1_inb i k 0) _ (off1_0 i k)
    have e6a := rdK arg6 harg6 x6 _ (k0_off1_inb i k 0) _ (off1_0 i k)
    have e5b := rdK arg5 harg5 x5 _ (k0_off1_inb i k 1) _ (off1_1 i k)
    have e6b := rdK arg6 harg6 x6 _ (k0_off1_inb i k 1) _ (off1_1 i k)
    have e7a := rdV arg7 harg7 x7 _ (k0_off4_inb i k) _ (off4 i k)
    have e7b := rdV arg7 harg7 x7 _ (k0_off2_inb i k 0) _ (off2_0 i k)
    unfold tup k0_t1_body
    sl_exec
    sl_step
    isplitl
    · isplitl [H5]; · iexact H5
      isplitl [H6]; · iexact H6
      isplitl [H7]; · iexact H7
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      iexists _; iexact H16
    · ipureintro
      refine Prod.ext ?_ (Prod.ext ?_ (Prod.ext ?_ (Prod.ext ?_ (Prod.ext ?_ (Prod.ext ?_ (Prod.ext ?_ ?_))))))
      · dsimp only
        sl_unfold_run_names
        rw [readS' arg9]
        exact congrArg (fun S => k0_pay14 (k0_pay14 (stp v4 x5 x6 x7 (2 * k.val)).1 (score v4 x5 x6 (2 * k.val))) S)
          (readS arg13 _ _ _)
      · dsimp only
        sl_unfold_run_names
        rw [readS' arg9]
        exact congrArg (fun S => k0_pay31 (k0_pay31 (stp v4 x5 x6 x7 (2 * k.val)).2
            (k0_pay15 (stp v4 x5 x6 x7 (2 * k.val)).1 (score v4 x5 x6 (2 * k.val)))
            (k0_pay16 (stp v4 x5 x6 x7 (2 * k.val)).1 (score v4 x5 x6 (2 * k.val))) (blkV x7 (2 * k.val)))
            (k0_pay15 (k0_pay14 (stp v4 x5 x6 x7 (2 * k.val)).1 (score v4 x5 x6 (2 * k.val))) S)
            (k0_pay16 (k0_pay14 (stp v4 x5 x6 x7 (2 * k.val)).1 (score v4 x5 x6 (2 * k.val))) S) (blkV x7 (2 * k.val + 1)))
          (readS arg13 _ _ _)
      · dsimp only
        sl_unfold_run_names
        rw [readS' arg10]
        exact congrArg (fun S => k0_pay14 (k0_pay14 (stp v9 x5 x6 x7 (2 * k.val)).1 (score v9 x5 x6 (2 * k.val))) S)
          (readS arg14 _ _ _)
      · dsimp only
        sl_unfold_run_names
        rw [readS' arg10]
        exact congrArg (fun S => k0_pay31 (k0_pay31 (stp v9 x5 x6 x7 (2 * k.val)).2
            (k0_pay15 (stp v9 x5 x6 x7 (2 * k.val)).1 (score v9 x5 x6 (2 * k.val)))
            (k0_pay16 (stp v9 x5 x6 x7 (2 * k.val)).1 (score v9 x5 x6 (2 * k.val))) (blkV x7 (2 * k.val)))
            (k0_pay15 (k0_pay14 (stp v9 x5 x6 x7 (2 * k.val)).1 (score v9 x5 x6 (2 * k.val))) S)
            (k0_pay16 (k0_pay14 (stp v9 x5 x6 x7 (2 * k.val)).1 (score v9 x5 x6 (2 * k.val))) S) (blkV x7 (2 * k.val + 1)))
          (readS arg14 _ _ _)
      · dsimp only
        sl_unfold_run_names
        rw [readS' arg11]
        exact congrArg (fun S => k0_pay14 (k0_pay14 (stp v14 x5 x6 x7 (2 * k.val)).1 (score v14 x5 x6 (2 * k.val))) S)
          (readS arg15 _ _ _)
      · dsimp only
        sl_unfold_run_names
        rw [readS' arg11]
        exact congrArg (fun S => k0_pay31 (k0_pay31 (stp v14 x5 x6 x7 (2 * k.val)).2
            (k0_pay15 (stp v14 x5 x6 x7 (2 * k.val)).1 (score v14 x5 x6 (2 * k.val)))
            (k0_pay16 (stp v14 x5 x6 x7 (2 * k.val)).1 (score v14 x5 x6 (2 * k.val))) (blkV x7 (2 * k.val)))
            (k0_pay15 (k0_pay14 (stp v14 x5 x6 x7 (2 * k.val)).1 (score v14 x5 x6 (2 * k.val))) S)
            (k0_pay16 (k0_pay14 (stp v14 x5 x6 x7 (2 * k.val)).1 (score v14 x5 x6 (2 * k.val))) S) (blkV x7 (2 * k.val + 1)))
          (readS arg15 _ _ _)
      · dsimp only
        sl_unfold_run_names
        rw [readS' arg12]
        exact congrArg (fun S => k0_pay14 (k0_pay14 (stp v19 x5 x6 x7 (2 * k.val)).1 (score v19 x5 x6 (2 * k.val))) S)
          (readS arg16 _ _ _)
      · dsimp only
        sl_unfold_run_names
        rw [readS' arg12]
        exact congrArg (fun S => k0_pay31 (k0_pay31 (stp v19 x5 x6 x7 (2 * k.val)).2
            (k0_pay15 (stp v19 x5 x6 x7 (2 * k.val)).1 (score v19 x5 x6 (2 * k.val)))
            (k0_pay16 (stp v19 x5 x6 x7 (2 * k.val)).1 (score v19 x5 x6 (2 * k.val))) (blkV x7 (2 * k.val)))
            (k0_pay15 (k0_pay14 (stp v19 x5 x6 x7 (2 * k.val)).1 (score v19 x5 x6 (2 * k.val))) S)
            (k0_pay16 (k0_pay14 (stp v19 x5 x6 x7 (2 * k.val)).1 (score v19 x5 x6 (2 * k.val))) S) (blkV x7 (2 * k.val + 1)))
          (readS arg16 _ _ _)

set_option warn.classDefReducibility false in
/-- The remainder loop takes no trip: its invariant is what the first loop left. -/
@[sl_loop] def loopInv2 {v57 : BitVec 32} {init} (n : ℕ) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 0#32 v4 v9 v14 v19 v57 k0_pay96 k0_pay97 k0_pay98 k0_pay99 k0_pay100 k0_pay101 k0_pay98 k0_pay99 1#32 init where
  inv k acc := iprop(resAt x5 x6 x7 c arg5 harg5 arg6 harg6 arg7 harg7 arg9 arg10 arg11 arg12 arg13 arg14 arg15 arg16 v4 v9 v14 v19 n
    ∗ ⌜acc = init⌝)
  step k _ := absurd k.isLt (Nat.not_lt.2 (Nat.le_trans (k0_t2_abs i).2.1 (Nat.zero_le _)))

end Loop

end Cert.FoxIdeal.Flash
-- ==== Proof.FoxRun.lean ====
module

public import proofs.«01_k».proof.Proof.FoxLoop
public import proofs.«01_k».proof.Proof.Gen.FoxIdeal.Launch
public import proofs.«01_k».proof.Proof.Gen.FoxIdeal.Frame

@[expose] public section

set_option maxRecDepth 16384

noncomputable section

namespace Cert.FoxIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxIdeal Cert.FoxIdeal.Gen

variable {F : FTy → Type} [FloatOps F] [Named F]

local notation "𝕄" => MT nD τ sig Unit (Elt F) ℕ (UR sig nD τ) ℕ

set_option maxHeartbeats 4000000 in
theorem bodyRun (c : Dev nD) (i : grid0.Coords)
  (arg3 : Memref sig .tc .vmem S1x1024x128 .bf16) (harg3 : arg3.IsWhole)
  (arg4 : Memref sig .tc .vmem S1x1024x128 .bf16) (harg4 : arg4.IsWhole)
  (arg5 : Memref sig .tc .vmem S1x4096x128 .bf16) (harg5 : arg5.IsWhole)
  (arg6 : Memref sig .tc .vmem S1x4096x128 .bf16) (harg6 : arg6.IsWhole)
  (arg7 : Memref sig .tc .vmem S128x4096 .bf16) (harg7 : arg7.IsWhole)
  (arg8 : Memref sig .tc .vmem S1x1024x128 .bf16) (harg8 : arg8.IsWhole)
  (arg9 : Memref sig .tc .vmem S512x256 .f32) (harg9 : arg9.IsWhole)
  (arg10 : Memref sig .tc .vmem S512x256 .f32) (harg10 : arg10.IsWhole)
  (arg11 : Memref sig .tc .vmem S512x256 .f32) (harg11 : arg11.IsWhole)
  (arg12 : Memref sig .tc .vmem S512x256 .f32) (harg12 : arg12.IsWhole)
  (arg13 : Memref sig .tc .vmem S512x256 .f32) (harg13 : arg13.IsWhole)
  (arg14 : Memref sig .tc .vmem S512x256 .f32) (harg14 : arg14.IsWhole)
  (arg15 : Memref sig .tc .vmem S512x256 .f32) (harg15 : arg15.IsWhole)
  (arg16 : Memref sig .tc .vmem S512x256 .f32) (harg16 : arg16.IsWhole)
  (x3 x4 : Vec F S1x1024x128 .bf16) (x5 x6 : Vec F S1x4096x128 .bf16) (x7 : Vec F S128x4096 .bf16) :
    ∀ (K : PUnit → sProp 𝕄),
    iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7
      ∗ (∃ d, owns (c : Thread nD τ) arg8 fullShare d)
      ∗ (∃ d, owns (c : Thread nD τ) arg9 fullShare d) ∗ (∃ d, owns (c : Thread nD τ) arg10 fullShare d)
      ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (∃ d, owns (c : Thread nD τ) arg15 fullShare d) ∗ (∃ d, owns (c : Thread nD τ) arg16 fullShare d)
      ∗ (iprop(owns (c : Thread nD τ) arg3 fullShare x3 ∗ owns (c : Thread nD τ) arg4 fullShare x4 ∗ owns (c : Thread nD τ) arg5 fullShare x5
      ∗ owns (c : Thread nD τ) arg6 fullShare x6 ∗ owns (c : Thread nD τ) arg7 fullShare x7
      ∗ owns (c : Thread nD τ) arg8 fullShare (outF i x3 x4 x5 x6 x7)
      ∗ (∃ d, owns (c : Thread nD τ) arg9 fullShare d) ∗ (∃ d, owns (c : Thread nD τ) arg10 fullShare d)
      ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (∃ d, owns (c : Thread nD τ) arg15 fullShare d) ∗ (∃ d, owns (c : Thread nD τ) arg16 fullShare d)) -∗ K ⟨⟩))
    ⊢ wp Idealize.ShloMosaic.frame (wpE (defs₀ (F := F)) Variants.none (c : Thread nD τ) none) Set.univ
        (cc0_fox_attention i arg3 harg3 arg4 harg4 arg5 harg5 arg6 harg6 arg7 harg7 arg8 harg8 arg9 harg9 arg10 harg10 arg11 harg11 arg12 harg12 arg13 harg13 arg14 harg14 arg15 harg15 arg16 harg16) K := by
  intro K
  simp only [cc0_fox_attention_eq_skeleton]; unfold cc0_fox_attention_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg3.eq_unread hf3
  obtain rfl := harg4.eq_unread hf4
  obtain rfl := harg5.eq_unread hf5
  obtain rfl := harg6.eq_unread hf6
  obtain rfl := harg7.eq_unread hf7
  have q30 := rdQ arg3 harg3 x3 _ inb_S1x1024x128_S1x256x128_0_0_0 0 rfl
  have q31 := rdQ arg3 harg3 x3 _ inb_S1x1024x128_S1x256x128_0_256_0 1 rfl
  have q32 := rdQ arg3 harg3 x3 _ inb_S1x1024x128_S1x256x128_0_512_0 2 rfl
  have q33 := rdQ arg3 harg3 x3 _ inb_S1x1024x128_S1x256x128_0_768_0 3 rfl
  have q40 := rdQ arg4 harg4 x4 _ inb_S1x1024x128_S1x256x128_0_0_0 0 rfl
  have q41 := rdQ arg4 harg4 x4 _ inb_S1x1024x128_S1x256x128_0_256_0 1 rfl
  have q42 := rdQ arg4 harg4 x4 _ inb_S1x1024x128_S1x256x128_0_512_0 2 rfl
  have q43 := rdQ arg4 harg4 x4 _ inb_S1x1024x128_S1x256x128_0_768_0 3 rfl
  have k50 := rdK arg5 harg5 x5 _ inb_S1x4096x128_S1x512x128_0_0_0 0 rfl
  have k60 := rdK arg6 harg6 x6 _ inb_S1x4096x128_S1x512x128_0_0_0 0 rfl
  have k59 := rdHalfK arg5 harg5 x5 _ (k0_off9_inb i) _ (off9 i)
  have k69 := rdHalfK arg6 harg6 x6 _ (k0_off9_inb i) _ (off9 i)
  have k51 := rdK arg5 harg5 x5 _ (k0_off11_inb i) _ (off11 i)
  have k61 := rdK arg6 harg6 x6 _ (k0_off11_inb i) _ (off11 i)
  have v70 := rdHalfV arg7 harg7 x7 _ (k0_off10_inb i) _ (off10 i)
  have v71 := rdV arg7 harg7 x7 _ (k0_off12_inb i) _ (off12 i)
  have v72 := rdV arg7 harg7 x7 _ (k0_off13_inb i) _ (off13 i)
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_full]
    sl_unfold_run_names
    rw [readS' arg9, readS' arg10, readS' arg11, readS' arg12]
    simp only [trips1 i]
    rfl
  isplitl [H9]
  · iexists _, _; isplitr
    swap; · iexact H9
    ipureintro; rfl
  isplitl [H10]
  · iexists _, _; isplitr
    swap; · iexact H10
    ipureintro; rfl
  isplitl [H11]
  · iexists _, _; isplitr
    swap; · iexact H11
    ipureintro; rfl
  isplitl [H12]
  · iexists _, _; isplitr
    swap; · iexact H12
    ipureintro; rfl
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  iexists _, _; isplitr
  swap; · iexact H16
  ipureintro; rfl

end Cert.FoxIdeal.Flash
-- ==== Proof.FoxFrame.lean ====
module

public import proofs.«01_k».proof.Proof.FoxRun
public import Idealize.ShloMosaic.Lib.Claim

@[expose] public section

set_option maxRecDepth 16384

noncomputable section

namespace Cert.FoxIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body writes at point `t`, from the five input blocks there. -/
def outAt (c : Dev nD) (t : Fin cfg0.N) : Vec F S1x1024x128 .bf16 :=
  outF (grid0.coords t) (iblk m c 0 t) (iblk m c 1 t) (iblk m c 2 t) (iblk m c 3 t) (iblk m c 4 t)

/-- The region's proof data: the inputs keep their blocks, the output's buffer holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is given at point `t`, window by window, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def back (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

abbrev scr (c : Dev nD) (r : Ref sig .tc) : sProp 𝕄 :=
  iprop(∃ d, owns (c : Thread nD τ) (Memref.whole r) fullShare d)

/-- The region's own buffers: the eight score buffers, each at some contents. -/
theorem rest_eq (c : Dev nD) :
    (Pipeline.ΦA spec0 c : sProp 𝕄)
      = iprop(iprop(scr c cc0_scratch0 ∗ scr c cc0_scratch1 ∗ scr c cc0_scratch2 ∗ scr c cc0_scratch3
        ∗ scr c cc0_scratch4 ∗ scr c cc0_scratch5 ∗ scr c cc0_scratch6 ∗ scr c cc0_scratch7)
        ∗ (∃ r, prngReg c r)) := by
  unfold Pipeline.ΦA; rw [scopedRest0_eq]; simp only [scr, owns_whole]; try rfl

set_option maxHeartbeats 1600000 in
theorem body_at (c : Dev nD) (t : Fin cfg0.N) :
    given m c t ⊢ wp Idealize.ShloMosaic.frame (wpE (defs₀ (F := F)) Variants.none c none) Set.univ (bodyAt0 t) (fun _ => back m c t) := by
  unfold given back bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  rw [show (dats m 0 c).Φ t.castSucc = Pipeline.ΦA spec0 c from rfl, rest_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩⟩
  iapply (bodyRun c (grid0.coords t) _ _ _ _ _ _ _ _ _ _ _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  unfold outAt; iexact H5

theorem row_body (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_body]
  exact triple_restated (body_at m c t) rfl .rfl fun _ => .rfl

set_option backward.isDefEq.respectTransparency.types false in
/-- The whole run: the output array holds what the points wrote, and every counter ends at zero. -/
theorem run : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)
    (hQ' := fun _ h => h)

/-- The frame: it ends, the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.FoxIdeal.Flash
-- ==== Proof.Online.lean ====
module

public import Idealize.ShloMosaic.PureOps.Ideal.Laws

@[expose] public section

noncomputable section

/-! Base-2 softmax over the extended reals, a block of keys at a time: the running maximum and the running
    weighted sum of the keys seen so far, how a block extends them, and what their quotient is. -/

namespace Cert.Online

open Idealize.ShloMosaic

variable (z v : ℕ → EReal)

/-- The largest of the first `n` scores. -/
def top (n : ℕ) : EReal := (Finset.range n).sup z

/-- The values weighted by the first `n` scores' powers of two, each relative to the largest. -/
def wsum (n : ℕ) : EReal := ∑ j ∈ Finset.range n, Ideal.exp2 (z j - top z n) * v j

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp2_ne_top {x : EReal} (h : x ≠ ⊤) : Ideal.exp2 x ≠ ⊤ := by
  induction x with
  | bot => simp
  | top => exact absurd rfl h
  | coe r => rw [Ideal.exp2_coe]; exact EReal.coe_ne_top _

theorem exp2_zero : Ideal.exp2 0 = 1 := by
  rw [show (0 : EReal) = ((0 : ℝ) : EReal) from rfl, Ideal.exp2_coe]
  show ((Real.rpow 2 0 : ℝ) : EReal) = 1
  rw [show Real.rpow 2 0 = 1 from Real.rpow_zero 2]; rfl

theorem sub_ne_top {a b : EReal} (h : a ≤ b) (hb : b ≠ ⊤) : a - b ≠ ⊤ := by
  induction b with
  | top => exact absurd rfl hb
  | bot => rw [le_bot_iff.mp h]; simp
  | coe r =>
    induction a with
    | top => simp at h
    | bot => simp
    | coe s => rw [← EReal.coe_sub]; exact EReal.coe_ne_top _

/-- Re-basing a weight: relative to `m`, then from `m` to `m'`. -/
theorem exp2_rebase {s m m' : EReal} (h : s ≤ m) (h' : m ≤ m') (hm : m' ≠ ⊤) :
    Ideal.exp2 (m - m') * Ideal.exp2 (s - m) = Ideal.exp2 (s - m') := by
  induction m with
  | top => exact absurd (top_le_iff.mp h') hm
  | bot => rw [le_bot_iff.mp h]; simp
  | coe r =>
    induction m' with
    | top => exact absurd rfl hm
    | bot => simp at h'
    | coe r' =>
      induction s with
      | top => simp at h
      | bot => simp
      | coe t =>
        rw [← EReal.coe_sub, ← EReal.coe_sub, ← EReal.coe_sub, Ideal.exp2_coe, Ideal.exp2_coe, Ideal.exp2_coe, ← EReal.coe_mul]
        congr 1
        show (2 : ℝ) ^ (r - r') * (2 : ℝ) ^ (t - r) = (2 : ℝ) ^ (t - r')
        rw [← Real.rpow_add (by norm_num)]; congr 1; ring

/-- A finite nonnegative factor goes through a sum of extended reals. -/
theorem mul_sum_of {ι : Type} (S : Finset ι) (f : ι → EReal) {a : EReal} (ha : 0 ≤ a) (ha' : a ≠ ⊤) :
    a * ∑ i ∈ S, f i = ∑ i ∈ S, a * f i := by
  classical
  induction S using Finset.induction_on with
  | empty => simp
  | insert i S hi ih =>
    rw [Finset.sum_insert hi, Finset.sum_insert hi, EReal.left_distrib_of_nonneg_of_ne_top ha ha', ih]

theorem top_zero : top z 0 = ⊥ := rfl
theorem wsum_zero : wsum z v 0 = 0 := rfl

theorem le_top {j n : ℕ} (h : j < n) : z j ≤ top z n := Finset.le_sup (Finset.mem_range.mpr h)

theorem top_mono {n k : ℕ} (h : n ≤ k) : top z n ≤ top z k :=
  Finset.sup_mono (Finset.range_mono h)

theorem top_ne_top (hz : ∀ j, z j ≠ ⊤) (n : ℕ) : top z n ≠ ⊤ := by
  refine ne_of_lt ?_
  unfold top
  rw [Finset.sup_lt_iff (by exact bot_lt_top)]
  exact fun j _ => lt_top_iff_ne_top.mpr (hz j)

/-- The running maximum over a block of `b` more scores. -/
theorem top_add (n b : ℕ) : top z (n + b) = max (top z n) ((Finset.univ : Finset (Fin b)).fold max ⊥ fun j => z (n + j.val)) := by
  show _ = max (top z n) ((Finset.univ : Finset (Fin b)).sup fun j => z (n + j.val))
  apply le_antisymm
  · refine Finset.sup_le fun j hj => ?_
    rw [Finset.mem_range] at hj
    by_cases h : j < n
    · exact le_max_of_le_left (le_top z h)
    · refine le_max_of_le_right ?_
      have := Finset.le_sup (f := fun j : Fin b => z (n + j.val)) (Finset.mem_univ (⟨j - n, by omega⟩ : Fin b))
      simpa [show n + (j - n) = j by omega] using this
  · refine max_le (top_mono z (Nat.le_add_right n b)) (Finset.sup_le fun j _ => le_top z ?_)
    have := j.isLt; omega

/-- The running sum over a block of `b` more scores: the old one re-based, and the block's terms. -/
theorem wsum_add (hz : ∀ j, z j ≠ ⊤) (n b : ℕ) :
    wsum z v (n + b) = Ideal.exp2 (top z n - top z (n + b)) * wsum z v n
      + ∑ j : Fin b, Ideal.exp2 (z (n + j.val) - top z (n + b)) * v (n + j.val) := by
  have hle : top z n ≤ top z (n + b) := top_mono z (Nat.le_add_right n b)
  have hT := top_ne_top z hz (n + b)
  unfold wsum
  rw [Finset.sum_range_add, mul_sum_of _ _ (exp2_nonneg _) (exp2_ne_top (sub_ne_top hle hT))]
  congr 1
  · refine Finset.sum_congr rfl fun j hj => ?_
    rw [← mul_assoc, exp2_rebase (le_top z (Finset.mem_range.mp hj)) hle hT]
  · rw [Finset.sum_range]

/-- Scores at minus infinity past the first `n` change nothing. -/
theorem top_tail {n k : ℕ} (h : n ≤ k) (hz : ∀ j, n ≤ j → z j = ⊥) : top z k = top z n := by
  apply le_antisymm _ (top_mono z h)
  refine Finset.sup_le fun j _ => ?_
  by_cases hj : j < n
  · exact le_top z hj
  · rw [hz j (not_lt.mp hj)]; exact bot_le

theorem wsum_tail {n k : ℕ} (h : n ≤ k) (hz : ∀ j, n ≤ j → z j = ⊥) : wsum z v k = wsum z v n := by
  obtain ⟨b, rfl⟩ := Nat.exists_eq_add_of_le h
  unfold wsum
  rw [Finset.sum_range_add, top_tail z h hz]
  rw [Finset.sum_eq_zero (s := Finset.range b), add_zero]
  intro j _
  rw [hz _ (Nat.le_add_right n j), EReal.bot_sub, Ideal.exp2_bot, zero_mul]

/-- The softmax of the first `n` scores applied to the values is the quotient of the two weighted sums. -/
theorem softmax_eq {n : ℕ} (hz : ∀ j, z j ≠ ⊤) (j₀ : ℕ) (h₀ : j₀ < n) (h : z j₀ ≠ ⊥) :
    ∑ j ∈ Finset.range n, Ideal.div (Ideal.exp2 (z j - top z n)) (wsum z (fun _ => 1) n) * v j
      = Ideal.div (wsum z v n) (wsum z (fun _ => 1) n) := by
  obtain ⟨k, hk, ek⟩ : ∃ k ∈ Finset.range n, top z n = z k :=
    Finset.exists_mem_eq_sup _ ⟨j₀, Finset.mem_range.mpr h₀⟩ z
  have hb : z k ≠ ⊥ := fun e => h (le_bot_iff.mp (by rw [← e, ← ek]; exact le_top z h₀))
  have h1 : (1 : EReal) ≤ wsum z (fun _ => 1) n := by
    have h2 := Finset.single_le_sum (f := fun j => Ideal.exp2 (z j - top z n) * 1) (s := Finset.range n)
      (fun j _ => by rw [mul_one]; exact exp2_nonneg _) hk
    refine le_trans (le_of_eq ?_) h2
    show (1 : EReal) = Ideal.exp2 (z k - top z n) * 1
    rw [ek, EReal.sub_self (hz k) hb, exp2_zero, mul_one]
  have hL : wsum z (fun _ => 1) n ≠ 0 := by
    intro e; rw [e] at h1; exact absurd h1 (by norm_num)
  have hpos : (0 : EReal) ≤ (wsum z (fun _ => 1) n)⁻¹ := EReal.inv_nonneg_of_nonneg (le_trans zero_le_one h1)
  have hne : (wsum z (fun _ => 1) n)⁻¹ ≠ ⊤ := by
    generalize wsum z (fun _ => 1) n = L
    induction L with
    | bot => simp
    | top => simp
    | coe r => rw [← EReal.coe_inv]; exact EReal.coe_ne_top _
  unfold Ideal.div
  simp only [if_neg hL]
  rw [mul_comm (wsum z v n)]
  rw [show wsum z v n = ∑ j ∈ Finset.range n, Ideal.exp2 (z j - top z n) * v j from rfl, mul_sum_of _ _ hpos hne]
  refine Finset.sum_congr rfl fun j _ => ?_
  rw [mul_comm (Ideal.exp2 _), mul_assoc]

/-- A power of two as the natural exponential prints it. -/
theorem exp_ln2 (x : EReal) : Ideal.exp (((Real.log 2 : ℝ) : EReal) * x) = Ideal.exp2 x := by
  have hl : 0 < Real.log 2 := Real.log_pos (by norm_num)
  induction x with
  | bot => rw [EReal.coe_mul_bot_of_pos hl]; rfl
  | top => rw [EReal.coe_mul_top_of_pos hl]; rfl
  | coe r =>
    rw [← EReal.coe_mul, Ideal.exp2_coe]
    show ((Real.exp (Real.log 2 * r) : ℝ) : EReal) = (((2 : ℝ) ^ r : ℝ) : EReal)
    rw [Real.rpow_def_of_pos (by norm_num)]

end Cert.Online
-- ==== Proof.FoxValue.lean ====
module

public import proofs.«01_k».proof.Proof.FoxFrame
public import proofs.«01_k».proof.Proof.Online
public import Idealize.ShloMosaic.Lib.Pointwise
public import Idealize.ShloMosaic.Lib.WordCmp
public import Idealize.ShloMosaic.PureOps.Ideal.Laws
public import Idealize.ShloMosaic.PureOps.IdealRules

@[expose] public section

set_option maxRecDepth 16384

noncomputable section

/-! What one tile of the attention kernel writes, over the extended reals: for each query row the quotient of the
    two weighted sums over all 4096 keys, keys past the query counted as minus infinity. -/

namespace Cert.FoxIdeal.Flash

open Idealize.ShloMosaic Idealize.ShloMosaic.TcCoe
open Cert.FoxIdeal Cert.FoxIdeal.Gen Cert.Online

/-! ## The operations at an index -/

theorem negInf : Ideal.ofBits .f32 0xFF800000#32 = (⊥ : EReal) := by
  simp [Ideal.ofBits, Ideal.ieee]

theorem maskVal : (Named.named (F := Ideal) κ "mask" (φ := .f32) 0xF149F2CA#32 : EReal) = ⊥ :=
  IdealRules.named_const.ideal_named_scalar _ _ _ _ rfl

theorem sel_le {α : Type} (a k b k' : ℕ) (h : a + k < 2 ^ 31) (h' : b + k' < 2 ^ 31) (p : Prop) [Decidable p] (hp : a + k ≤ b + k' ↔ p) (x y : α) :
    Scalar.select (IntOp.cmpi .sle (IntOp.addi (BitVec.ofNat 32 a) (BitVec.ofNat 32 k)) (IntOp.addi (BitVec.ofNat 32 b) (BitVec.ofNat 32 k'))) x y
      = if p then x else y := by
  have e : IntOp.cmpi .sle (IntOp.addi (BitVec.ofNat 32 a) (BitVec.ofNat 32 k)) (IntOp.addi (BitVec.ofNat 32 b) (BitVec.ofNat 32 k'))
      = IntOp.cmpi .sle (BitVec.ofNat 32 (a + k)) (BitVec.ofNat 32 (b + k')) := by
    rw [BitVec.ofNat_add, BitVec.ofNat_add]; rfl
  rw [e]
  unfold Scalar.select
  by_cases hc : a + k ≤ b + k'
  · rw [if_pos (hp.mp hc), (WordCmp.cmpi_sle_ofNat_eq_one_iff (w := 32) h h').mpr hc]; rfl
  · rw [if_neg fun q => hc (hp.mpr q)]
    have hn : ¬ IntOp.cmpi .sle (BitVec.ofNat 32 (a + k)) (BitVec.ofNat 32 (b + k')) = 1#1 :=
      fun hh => hc ((WordCmp.cmpi_sle_ofNat_eq_one_iff (w := 32) h h').mp hh)
    exact if_neg hn

theorem masked0 (S : FVec Ideal S512x256 .f32) (y : Fin 512) (c : Fin 256) :
    @Eq EReal ((k0_pay119 (F := Ideal) S : FVec Ideal S512x256 .f32) (ix2 y c)) (if y.val ≤ c.val + 256 then S (ix2 y c) else ⊥) := by
  have := y.isLt; have := c.isLt
  unfold k0_pay119; pointwise
  rw [sel_le y.val 0 c.val 256 (by omega) (by omega) (y.val ≤ c.val + 256) (by omega), maskVal]

theorem masked3 (S : FVec Ideal S512x256 .f32) (y : Fin 512) (c : Fin 256) :
    @Eq EReal (k0_pay117 S k0_pay115 (iota .tc S512x256 32 [1] iota_S512x256_d1_w32) k0_pay116 (ix2 y c))
      (if y.val ≤ c.val + 256 then S (ix2 y c) else ⊥) := by
  have := y.isLt; have := c.isLt
  unfold k0_pay117 k0_pay115 k0_pay116; pointwise
  rw [sel_le y.val 512 c.val 768 (by omega) (by omega) (y.val ≤ c.val + 256) (by omega), maskVal]

/-- The first stream's diagonal block. -/
def mask0 (S : FVec Ideal S512x256 .f32) : FVec Ideal S512x256 .f32 :=
  select (cmpi .sle (addi (iota .tc S512x256 32 [0] iota_S512x256_d0_w32) (broadcast S512x256 0#32))
    (addi (iota .tc S512x256 32 [1] iota_S512x256_d1_w32) (broadcast S512x256 0#32))) S (broadcast S512x256 (Named.named κ "mask" 0xF149F2CA#32))

theorem mask0_apply (S : FVec Ideal S512x256 .f32) (y : Fin 512) (c : Fin 256) :
    @Eq EReal (mask0 S (ix2 y c)) (if y.val ≤ c.val then S (ix2 y c) else ⊥) := by
  have := y.isLt; have := c.isLt
  unfold mask0; pointwise
  rw [sel_le y.val 0 c.val 0 (by omega) (by omega) (y.val ≤ c.val) (by omega), maskVal]

theorem first_eq (m : FVec Ideal S1x256 .f32) (acc : FVec Ideal S144x256 .f32) (v : Vec Ideal S128x512 .bf16) (S : Vec Ideal S512x256 .f32) :
    k0_pay118 m acc v S = k0_pay31 acc (k0_pay15 m (mask0 S)) (k0_pay16 m (mask0 S)) v := rfl
theorem second_eq (m : FVec Ideal S1x256 .f32) (acc : FVec Ideal S144x256 .f32) (v : Vec Ideal S128x512 .bf16) (S : Vec Ideal S512x256 .f32) :
    k0_pay121 m acc v (k0_pay119 S) (k0_pay120 S) = k0_pay31 acc (k0_pay15 m (k0_pay119 S)) (k0_pay16 m (k0_pay119 S)) v := rfl
theorem third_eq (m : FVec Ideal S1x256 .f32) (acc : FVec Ideal S144x256 .f32) (v : Vec Ideal S128x512 .bf16) (S : Vec Ideal S512x256 .f32) :
    k0_pay123 m acc v S = k0_pay31 acc (k0_pay15 m S) (k0_pay16 m S) v := rfl
theorem fourth_eq (m : FVec Ideal S1x256 .f32) (acc : FVec Ideal S144x256 .f32) (v : Vec Ideal S128x512 .bf16) (S : Vec Ideal S512x256 .f32) :
    k0_pay125 m acc v S = k0_pay31 acc (k0_pay15 m S) (k0_pay16 m S) v := rfl

/-- The weights of row `d` of the running sums: the values' row, and ones below the values. -/
def vrow (x7 : Vec Ideal S128x4096 .bf16) (d : ℕ) (j : ℕ) : EReal :=
  if h : d < 128 then x7 (ix2 (⟨d, h⟩ : Fin 128) ⟨j % 4096, Nat.mod_lt _ (by decide)⟩) else 1

/-- A stream's state holds the maximum and the weighted sums of the first `n` keys, at query `c`. -/
def Holds (x7 : Vec Ideal S128x4096 .bf16) (z : ℕ → EReal) (c : Fin 256) (n : ℕ) (m : FVec Ideal S1x256 .f32) (acc : FVec Ideal S144x256 .f32) : Prop :=
  @Eq EReal (m (ix2 0 c)) (top z n) ∧ ∀ d : Fin 144, @Eq EReal (acc (ix2 d c)) (wsum z (vrow x7 d.val) n)

theorem start (x7 : Vec Ideal S128x4096 .bf16) (z : ℕ → EReal) (c : Fin 256) : Holds x7 z c 0 k0_pay96 k0_pay97 := by
  constructor
  · unfold k0_pay96; pointwise; rw [maskVal]; rfl
  · intro d
    unfold k0_pay97; pointwise; rfl

theorem step (x7 : Vec Ideal S128x4096 .bf16) (z : ℕ → EReal) (hz : ∀ j, z j ≠ ⊤) (c : Fin 256) (n : ℕ) (m : FVec Ideal S1x256 .f32) (acc : FVec Ideal S144x256 .f32)
    (h : Holds x7 z c (512 * n) m acc) (S : FVec Ideal S512x256 .f32) (hS : ∀ y : Fin 512, @Eq EReal (S (ix2 y c)) (z (512 * n + y.val))) :
    Holds x7 z c (512 * (n + 1)) (k0_pay14 m S) (k0_pay31 acc (k0_pay15 m S) (k0_pay16 m S) (blkV x7 n)) := by
  have hm : @Eq EReal (k0_pay14 m S (ix2 0 c)) (top z (512 * n + 512)) := by
    unfold k0_pay14; pointwise
    rw [top_add, h.1, negInf]
    simp only [hS]
  refine ⟨hm, fun d => ?_⟩
  show @Eq EReal _ (wsum z (vrow x7 d.val) (512 * n + 512))
  rw [wsum_add z _ hz]
  have hp : ∀ y : Fin 512, @Eq EReal (k0_pay15 m S (ix2 y c)) (Ideal.exp2 (z (512 * n + y.val) - top z (512 * n + 512))) := fun y => by
    unfold k0_pay15; pointwise; rw [hm, hS]; rfl
  have ha : @Eq EReal (k0_pay16 m S (ix2 0 c)) (Ideal.exp2 (top z (512 * n) - top z (512 * n + 512))) := by
    unfold k0_pay16; pointwise; rw [hm, h.1]; rfl
  unfold k0_pay31; pointwise
  rw [ha, h.2]
  congr 1
  refine Finset.sum_congr rfl fun y _ => ?_
  rw [hp, mul_comm]
  rfl

/-! ## The scores -/

/-- The score of key `j` against row `r` of the tile: the content term and the forget bias. -/
def dot (x3 x4 : Vec Ideal S1x1024x128 .bf16) (x5 x6 : Vec Ideal S1x4096x128 .bf16) (r : Fin 1024) (j : Fin 4096) : EReal :=
  (∑ k : Fin 128, x5 (ix3 0 j k) * x3 (ix3 0 r k)) + ∑ k : Fin 128, x6 (ix3 0 j k) * x4 (ix3 0 r k)

/-- The same, minus infinity for a key past query `Q`. -/
def zrow (x3 x4 : Vec Ideal S1x1024x128 .bf16) (x5 x6 : Vec Ideal S1x4096x128 .bf16) (r : Fin 1024) (Q : ℕ) (j : ℕ) : EReal :=
  if j ≤ Q then dot x3 x4 x5 x6 r ⟨j % 4096, Nat.mod_lt _ (by decide)⟩ else ⊥

/-- Row `c` of stream `e`. -/
def rowOf (e : Fin 4) (c : Fin 256) : Fin 1024 := ⟨256 * e.val + c.val, by omega⟩

theorem qx_left (x3 x4 : Vec Ideal S1x1024x128 .bf16) (e : Fin 4) (c : Fin 256) (k : Fin 128) (hk : k.val < 256) :
    @Eq EReal (qx x3 x4 e.val (ix2 c ⟨k.val, hk⟩)) (x3 (ix3 0 (rowOf e c) k)) := by
  unfold qx k0_pay92; pointwise
  unfold qrow
  show x3 _ = x3 _
  congr 1
  have : (256 * e.val + c.val) % 1024 = 256 * e.val + c.val := Nat.mod_eq_of_lt (rowOf e c).isLt
  funext a; apply Fin.ext
  match a with
  | ⟨0, _⟩ => rfl
  | ⟨1, _⟩ => exact this
  | ⟨2, _⟩ => rfl

theorem qx_right (x3 x4 : Vec Ideal S1x1024x128 .bf16) (e : Fin 4) (c : Fin 256) (k : Fin 128) (hk : 128 + k.val < 256) :
    @Eq EReal (qx x3 x4 e.val (ix2 c ⟨128 + k.val, hk⟩)) (x4 (ix3 0 (rowOf e c) k)) := by
  unfold qx k0_pay92; pointwise
  unfold qrow
  show x4 _ = x4 _
  congr 1
  have : (256 * e.val + c.val) % 1024 = 256 * e.val + c.val := Nat.mod_eq_of_lt (rowOf e c).isLt
  funext a; apply Fin.ext
  match a with
  | ⟨0, _⟩ => rfl
  | ⟨1, _⟩ => exact this
  | ⟨2, _⟩ => rfl

theorem score_apply (x3 x4 : Vec Ideal S1x1024x128 .bf16) (x5 x6 : Vec Ideal S1x4096x128 .bf16) (e : Fin 4) (c : Fin 256) (n : ℕ) (y : Fin 512) :
    @Eq EReal (score (qx x3 x4 e.val) x5 x6 n (ix2 y c)) (dot x3 x4 x5 x6 (rowOf e c) ⟨(512 * n + y.val) % 4096, Nat.mod_lt _ (by decide)⟩) := by
  unfold score k0_pay3 k0_pay2; pointwise
  simp only [qx_left, qx_right]
  rfl

theorem score114_apply (x3 x4 : Vec Ideal S1x1024x128 .bf16) (x5 x6 : Vec Ideal S1x4096x128 .bf16) (e : Fin 4) (c : Fin 256) (n : ℕ) (y : Fin 512) :
    @Eq EReal (k0_pay114 (qx x3 x4 e.val) (blkK x5 n) (blkK x6 n) (ix2 y c)) (dot x3 x4 x5 x6 (rowOf e c) ⟨(512 * n + y.val) % 4096, Nat.mod_lt _ (by decide)⟩) := by
  unfold k0_pay114; pointwise
  simp only [qx_left, qx_right]
  rfl

theorem half_apply (x3 x4 : Vec Ideal S1x1024x128 .bf16) (x5 x6 : Vec Ideal S1x4096x128 .bf16) (e : Fin 4) (c : Fin 256) (n : ℕ) (y : Fin 256) :
    @Eq EReal (k0_pay113 (qx x3 x4 e.val) (halfK x5 n) (halfK x6 n) (ix2 y c))
      (if y.val ≤ c.val then dot x3 x4 x5 x6 (rowOf e c) ⟨(512 * n + y.val) % 4096, Nat.mod_lt _ (by decide)⟩ else ⊥) := by
  have := y.isLt; have := c.isLt
  unfold k0_pay113; pointwise
  rw [sel_le y.val 512 c.val 512 (by omega) (by omega) (y.val ≤ c.val) (by omega), maskVal]
  simp only [qx_left, qx_right]
  rfl

/-! ## The last half block of the third stream, and the quotients -/

/-- The third stream's running sums over the last 256 keys it sees. -/
def accHalf (v : Vec Ideal S128x256 .bf16) (S : FVec Ideal S256x256 .f32) (m : FVec Ideal S1x256 .f32) (acc : FVec Ideal S144x256 .f32) : FVec Ideal S144x256 .f32 :=
  addf (mulf (broadcastTo S144x256 (exp2 (subf m (maximumf m (k0_pay126 S)))) broadcasts_S1x256_S144x256) acc)
    (matmul dot_S144x256_S256x256_S144x256_1_0_0_1_n_n none
      (concatenate S144x256 0 [⟨S128x256, v⟩, ⟨S16x256, broadcast S16x256 (Scalar.ofBits .bf16 0x3F80#16)⟩] concatenates_S128x256_S16x256_S144x256_d0)
      (truncf .bf16 (exp2 (subf S (broadcastTo S256x256 (maximumf m (k0_pay126 S)) broadcasts_S1x256_S256x256))) bitsLt_bf16_f32)
      (constant S144x256 .f32 0x00000000#32))

/-- One stream's quotient. -/
def quot (a : FVec Ideal S144x256 .f32) : FVec Ideal S128x256 .f32 :=
  divf (extractStridedSlice S128x256 ![0, 0] a slices_S144x256_o0_0_S128x256)
    (broadcastTo S128x256 (extractStridedSlice S1x256 ![128, 0] a slices_S144x256_o128_0_S1x256) broadcasts_S1x256_S128x256)

/-- The four streams' quotients, row by row. -/
def rows4 (a0 a1 a2 a3 : FVec Ideal S128x256 .f32) : FVec Ideal S1x1024x128 .bf16 :=
  k0_pay1 (truncf .bf16 (transpose S1024x128 [1, 0]
    (concatenate S128x1024 1 [⟨S128x256, a0⟩, ⟨S128x256, a1⟩, ⟨S128x256, a2⟩, ⟨S128x256, a3⟩] concatenates_S128x256_S128x256_S128x256_S128x256_S128x1024_d1)
    transposes_S128x1024_p1_0_S1024x128) bitsLt_bf16_f32)

theorem last_eq (v71 : Vec Ideal S128x256 .bf16) (v81 : FVec Ideal S256x256 .f32) (v92 : Vec Ideal S128x512 .bf16) (v102 : FVec Ideal S512x256 .f32)
    (v130 v155 : FVec Ideal S144x256 .f32) (v159 : FVec Ideal S1x256 .f32) (v171 : FVec Ideal S144x256 .f32) (v175 : FVec Ideal S1x256 .f32) (v187 : FVec Ideal S144x256 .f32) :
    k0_pay1 (k0_pay127 v71 v81 v92 v102 v130 v155 v159 v171 v175 v187 (k0_pay126 v81))
      = rows4 (quot v130) (quot v155) (quot (accHalf v71 v81 v159 v171)) (quot (k0_pay31 v187 (k0_pay15 v175 v102) (k0_pay16 v175 v102) v92)) := rfl

theorem quot_apply (a : FVec Ideal S144x256 .f32) (d : Fin 128) (c : Fin 256) :
    @Eq EReal (quot a (ix2 d c)) (Ideal.div (a (ix2 (⟨d.val, by omega⟩ : Fin 144) c)) (a (ix2 (128 : Fin 144) c))) := by
  unfold quot; pointwise

theorem rows4_apply (a : Fin 4 → FVec Ideal S128x256 .f32) (e : Fin 4) (c : Fin 256) (d : Fin 128) :
    @Eq EReal (rows4 (a 0) (a 1) (a 2) (a 3) (ix3 0 (rowOf e c) d)) (a e (ix2 d c)) := by
  have hc := c.isLt
  have hr : (rowOf e c).val = 256 * e.val + c.val := rfl
  unfold rows4 k0_pay1; pointwise
  match e, hr with
  | 0, hr =>
    have h' : (rowOf 0 c).val = c.val := by rw [hr]; simp
    rw [dif_pos (by omega)]
    exact congrArg (fun q => a 0 (ix2 d q)) (Fin.ext h')
  | 1, hr =>
    have h' : (rowOf 1 c).val = 256 + c.val := hr
    rw [dif_neg (by omega), dif_pos (by omega)]
    exact congrArg (fun q => a 1 (ix2 d q)) (Fin.ext (by show (rowOf 1 c).val - 256 = c.val; omega))
  | 2, hr =>
    have h' : (rowOf 2 c).val = 512 + c.val := hr
    rw [dif_neg (by omega), dif_neg (by omega), dif_pos (by omega)]
    exact congrArg (fun q => a 2 (ix2 d q)) (Fin.ext (by show (rowOf 2 c).val - 256 - 256 = c.val; omega))
  | 3, hr =>
    have h' : (rowOf 3 c).val = 768 + c.val := hr
    rw [dif_neg (by omega), dif_neg (by omega), dif_neg (by omega)]
    exact congrArg (fun q => a 3 (ix2 d q)) (Fin.ext (by show (rowOf 3 c).val - 256 - 256 - 256 = c.val; omega))

theorem half_step (x7 : Vec Ideal S128x4096 .bf16) (z : ℕ → EReal) (hz : ∀ j, z j ≠ ⊤) (c : Fin 256) (n : ℕ) (m : FVec Ideal S1x256 .f32) (acc : FVec Ideal S144x256 .f32)
    (h : Holds x7 z c (512 * n) m acc) (S : FVec Ideal S256x256 .f32) (hS : ∀ y : Fin 256, @Eq EReal (S (ix2 y c)) (z (512 * n + y.val))) (d : Fin 144) :
    @Eq EReal (accHalf (halfV x7 n) S m acc (ix2 d c)) (wsum z (vrow x7 d.val) (512 * n + 256)) := by
  have hm : @Eq EReal (maximumf m (k0_pay126 S) (ix2 0 c)) (top z (512 * n + 256)) := by
    unfold k0_pay126; pointwise
    rw [top_add, h.1, negInf]
    simp only [hS]
  rw [wsum_add z _ hz]
  unfold accHalf
  generalize maximumf m (k0_pay126 S) = m' at hm
  pointwise
  rw [hm, h.1, h.2]
  congr 1
  refine Finset.sum_congr rfl fun y _ => ?_
  rw [hS, mul_comm]
  rfl

/-! ## The tile -/

section Tile
variable (i : grid0.Coords) (x3 x4 : Vec Ideal S1x1024x128 .bf16) (x5 x6 : Vec Ideal S1x4096x128 .bf16) (x7 : Vec Ideal S128x4096 .bf16)

/-- Where the tile's row `r` lies in the sequence. -/
def qpos (r : Fin 1024) : ℕ := 1024 * (i 2).val + r.val

theorem zrow_of_le (r : Fin 1024) (Q j : ℕ) (h : j ≤ Q) :
    zrow x3 x4 x5 x6 r Q j = dot x3 x4 x5 x6 r ⟨j % 4096, Nat.mod_lt _ (by decide)⟩ := if_pos h

theorem zrow_of_lt (r : Fin 1024) (Q j : ℕ) (h : Q < j) : zrow x3 x4 x5 x6 r Q j = ⊥ := if_neg (by omega)

variable (hd : ∀ r j, dot x3 x4 x5 x6 r j ≠ ⊤)
include hd

theorem zrow_ne_top (r : Fin 1024) (Q j : ℕ) : zrow x3 x4 x5 x6 r Q j ≠ ⊤ := by
  unfold zrow
  split
  · exact hd _ _
  · exact bot_ne_top

theorem loop_holds (e : Fin 4) (c : Fin 256) (n : ℕ) (hn : n ≤ 2 * (i 2).val) :
    Holds x7 (zrow x3 x4 x5 x6 (rowOf e c) (qpos i (rowOf e c))) c (512 * n) (stp (qx x3 x4 e.val) x5 x6 x7 n).1 (stp (qx x3 x4 e.val) x5 x6 x7 n).2 := by
  induction n with
  | zero => exact start _ _ _
  | succ n ih =>
    refine step _ _ (zrow_ne_top x3 x4 x5 x6 hd _ _) c n _ _ (ih (by omega)) _ fun y => ?_
    rw [score_apply, zrow_of_le]
    have := y.isLt
    show 512 * n + y.val ≤ 1024 * (i 2).val + (256 * e.val + c.val)
    omega

theorem tile_apply (e : Fin 4) (c : Fin 256) (d : Fin 128) :
    @Eq EReal (outF i x3 x4 x5 x6 x7 (ix3 0 (rowOf e c) d))
      (Ideal.div (wsum (zrow x3 x4 x5 x6 (rowOf e c) (qpos i (rowOf e c))) (vrow x7 d.val) 4096)
        (wsum (zrow x3 x4 x5 x6 (rowOf e c) (qpos i (rowOf e c))) (vrow x7 128) 4096)) := by
  have hi : (i 2).val < 4 := (i 2).isLt
  have hc := c.isLt
  unfold outF
  dsimp only
  rw [last_eq, first_eq, second_eq, third_eq, fourth_eq]
  have hz := zrow_ne_top x3 x4 x5 x6 hd
  have L := fun e => loop_holds i x3 x4 x5 x6 x7 hd e c (2 * (i 2).val) le_rfl
  have fin : ∀ (e : Fin 4) (k : ℕ) (a : FVec Ideal S144x256 .f32), k ≤ 4096 → 1024 * (i 2).val + 256 * e.val + c.val < k →
      (∀ d : Fin 144, @Eq EReal (a (ix2 d c)) (wsum (zrow x3 x4 x5 x6 (rowOf e c) (qpos i (rowOf e c))) (vrow x7 d.val) k)) →
      @Eq EReal (quot a (ix2 d c)) (Ideal.div (wsum (zrow x3 x4 x5 x6 (rowOf e c) (qpos i (rowOf e c))) (vrow x7 d.val) 4096)
        (wsum (zrow x3 x4 x5 x6 (rowOf e c) (qpos i (rowOf e c))) (vrow x7 128) 4096)) := by
    intro e k a hk hlt ha
    have ht : ∀ j, k ≤ j → zrow x3 x4 x5 x6 (rowOf e c) (qpos i (rowOf e c)) j = ⊥ := fun j hj =>
      zrow_of_lt _ _ _ _ _ _ _ (by show 1024 * (i 2).val + (256 * e.val + c.val) < j; omega)
    rw [quot_apply, ha, ha, wsum_tail _ _ hk ht, wsum_tail _ _ hk ht]
    rfl
  have zd := zrow_of_le x3 x4 x5 x6
  have zb := zrow_of_lt x3 x4 x5 x6
  have q0 : ∀ e : Fin 4, qpos i (rowOf e c) = 1024 * (i 2).val + (256 * e.val + c.val) := fun _ => rfl
  have full : ∀ e : Fin 4, 2 ≤ e.val → Holds x7 (zrow x3 x4 x5 x6 (rowOf e c) (qpos i (rowOf e c))) c (512 * (2 * (i 2).val + 1)) _ _ := fun e he =>
    step _ _ (hz _ _) c (2 * (i 2).val) _ _ (L e) (score (qx x3 x4 e.val) x5 x6 (2 * (i 2).val)) fun y => by
      have := y.isLt
      rw [score_apply, zd _ _ _ (by rw [q0]; omega)]
  refine (rows4_apply ![_, _, _, _] e c d).trans ?_
  match e with
  | 0 =>
    refine fin 0 (512 * (2 * (i 2).val + 1)) _ (by omega) (by show _ + 256 * 0 + _ < _; omega) (step _ _ (hz _ _) c (2 * (i 2).val) _ _ (L 0) _ fun y => ?_).2
    have := y.isLt
    rw [mask0_apply]
    by_cases hy : y.val ≤ c.val
    · rw [if_pos hy, zd _ _ _ (by rw [q0]; show _ ≤ _ + (256 * 0 + _); omega)]; exact score_apply x3 x4 x5 x6 0 c _ y
    · rw [if_neg hy, zb _ _ _ (by rw [q0]; show _ + (256 * 0 + _) < _; omega)]
  | 1 =>
    refine fin 1 (512 * (2 * (i 2).val + 1)) _ (by omega) (by show _ + 256 * 1 + _ < _; omega) (step _ _ (hz _ _) c (2 * (i 2).val) _ _ (L 1) _ fun y => ?_).2
    have := y.isLt
    refine (masked0 _ y c).trans ?_
    by_cases hy : y.val ≤ c.val + 256
    · rw [if_pos hy, zd _ _ _ (by rw [q0]; show _ ≤ _ + (256 * 1 + _); omega)]; exact score_apply x3 x4 x5 x6 1 c _ y
    · rw [if_neg hy, zb _ _ _ (by rw [q0]; show _ + (256 * 1 + _) < _; omega)]
  | 2 =>
    refine fin 2 (512 * (2 * (i 2).val + 1) + 256) _ (by omega) (by show _ + 256 * 2 + _ < _; omega)
      (half_step _ _ (hz _ _) c (2 * (i 2).val + 1) _ _ (full 2 le_rfl) _ fun y => ?_)
    have := y.isLt
    refine (half_apply x3 x4 x5 x6 2 c _ y).trans ?_
    by_cases hy : y.val ≤ c.val
    · rw [if_pos hy, zd _ _ _ (by rw [q0]; show _ ≤ _ + (256 * 2 + _); omega)]
    · rw [if_neg hy, zb _ _ _ (by rw [q0]; show _ + (256 * 2 + _) < _; omega)]
  | 3 =>
    refine fin 3 (512 * (2 * (i 2).val + 1 + 1)) _ (by omega) (by show _ + 256 * 3 + _ < _; omega)
      (step _ _ (hz _ _) c (2 * (i 2).val + 1) _ _ (full 3 (by decide)) _ fun y => ?_).2
    have := y.isLt
    refine (masked3 _ y c).trans ?_
    by_cases hy : y.val ≤ c.val + 256
    · rw [if_pos hy, zd _ _ _ (by rw [q0]; show _ ≤ _ + (256 * 3 + _); omega)]; exact score114_apply x3 x4 x5 x6 3 c _ y
    · rw [if_neg hy, zb _ _ _ (by rw [q0]; show _ + (256 * 3 + _) < _; omega)]

end Tile

end Cert.FoxIdeal.Flash
-- ==== Proof.FoxArray.lean ====
module

public import proofs.«01_k».proof.Proof.FoxValue

@[expose] public section

set_option maxRecDepth 16384

noncomputable section

/-! The attention kernel's whole result array, from the tiles its grid points write. -/

namespace Cert.FoxIdeal.Flash

open Idealize.ShloMosaic Idealize.ShloMosaic.TcCoe Idealize.SL.Sem
open Idealize.ShloMosaic.Pipeline (Dat Cfg Window)
open Cert.FoxIdeal Cert.FoxIdeal.Gen Cert.Online

/-! ## The result, stated -/

/-- Column `k` of head `h`. -/
def hcol (h : Fin 8) (k : Fin 128) : Fin 1024 := ⟨128 * h.val + k.val, by omega⟩

/-- The score of key `j` against query `r`, in head `h` of batch `b`. -/
def sdot (A0 : Vec Ideal S4x4096x2048 .bf16) (A1 A2 : Vec Ideal S4x4096x1024 .bf16) (b : Fin 4) (h : Fin 8) (r j : Fin 4096) : EReal :=
  (∑ k : Fin 128, A0 (ix3 b j (⟨1024 + (hcol h k).val, by omega⟩ : Fin 2048)) * A0 (ix3 b r (⟨(hcol h k).val, by omega⟩ : Fin 2048)))
    + ∑ k : Fin 128, A2 (ix3 b j (hcol h k)) * A1 (ix3 b r (hcol h k))

/-- The scores of query `r`, minus infinity past it. -/
def zseq (A0 : Vec Ideal S4x4096x2048 .bf16) (A1 A2 : Vec Ideal S4x4096x1024 .bf16) (b : Fin 4) (h : Fin 8) (r : Fin 4096) (j : ℕ) : EReal :=
  if j ≤ r.val then sdot A0 A1 A2 b h r ⟨j % 4096, Nat.mod_lt _ (by decide)⟩ else ⊥

/-- Column `d` of the values. -/
def vseq (A3 : Vec Ideal S1024x16384 .bf16) (b : Fin 4) (h : Fin 8) (d : Fin 128) (j : ℕ) : EReal :=
  A3 (ix2 (hcol h d) (⟨4096 * b.val + j % 4096, by have := Nat.mod_lt j (show 0 < 4096 by decide); omega⟩ : Fin 16384))

/-- One element of the result. -/
def elem (A0 : Vec Ideal S4x4096x2048 .bf16) (A1 A2 : Vec Ideal S4x4096x1024 .bf16) (A3 : Vec Ideal S1024x16384 .bf16)
    (b : Fin 4) (h : Fin 8) (r : Fin 4096) (d : Fin 128) : EReal :=
  Ideal.div (wsum (zseq A0 A1 A2 b h r) (vseq A3 b h d) 4096) (wsum (zseq A0 A1 A2 b h r) (fun _ => 1) 4096)

/-- The result array. -/
def spec (A0 : Vec Ideal S4x4096x2048 .bf16) (A1 A2 : Vec Ideal S4x4096x1024 .bf16) (A3 : Vec Ideal S1024x16384 .bf16) : Vec Ideal S4x4096x1024 .bf16 := fun i =>
  elem A0 A1 A2 A3 (i 0) ⟨(i 2).val / 128, by have : (i 2).val < 1024 := (i 2).isLt; omega⟩ (i 1) ⟨(i 2).val % 128, Nat.mod_lt _ (by decide)⟩

/-! ## The blocks a point reads and writes -/

theorem pt0 : ∀ t : Fin cfg0.N, win0_0.index t (0 : Fin 3) = t.val / 32 ∧ win0_0.index t (1 : Fin 3) = t.val % 4 ∧ win0_0.index t (2 : Fin 3) = t.val / 4 % 8 :=
  (by decide +kernel : ∀ t : Fin grid0.N, _)
theorem pt1 : ∀ t : Fin cfg0.N, win0_1.index t (0 : Fin 3) = t.val / 32 ∧ win0_1.index t (1 : Fin 3) = t.val % 4 ∧ win0_1.index t (2 : Fin 3) = t.val / 4 % 8 :=
  (by decide +kernel : ∀ t : Fin grid0.N, _)
theorem pt2 : ∀ t : Fin cfg0.N, win0_2.index t (0 : Fin 3) = t.val / 32 ∧ win0_2.index t (1 : Fin 3) = 0 ∧ win0_2.index t (2 : Fin 3) = 8 + t.val / 4 % 8 :=
  (by decide +kernel : ∀ t : Fin grid0.N, _)
theorem pt3 : ∀ t : Fin cfg0.N, win0_3.index t (0 : Fin 3) = t.val / 32 ∧ win0_3.index t (1 : Fin 3) = 0 ∧ win0_3.index t (2 : Fin 3) = t.val / 4 % 8 :=
  (by decide +kernel : ∀ t : Fin grid0.N, _)
theorem pt4 : ∀ t : Fin cfg0.N, win0_4.index t (0 : Fin 2) = t.val / 4 % 8 ∧ win0_4.index t (1 : Fin 2) = t.val / 32 :=
  (by decide +kernel : ∀ t : Fin grid0.N, _)
theorem pt5 : ∀ t : Fin cfg0.N, win0_5.index t (0 : Fin 3) = t.val / 32 ∧ win0_5.index t (1 : Fin 3) = t.val % 4 ∧ win0_5.index t (2 : Fin 3) = t.val / 4 % 8 :=
  (by decide +kernel : ∀ t : Fin grid0.N, _)
theorem ptq : ∀ t : Fin cfg0.N, (grid0.coords t 2).val = t.val % 4 :=
  (by decide +kernel : ∀ t : Fin grid0.N, _)

variable (m : (ℓ : Loc nD τ sig) → Buf (Elt Ideal) ℓ)

/-- The point's batch, head and row of the sequence. -/
def bOf (t : Fin cfg0.N) : Fin 4 := ⟨t.val / 32, by have h : cfg0.N = 128 := N_0; omega⟩
def hOf (t : Fin cfg0.N) : Fin 8 := ⟨t.val / 4 % 8, by omega⟩
def rOf (t : Fin cfg0.N) (r : Fin 1024) : Fin 4096 := ⟨1024 * (t.val % 4) + r.val, by omega⟩

theorem blk0 (c : Dev nD) (t : Fin cfg0.N) (r : Fin 1024) (k : Fin 128) :
    @Eq EReal ((iblk m c 0 t : Vec Ideal S1x1024x128 .bf16) (ix3 0 r k))
      ((m ((c : Thread nD τ).loc main_arg0) : Vec Ideal S4x4096x2048 .bf16) (ix3 (bOf t) (rOf t r) (⟨(hcol (hOf t) k).val, by omega⟩ : Fin 2048))) := by
  have hi := pt0 t
  unfold iblk
  rw [View.read_apply]
  show V m c main_arg0 _ = _
  refine congrArg (m ((c : Thread nD τ).loc main_arg0)) ?_
  funext a
  apply Fin.ext
  match a with
  | ⟨0, _⟩ => show win0_0.index t 0 * 1 + 1 * 0 = t.val / 32; rw [hi.1]; omega
  | ⟨1, _⟩ => show win0_0.index t 1 * 1024 + 1 * r.val = 1024 * (t.val % 4) + r.val; rw [hi.2.1]; omega
  | ⟨2, _⟩ => show win0_0.index t 2 * 128 + 1 * k.val = 128 * (t.val / 4 % 8) + k.val; rw [hi.2.2]; omega

theorem blk1 (c : Dev nD) (t : Fin cfg0.N) (r : Fin 1024) (k : Fin 128) :
    @Eq EReal ((iblk m c 1 t : Vec Ideal S1x1024x128 .bf16) (ix3 0 r k))
      ((m ((c : Thread nD τ).loc main_arg1) : Vec Ideal S4x4096x1024 .bf16) (ix3 (bOf t) (rOf t r) (hcol (hOf t) k))) := by
  have hi := pt1 t
  unfold iblk
  rw [View.read_apply]
  show V m c main_arg1 _ = _
  refine congrArg (m ((c : Thread nD τ).loc main_arg1)) ?_
  funext a
  apply Fin.ext
  match a with
  | ⟨0, _⟩ => show win0_1.index t 0 * 1 + 1 * 0 = t.val / 32; rw [hi.1]; omega
  | ⟨1, _⟩ => show win0_1.index t 1 * 1024 + 1 * r.val = 1024 * (t.val % 4) + r.val; rw [hi.2.1]; omega
  | ⟨2, _⟩ => show win0_1.index t 2 * 128 + 1 * k.val = 128 * (t.val / 4 % 8) + k.val; rw [hi.2.2]; omega

theorem blk2 (c : Dev nD) (t : Fin cfg0.N) (j : Fin 4096) (k : Fin 128) :
    @Eq EReal ((iblk m c 2 t : Vec Ideal S1x4096x128 .bf16) (ix3 0 j k))
      ((m ((c : Thread nD τ).loc main_arg0) : Vec Ideal S4x4096x2048 .bf16) (ix3 (bOf t) j (⟨1024 + (hcol (hOf t) k).val, by omega⟩ : Fin 2048))) := by
  have hi := pt2 t
  unfold iblk
  rw [View.read_apply]
  show V m c main_arg0 _ = _
  refine congrArg (m ((c : Thread nD τ).loc main_arg0)) ?_
  funext a
  apply Fin.ext
  match a with
  | ⟨0, _⟩ => show win0_2.index t 0 * 1 + 1 * 0 = t.val / 32; rw [hi.1]; omega
  | ⟨1, _⟩ => show win0_2.index t 1 * 4096 + 1 * j.val = j.val; rw [hi.2.1]; omega
  | ⟨2, _⟩ => show win0_2.index t 2 * 128 + 1 * k.val = 1024 + (128 * (t.val / 4 % 8) + k.val); rw [hi.2.2]; omega

theorem blk3 (c : Dev nD) (t : Fin cfg0.N) (j : Fin 4096) (k : Fin 128) :
    @Eq EReal ((iblk m c 3 t : Vec Ideal S1x4096x128 .bf16) (ix3 0 j k))
      ((m ((c : Thread nD τ).loc main_arg2) : Vec Ideal S4x4096x1024 .bf16) (ix3 (bOf t) j (hcol (hOf t) k))) := by
  have hi := pt3 t
  unfold iblk
  rw [View.read_apply]
  show V m c main_arg2 _ = _
  refine congrArg (m ((c : Thread nD τ).loc main_arg2)) ?_
  funext a
  apply Fin.ext
  match a with
  | ⟨0, _⟩ => show win0_3.index t 0 * 1 + 1 * 0 = t.val / 32; rw [hi.1]; omega
  | ⟨1, _⟩ => show win0_3.index t 1 * 4096 + 1 * j.val = j.val; rw [hi.2.1]; omega
  | ⟨2, _⟩ => show win0_3.index t 2 * 128 + 1 * k.val = 128 * (t.val / 4 % 8) + k.val; rw [hi.2.2]; omega

theorem blk4 (c : Dev nD) (t : Fin cfg0.N) (d : Fin 128) (j : Fin 4096) :
    @Eq EReal ((iblk m c 4 t : Vec Ideal S128x4096 .bf16) (ix2 d j))
      ((m ((c : Thread nD τ).loc main_arg3) : Vec Ideal S1024x16384 .bf16) (ix2 (hcol (hOf t) d) (⟨4096 * (bOf t).val + j.val, by omega⟩ : Fin 16384))) := by
  have hi := pt4 t
  unfold iblk
  rw [View.read_apply]
  show V m c main_arg3 _ = _
  refine congrArg (m ((c : Thread nD τ).loc main_arg3)) ?_
  funext a
  apply Fin.ext
  match a with
  | ⟨0, _⟩ => show win0_4.index t 0 * 128 + 1 * d.val = 128 * (t.val / 4 % 8) + d.val; rw [hi.1]; omega
  | ⟨1, _⟩ => show win0_4.index t 1 * 4096 + 1 * j.val = 4096 * (t.val / 32) + j.val; rw [hi.2]; omega

/-! ## The tile at a point -/

theorem dot_eq (c : Dev nD) (t : Fin cfg0.N) (r : Fin 1024) (j : Fin 4096) :
    dot (iblk m c 0 t) (iblk m c 1 t) (iblk m c 2 t) (iblk m c 3 t) r j
      = sdot (m ((c : Thread nD τ).loc main_arg0)) (m ((c : Thread nD τ).loc main_arg1)) (m ((c : Thread nD τ).loc main_arg2)) (bOf t) (hOf t) (rOf t r) j := by
  unfold dot sdot
  simp only [blk0, blk1, blk2, blk3]

/-- No score is plus infinity. -/
def Bounded (c : Dev nD) : Prop := ∀ b h r j,
  sdot (m ((c : Thread nD τ).loc main_arg0)) (m ((c : Thread nD τ).loc main_arg1)) (m ((c : Thread nD τ).loc main_arg2)) b h r j ≠ ⊤

theorem out_apply (c : Dev nD) (hB : Bounded m c) (t : Fin cfg0.N) (r : Fin 1024) (d : Fin 128) :
    @Eq EReal (outAt m c t (ix3 0 r d))
      (elem (m ((c : Thread nD τ).loc main_arg0)) (m ((c : Thread nD τ).loc main_arg1)) (m ((c : Thread nD τ).loc main_arg2)) (m ((c : Thread nD τ).loc main_arg3))
        (bOf t) (hOf t) (rOf t r) d) := by
  obtain ⟨e, q, rfl⟩ : ∃ e q, r = rowOf e q :=
    ⟨⟨r.val / 256, by omega⟩, ⟨r.val % 256, by omega⟩, Fin.ext (by show r.val = 256 * (r.val / 256) + r.val % 256; omega)⟩
  unfold outAt
  refine (tile_apply (grid0.coords t) _ _ _ _ _ (fun r j => by rw [dot_eq]; exact hB _ _ _ _) e q d).trans ?_
  have hz : zrow (iblk m c 0 t) (iblk m c 1 t) (iblk m c 2 t) (iblk m c 3 t) (rowOf e q) (qpos (grid0.coords t) (rowOf e q))
      = zseq (m ((c : Thread nD τ).loc main_arg0)) (m ((c : Thread nD τ).loc main_arg1)) (m ((c : Thread nD τ).loc main_arg2)) (bOf t) (hOf t) (rOf t (rowOf e q)) := by
    funext j
    unfold zrow zseq
    rw [dot_eq]
    have : qpos (grid0.coords t) (rowOf e q) = (rOf t (rowOf e q)).val := by unfold qpos; rw [ptq]; rfl
    rw [this]
  have hv : vrow (iblk m c 4 t) d.val = vseq (m ((c : Thread nD τ).loc main_arg3)) (bOf t) (hOf t) d := by
    funext j
    unfold vrow vseq
    rw [dif_pos d.isLt, blk4]
  have h1 : vrow (iblk m c 4 t) 128 = fun _ => 1 := by
    funext j
    unfold vrow
    rw [dif_neg (by decide)]
  rw [hz, hv, h1]
  rfl

/-! ## The array -/

theorem flushed5 (c : Dev nD) (hB : Bounded m c) (t : Fin cfg0.N) :
    (dats m 0 c).flushed 5 t = ((cfg0.win 5).blk t).view.read (Elt Ideal)
      (spec (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after5]
  obtain ⟨e0, e1, e2⟩ := pt5 t
  funext y
  rw [View.read_apply]
  have hy0 : (y 0).val < 1 := (y 0).isLt
  have hy1 : (y 1).val < 1024 := (y 1).isLt
  have hy2 : (y 2).val < 128 := (y 2).isLt
  show outAt m c t ((cfg0.win 5).xinj (grid0.coords t) y) = spec _ _ _ _ (((cfg0.win 5).blk t).view.emb y)
  have hx : (cfg0.win 5).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  rw [hx]
  refine (out_apply m c hB t _ _).trans ?_
  have hb0 : (((cfg0.win 5).blk t).view.emb y 0).val = win0_5.index t (0 : Fin 3) * 1 + 1 * (y 0).val := rfl
  have hb1 : (((cfg0.win 5).blk t).view.emb y 1).val = win0_5.index t (1 : Fin 3) * 1024 + 1 * (y 1).val := rfl
  have hb2 : (((cfg0.win 5).blk t).view.emb y 2).val = win0_5.index t (2 : Fin 3) * 128 + 1 * (y 2).val := rfl
  unfold spec
  congr 1 <;> apply Fin.ext
  · show t.val / 32 = (((cfg0.win 5).blk t).view.emb y 0).val; omega
  · show t.val / 4 % 8 = (((cfg0.win 5).blk t).view.emb y 2).val / 128; omega
  · show 1024 * (t.val % 4) + (y 1).val = (((cfg0.win 5).blk t).view.emb y 1).val; omega
  · show (y 2).val = (((cfg0.win 5).blk t).view.emb y 2).val % 128; omega

theorem mem_blk5 (t : Fin cfg0.N) (i : S4x4096x1024.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v0).slice (win0_5.rect t)).set ↔ _
  rw [View.set_slice_whole, Rect.mem_set_unit]
  exact Iff.rfl

theorem covered5 (i : S4x4096x1024.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 1024 := (i 2).isLt
  have hN : cfg0.N = 128 := N_0
  let t : Fin cfg0.N := ⟨32 * (i 0).val + 4 * ((i 2).val / 128) + (i 1).val / 1024, by omega⟩
  have ht : t.val = 32 * (i 0).val + 4 * ((i 2).val / 128) + (i 1).val / 1024 := rfl
  obtain ⟨e0, e1, e2⟩ := pt5 t
  refine ⟨t, (by decide +kernel : ∀ t : Fin grid0.N, win0_5.flush t = true) t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

theorem final5 (c : Dev nD) (hB : Bounded m c) : (dats m 0 c).arrAt 5 cfg0.N
    = spec (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5 m c hB t) covered5

variable (ρ : Dev nD → PrngReg)

/-- The run, with its result array named. -/
theorem run_value (hB : ∀ c, Bounded m c) : θ_run defs (onTc (τ := τ) (main (F := Ideal))) ⟨m, fun _ => 0, ρ⟩ fun r => ∀ c : Dev nD,
      r.2.mem ((c.tc : Thread nD τ).loc main_v0)
        = spec (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1.1 c).1 5).trans (final5 m c (hB c)), h.2.1 c⟩)
    (θ_run_and (run m ρ) (frame m ρ))

end Cert.FoxIdeal.Flash
-- ==== Proof.FoxAlgebraic.lean ====
module

public import proofs.«01_k».proof.Defs
public import proofs.«01_k».proof.Proof.FoxArray
public import proofs.«01_k».proof.Proof.Gen.FoxRefIdeal.Read
public import proofs.«01_k».proof.Proof.Gen.Pre_finite_scores
public import Idealize.ShloMosaic.Lib.Pointwise
public import Idealize.ShloMosaic.Lib.WordCmp

@[expose] public section

set_option maxRecDepth 16384

noncomputable section

/-! The attention's plain form read at an index, the precondition read, and the two results compared. -/

namespace Cert.FoxEq

open Idealize.ShloMosaic Idealize.ShloMosaic.TcCoe Idealize.SL.Sem
open Cert.Online
open Cert.FoxIdeal.Flash (sdot zseq vseq elem spec hcol)
open Cert.FoxRefIdeal Cert.FoxRefIdeal.Gen Cert.FoxRefIdeal.Read

/-! ## Finite operands -/

/-- A finite extended real. -/
def Fin' (x : EReal) : Prop := ∃ r : ℝ, x = r

theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sum {n : ℕ} (f : Fin n → EReal) (h : ∀ k, Fin' (f k)) : Fin' (∑ k, f k) := by
  classical
  have : ∀ S : Finset (Fin n), Fin' (∑ k ∈ S, f k) := fun S => by
    induction S using Finset.induction_on with
    | empty => exact ⟨0, by simp⟩
    | insert i S hi ih => rw [Finset.sum_insert hi]; exact (h i).add ih
  exact this _
theorem Fin'.ne_top {x : EReal} (h : Fin' x) : x ≠ ⊤ := by obtain ⟨a, rfl⟩ := h; exact EReal.coe_ne_top a
theorem Fin'.ne_bot {x : EReal} (h : Fin' x) : x ≠ ⊥ := by obtain ⟨a, rfl⟩ := h; exact EReal.coe_ne_bot a

theorem fin_of_abs {x : EReal} (h : max x (-x) < ⊤) : Fin' x := by
  induction x with
  | bot => simp at h
  | top => simp at h
  | coe r => exact ⟨r, rfl⟩

section Pre
variable (A0 : Vec Ideal S4x4096x2048 .bf16) (A1 A2 : Vec Ideal S4x4096x1024 .bf16) (A3 : Vec Ideal S1024x16384 .bf16)
  (h : Cert.Pre_finite_scores.fn (F := Ideal) A0 A1 A2 A3 = fun _ => 1#1)
include h

theorem pre_at (b : Fin 4) (r k : Fin 4096) :
    Fin' (if hk : k.val < 2048 then A0 (ix3 b r ⟨k.val, hk⟩) else if hk' : k.val - 2048 < 1024 then A1 (ix3 b r ⟨k.val - 2048, hk'⟩) else A2 (ix3 b r ⟨k.val - 2048 - 1024, by omega⟩)) := by
  have e := congrFun h (ix3 b r k)
  unfold Cert.Pre_finite_scores.fn at e
  pointwise at e
  have hT : Ideal.ofBits .bf16 32640#16 = (⊤ : EReal) := by simp [Ideal.ofBits, Ideal.ieee]
  rw [hT] at e
  refine fin_of_abs ?_
  by_contra hn
  have hd : decide (max (if hk : k.val < 2048 then A0 (ix3 b r ⟨k.val, hk⟩) else if hk' : k.val - 2048 < 1024 then A1 (ix3 b r ⟨k.val - 2048, hk'⟩) else A2 (ix3 b r ⟨k.val - 2048 - 1024, by omega⟩) : EReal)
      (-(if hk : k.val < 2048 then A0 (ix3 b r ⟨k.val, hk⟩) else if hk' : k.val - 2048 < 1024 then A1 (ix3 b r ⟨k.val - 2048, hk'⟩) else A2 (ix3 b r ⟨k.val - 2048 - 1024, by omega⟩) : EReal)) < ⊤) = false := decide_eq_false hn
  have e' := (congrArg BitVec.ofBool hd).symm.trans e
  exact absurd e' (by decide)

theorem fin0 (b : Fin 4) (r : Fin 4096) (k : Fin 2048) : Fin' (A0 (ix3 b r k)) := by
  have e := pre_at A0 A1 A2 A3 h b r ⟨k.val, by omega⟩
  simpa only [k.isLt, ↓reduceDIte, Fin.eta] using e

theorem fin1 (b : Fin 4) (r : Fin 4096) (k : Fin 1024) : Fin' (A1 (ix3 b r k)) := by
  have e := pre_at A0 A1 A2 A3 h b r ⟨2048 + k.val, by omega⟩
  have h1 : ¬ 2048 + k.val < 2048 := by omega
  simpa only [h1, Nat.add_sub_cancel_left, k.isLt, ↓reduceDIte, Fin.eta] using e

theorem fin2 (b : Fin 4) (r : Fin 4096) (k : Fin 1024) : Fin' (A2 (ix3 b r k)) := by
  have e := pre_at A0 A1 A2 A3 h b r ⟨2048 + (1024 + k.val), by omega⟩
  have h1 : ¬ 2048 + (1024 + k.val) < 2048 := by omega
  have h2 : ¬ 1024 + k.val < 1024 := by omega
  simpa only [h1, h2, Nat.add_sub_cancel_left, ↓reduceDIte, Fin.eta] using e

theorem sdot_fin (b : Fin 4) (g : Fin 8) (r j : Fin 4096) : Fin' (sdot A0 A1 A2 b g r j) :=
  (Fin'.sum _ fun _ => (fin0 A0 A1 A2 A3 h _ _ _).mul (fin0 A0 A1 A2 A3 h _ _ _)).add
    (Fin'.sum _ fun _ => (fin2 A0 A1 A2 A3 h _ _ _).mul (fin1 A0 A1 A2 A3 h _ _ _))

theorem zseq_ne_top (b : Fin 4) (g : Fin 8) (r : Fin 4096) (j : ℕ) : zseq A0 A1 A2 b g r j ≠ ⊤ := by
  unfold zseq
  split
  · exact (sdot_fin A0 A1 A2 A3 h _ _ _ _).ne_top
  · exact bot_ne_top

theorem zseq_ne_bot (b : Fin 4) (g : Fin 8) (r : Fin 4096) : zseq A0 A1 A2 b g r 0 ≠ ⊥ := by
  unfold zseq
  rw [if_pos (Nat.zero_le _)]
  exact (sdot_fin A0 A1 A2 A3 h _ _ _ _).ne_bot

end Pre

/-! ## The plain form at an index -/

theorem negInf : Ideal.ofBits .f32 0xFF800000#32 = (⊥ : EReal) := by
  simp [Ideal.ofBits, Ideal.ieee]

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this, Ideal.log_coe, if_neg (by norm_num)]

theorem score_at (A0 : Vec Ideal S4x4096x2048 .bf16) (A1 A2 : Vec Ideal S4x4096x1024 .bf16) (b : Fin 4) (h : Fin 8) (r j : Fin 4096) :
    @Eq EReal (val_main_v21 (F := Ideal) A0 A1 A2 (ix4 b h r j)) (zseq A0 A1 A2 b h r j.val) := by
  have hj : j.val % 4096 = j.val := Nat.mod_eq_of_lt j.isLt
  unfold val_main_v21 val_main_v20 val_main_v12 val_main_v13 val_main_v2 val_main_v5 val_main_v7 val_main_v9 val_main_v1 val_main_v0 val_main_v4 val_main_v3 val_main_v6 val_main_v8 val_main_call0_v1 val_main_call0_v2 val_main_call0_v0 val_main_v19 val_main_v18 val_main_v17 val_main_v16 val_main_v15 val_main_v14 val_main_cst
  pointwise
  unfold zseq sdot Scalar.select
  simp only [hj]
  have hc : (IntOp.cmpi .sle (BitVec.ofNat 32 j.val) (BitVec.ofNat 32 r.val) = 1) ↔ j.val ≤ r.val :=
    WordCmp.cmpi_sle_ofNat_eq_one_iff (w := 32) (by omega) (by omega)
  by_cases hle : j.val ≤ r.val
  · rw [if_pos (hc.mpr hle), if_pos hle]
    refine congrArg₂ (· + ·) (Finset.sum_congr rfl fun k _ => ?_) (Finset.sum_congr rfl fun k _ => ?_)
    · rw [mul_comm]
      refine congrArg₂ (fun p q => A0 (ix3 b j p) * A0 (ix3 b r q)) (Fin.ext ?_) (Fin.ext ?_)
      · show 1024 + (h.val * 128 + k.val) = 1024 + (128 * h.val + k.val); omega
      · show h.val * 128 + k.val = 128 * h.val + k.val; omega
    · rw [mul_comm]
      refine congrArg₂ (fun p q => A2 (ix3 b j p) * A1 (ix3 b r q)) (Fin.ext ?_) (Fin.ext ?_)
      · show h.val * 128 + k.val = 128 * h.val + k.val; omega
      · show h.val * 128 + k.val = 128 * h.val + k.val; omega
  · rw [if_neg (fun q => hle (hc.mp q)), if_neg hle]
    exact negInf

theorem top_at (A0 : Vec Ideal S4x4096x2048 .bf16) (A1 A2 : Vec Ideal S4x4096x1024 .bf16) (b : Fin 4) (h : Fin 8) (r : Fin 4096) :
    @Eq EReal (val_main_v23 (F := Ideal) A0 A1 A2 (ix3 b h r)) (top (zseq A0 A1 A2 b h r) 4096) := by
  unfold val_main_v23 val_main_cst_1
  pointwise
  have e := top_add (zseq A0 A1 A2 b h r) 0 4096
  rw [Nat.zero_add, top_zero] at e
  rw [e, negInf, max_eq_right bot_le]
  simp only [score_at, Nat.zero_add]

/-- The plain softmax of a row, summed against a value column. -/
theorem row_eq (z v : ℕ → EReal) (hz : ∀ j, z j ≠ ⊤) (hb : z 0 ≠ ⊥) (w : Fin 4096 → EReal) (hw : ∀ x : Fin 4096, w x = v x.val) :
    ∑ x : Fin 4096, Ideal.div (Ideal.exp2 (z x.val - top z 4096)) (∑ y : Fin 4096, Ideal.exp2 (z y.val - top z 4096)) * w x
      = Ideal.div (wsum z v 4096) (wsum z (fun _ => 1) 4096) := by
  have e := softmax_eq z v hz 0 (Nat.zero_lt_succ 4095) hb
  refine Eq.trans ?_ e
  have hs : wsum z (fun _ => 1) 4096 = ∑ y : Fin 4096, Ideal.exp2 (z y.val - top z 4096) := by
    unfold wsum
    rw [← Fin.sum_univ_eq_sum_range (fun y => Ideal.exp2 (z y - top z 4096) * 1) 4096]
    simp only [mul_one]
  rw [hs, ← Fin.sum_univ_eq_sum_range (fun x => Ideal.div (Ideal.exp2 (z x - top z 4096)) (∑ y : Fin 4096, Ideal.exp2 (z y.val - top z 4096)) * v x) 4096]
  exact Finset.sum_congr rfl fun x _ => by rw [hw x]

theorem ref_at (A0 : Vec Ideal S4x4096x2048 .bf16) (A1 A2 : Vec Ideal S4x4096x1024 .bf16) (A3 : Vec Ideal S1024x16384 .bf16)
    (b : Fin 4) (r : Fin 4096) (d : Fin 1024)
    (hz : ∀ h j, zseq A0 A1 A2 b h r j ≠ ⊤) (hb : ∀ h, zseq A0 A1 A2 b h r 0 ≠ ⊥) :
    @Eq EReal (val_main_v38 (F := Ideal) A0 A1 A2 A3 (ix3 b r d)) (spec A0 A1 A2 A3 (ix3 b r d)) := by
  unfold val_main_v38 val_main_v37 val_main_v36 val_main_v35 val_main_v34 val_main_v33 val_main_v32 val_main_v31 val_main_v30 val_main_v29 val_main_v28 val_main_v27 val_main_v26 val_main_v25 val_main_v24 val_main_v22 val_main_v11 val_main_v10 val_main_cst_0 val_main_cst_2
  pointwise
  simp only [score_at, top_at, log_two, exp_ln2]
  have hd : d.val < 1024 := d.isLt
  have hg : d.val / 128 < 8 := by omega
  have hm : d.val % 128 < 128 := by omega
  refine row_eq (zseq A0 A1 A2 b ⟨d.val / 128, hg⟩ r) (vseq A3 b ⟨d.val / 128, hg⟩ ⟨d.val % 128, hm⟩) (hz _) (hb _) _ fun x => ?_
  unfold vseq
  have hx : x.val % 4096 = x.val := Nat.mod_eq_of_lt x.isLt
  refine congrArg₂ (fun p q => A3 (ix2 p q)) (Fin.ext ?_) (Fin.ext ?_)
  · show d.val = 128 * (d.val / 128) + d.val % 128; omega
  · show b.val * 4096 + x.val = 4096 * b.val + x.val % 4096; omega

end Cert.FoxEq

open Idealize.ShloMosaic Idealize.ShloMosaic.TcCoe Idealize.SL.Sem in
theorem Cert.FoxEq.algebraic : algebraic_FoxIdeal_FoxRefIdeal_pre_finite_scores := by
  intro m ρ m' ρ' hpre hagree
  refine ⟨_, Cert.FoxIdeal.Flash.run_value m ρ (fun c b g r j => (Cert.FoxEq.sdot_fin _ _ _ _ (hpre c) b g r j).ne_top), ?_⟩
  refine (θ_run Cert.FoxRefIdeal.defs _ _).mono (fun _ h c => ⟨?_, (h c).2⟩) (Cert.FoxRefIdeal.Value.run (F := Ideal) m' ρ')
  obtain ⟨h0, h1, h2, h3⟩ := hagree c
  rw [(h c).1, Cert.FoxRefIdeal.Read.val_main_v38_eq, h0, h1, h2, h3]
  funext i
  obtain ⟨b, r, d, rfl⟩ : ∃ b r d, i = ix3 b r d := ⟨i 0, i 1, i 2, eq_ix3 i⟩
  exact Cert.FoxEq.ref_at _ _ _ _ b r d (fun g j => Cert.FoxEq.zseq_ne_top _ _ _ _ (hpre c) b g r j) (fun g => Cert.FoxEq.zseq_ne_bot _ _ _ _ (hpre c) b g r)
-- ==== Proof.LayerNorm.lean ====
/-
  The layer norm of one row, as a function of the row's 2048 numbers.
-/
module

public import Idealize.ShloMosaic.Lib.Tactic
public import Idealize.ShloMosaic.Lib.Pointwise

@[expose] public section

noncomputable section

open Idealize.ShloMosaic

namespace Cert.RowNorm

/-- The mean of a row. -/
def mean (y : Fin 2048 → EReal) : EReal := Ideal.div (∑ k, y k) (Ideal.ofBits .f32 0x45000000#32)

/-- The row less its mean, at one column. -/
def dev (y : Fin 2048 → EReal) (k : Fin 2048) : EReal := y k - mean y

/-- The normalised row at one column, scaled by `g` and moved by `b`. -/
def rowNorm (y : Fin 2048 → EReal) (g b : EReal) (k : Fin 2048) : EReal :=
  dev y k * Ideal.rsqrt (mean (fun j => dev y j * dev y j) + Ideal.ofBits .f32 0x3727C5AC#32) * g + b

/-- The row the norm is taken of: the withResidual times its factor, plus what the layer computed. -/
def withResidual (x f : EReal) : EReal := Ideal.ofBits .f32 0x3FB504F3#32 * x + f

/-- Row `a` of a band of whole rows starting at row `o` is row `o + a` of the array. -/
theorem band_idx {n m c : ℕ} (o : ℕ) (inb : ∀ a, (![o, 0] : Fin 2 → ℕ) a + (![m, c] : Fin 2 → ℕ) a ≤ (![n, c] : Fin 2 → ℕ) a)
    (a : Fin m) (j : Fin c) (h : o + a.val < n) :
    (Rect.unit (s := ⟨2, ![n, c]⟩) ![o, 0] ![m, c] inb).idx (ix2 a j) = ix2 (⟨o + a.val, h⟩ : Fin n) j := by
  funext b
  apply Fin.ext
  match b with
  | ⟨0, _⟩ => show o + 1 * a.val = o + a.val; omega
  | ⟨1, _⟩ => show 0 + 1 * j.val = j.val; omega

/-- What a load of that band reads. -/
theorem band_ld {Val : EltTy → Type} {e : EltTy} {n m c : ℕ} (o : ℕ) (inb : ∀ a, (![o, 0] : Fin 2 → ℕ) a + (![m, c] : Fin 2 → ℕ) a ≤ (![n, c] : Fin 2 → ℕ) a)
    (X : (⟨2, ![n, c]⟩ : Shape).Idx → Val e) (a : Fin m) (j : Fin c) (r : Fin n) (h : r.val = o + a.val) :
    View.ld X (Rect.unit (s := ⟨2, ![n, c]⟩) ![o, 0] ![m, c] inb) (ix2 a j) = X (ix2 r j) := by
  have hr : o + a.val < n := h ▸ r.isLt
  refine (congrArg X (band_idx o inb a j hr)).trans ?_
  congr 2
  exact Fin.ext h.symm

end Cert.RowNorm
-- ==== Proof.UpAlgebraic.lean ====
/-
  The feed-forward input product with its causal convolution and gate, read as a value.
-/
module

public import proofs.«01_k».proof.Defs
public import proofs.«01_k».proof.Proof.Gen.UpIdeal.Value
public import proofs.«01_k».proof.Proof.Gen.UpRefIdeal.Run
public import proofs.«01_k».proof.Proof.Gen.UpRefIdeal.Read
public import proofs.«01_k».proof.Proof.LayerNorm
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pipeline.ValueKit.Tiles
public import Idealize.ShloMosaic.Lib.Pointwise

@[expose] public section

noncomputable section

open Idealize.ShloMosaic Idealize.ShloMosaic.TcCoe Idealize.SL.Sem

namespace Cert.UpEq

open Cert.UpIdeal Cert.UpIdeal.Gen Cert.UpIdeal.Value

/-- Eight rows `pv` followed by the rows `h`, as a sequence. -/
def ext {n : ℕ} (pv : Fin 8 → EReal) (h : Fin n → EReal) (s : ℕ) : EReal :=
  if hs : s < 8 then pv ⟨s, hs⟩ else if hn : s - 8 < n then h ⟨s - 8, hn⟩ else 0

/-- Three taps of a sequence that starts eight places early, and a bias. -/
def conv (c0 c1 c2 b : EReal) (f : ℕ → EReal) (s : ℕ) : EReal := c0 * f (s + 6) + c1 * f (s + 7) + c2 * f (s + 8) + b

/-- The gate `a · σ(a) · b`. -/
def gateAt (a b : EReal) : EReal := a * Ideal.div 1 (1 + Ideal.exp (-a)) * b

theorem gate_apply (a b : Vec Ideal S256x512 .f32) (r : Fin 256) (k : Fin 512) :
    @Eq EReal (k0_pay54 (F := Ideal) a b k0_pay53 (ix2 r k)) (gateAt (a (ix2 r k)) (b (ix2 r k))) := by
  unfold k0_pay54 k0_pay53 gateAt
  pointwise
  rw [sub_eq_add_neg, zero_add]

theorem tail_apply (x : Vec Ideal S256x2048 .bf16) (w : Vec Ideal S1x2048x512 .bf16) (j : Fin 8) (k : Fin 512) :
    @Eq EReal (k0_pay13 x w (ix2 j k)) (∑ e : Fin 2048, x (ix2 (⟨248 + j.val, by omega⟩ : Fin 256) e) * w (ix3 0 e k)) := by
  unfold k0_pay13 k0_pay12 k0_pay11
  pointwise

theorem branch_apply (cw : Vec Ideal S3x512 .f32) (cb : Vec Ideal S1x512 .f32) (pv : Vec Ideal S8x512 .f32) (x : Vec Ideal S256x2048 .bf16) (w : Vec Ideal S1x2048x512 .bf16)
    (r : Fin 256) (k : Fin 512) :
    @Eq EReal (k0_pay14 cw cb pv x w (ix2 r k)) (conv (cw (ix2 0 k)) (cw (ix2 1 k)) (cw (ix2 2 k)) (cb (ix2 0 k))
      (ext (fun j => pv (ix2 j k)) (fun r : Fin 256 => ∑ e : Fin 2048, x (ix2 r e) * w (ix3 0 e k))) r.val) := by
  unfold k0_pay14 k0_pay12 k0_pay11
  pointwise
  have hr := r.isLt
  unfold conv ext
  refine congrArg₂ (· + ·) (congrArg₂ (· + ·) (congrArg₂ (· + ·) (congrArg (cw (ix2 0 k) * ·) ?_) (congrArg (cw (ix2 1 k) * ·) ?_)) (congrArg (cw (ix2 2 k) * ·) ?_)) rfl
  all_goals split_ifs
  all_goals first
    | (exfalso; omega)
    | exact congrArg (fun p => pv (ix2 p k)) (Fin.ext (by dsimp only <;> omega))
    | exact Finset.sum_congr rfl fun e _ => congrArg (fun p => x (ix2 p e) * w (ix3 0 e k)) (Fin.ext (by dsimp only <;> omega))
    | (rw [dif_pos (by omega)]; exact congrArg (fun p => pv (ix2 p k)) (Fin.ext (by dsimp only <;> omega)))
    | (rw [dif_neg (by omega), dif_pos (by omega)]; exact Finset.sum_congr rfl fun e _ => congrArg (fun p => x (ix2 p e) * w (ix3 0 e k)) (Fin.ext (by dsimp only <;> omega)))

section Pieces
variable {F : FTy → Type} [FloatOps F]
variable (cwa cwb : FVec F S3x512 .f32) (cba cbb : FVec F S1x512 .f32) (pa pb : FVec F S8x512 .f32) (wa wb : Vec F S1x2048x512 .bf16)

/-- One band of 256 rows: both branches of the band, gated. -/
def gated (x : Vec F S256x2048 .bf16) : FVec F S256x512 .bf16 := k0_pay54 (k0_pay14 cwa cba pa x wa) (k0_pay14 cwb cbb pb x wb) k0_pay53

/-- The eight bands the body stores, the last first; each band's early rows are the band's before. -/
def bands (x : Vec F S2048x2048 .bf16) : List (View.Piece (Elt F) S2048x512 .bf16) :=
  [⟨Rect.unit ![1792, 0] ![256, 512] inb_S2048x512_S256x512_1792_0, gated cwa cwb cba cbb (k0_pay13 (View.ld x (Rect.unit ![1536, 0] ![256, 2048] inb_S2048x2048_S256x2048_1536_0)) wa) (k0_pay13 (View.ld x (Rect.unit ![1536, 0] ![256, 2048] inb_S2048x2048_S256x2048_1536_0)) wb) wa wb (View.ld x (Rect.unit ![1792, 0] ![256, 2048] inb_S2048x2048_S256x2048_1792_0))⟩,
    ⟨Rect.unit ![1536, 0] ![256, 512] inb_S2048x512_S256x512_1536_0, gated cwa cwb cba cbb (k0_pay13 (View.ld x (Rect.unit ![1280, 0] ![256, 2048] inb_S2048x2048_S256x2048_1280_0)) wa) (k0_pay13 (View.ld x (Rect.unit ![1280, 0] ![256, 2048] inb_S2048x2048_S256x2048_1280_0)) wb) wa wb (View.ld x (Rect.unit ![1536, 0] ![256, 2048] inb_S2048x2048_S256x2048_1536_0))⟩,
    ⟨Rect.unit ![1280, 0] ![256, 512] inb_S2048x512_S256x512_1280_0, gated cwa cwb cba cbb (k0_pay13 (View.ld x (Rect.unit ![1024, 0] ![256, 2048] inb_S2048x2048_S256x2048_1024_0)) wa) (k0_pay13 (View.ld x (Rect.unit ![1024, 0] ![256, 2048] inb_S2048x2048_S256x2048_1024_0)) wb) wa wb (View.ld x (Rect.unit ![1280, 0] ![256, 2048] inb_S2048x2048_S256x2048_1280_0))⟩,
    ⟨Rect.unit ![1024, 0] ![256, 512] inb_S2048x512_S256x512_1024_0, gated cwa cwb cba cbb (k0_pay13 (View.ld x (Rect.unit ![768, 0] ![256, 2048] inb_S2048x2048_S256x2048_768_0)) wa) (k0_pay13 (View.ld x (Rect.unit ![768, 0] ![256, 2048] inb_S2048x2048_S256x2048_768_0)) wb) wa wb (View.ld x (Rect.unit ![1024, 0] ![256, 2048] inb_S2048x2048_S256x2048_1024_0))⟩,
    ⟨Rect.unit ![768, 0] ![256, 512] inb_S2048x512_S256x512_768_0, gated cwa cwb cba cbb (k0_pay13 (View.ld x (Rect.unit ![512, 0] ![256, 2048] inb_S2048x2048_S256x2048_512_0)) wa) (k0_pay13 (View.ld x (Rect.unit ![512, 0] ![256, 2048] inb_S2048x2048_S256x2048_512_0)) wb) wa wb (View.ld x (Rect.unit ![768, 0] ![256, 2048] inb_S2048x2048_S256x2048_768_0))⟩,
    ⟨Rect.unit ![512, 0] ![256, 512] inb_S2048x512_S256x512_512_0, gated cwa cwb cba cbb (k0_pay13 (View.ld x (Rect.unit ![256, 0] ![256, 2048] inb_S2048x2048_S256x2048_256_0)) wa) (k0_pay13 (View.ld x (Rect.unit ![256, 0] ![256, 2048] inb_S2048x2048_S256x2048_256_0)) wb) wa wb (View.ld x (Rect.unit ![512, 0] ![256, 2048] inb_S2048x2048_S256x2048_512_0))⟩,
    ⟨Rect.unit ![256, 0] ![256, 512] inb_S2048x512_S256x512_256_0, gated cwa cwb cba cbb (k0_pay13 (View.ld x (Rect.unit ![0, 0] ![256, 2048] inb_S2048x2048_S256x2048_0_0)) wa) (k0_pay13 (View.ld x (Rect.unit ![0, 0] ![256, 2048] inb_S2048x2048_S256x2048_0_0)) wb) wa wb (View.ld x (Rect.unit ![256, 0] ![256, 2048] inb_S2048x2048_S256x2048_256_0))⟩,
    ⟨Rect.unit ![0, 0] ![256, 512] inb_S2048x512_S256x512_0_0, gated cwa cwb cba cbb pa pb wa wb (View.ld x (Rect.unit ![0, 0] ![256, 2048] inb_S2048x2048_S256x2048_0_0))⟩]

/-- The rows the body leaves for the next tile. -/
def halos (x : Vec F S2048x2048 .bf16) : List (View.Piece (Elt F) S2x8x512 .f32) :=
  [⟨Rect.unit ![1, 0, 0] ![1, 8, 512] inb_S2x8x512_S1x8x512_1_0_0, k0_pay1 (k0_pay13 (View.ld x (Rect.unit ![1792, 0] ![256, 2048] inb_S2048x2048_S256x2048_1792_0)) wb)⟩,
    ⟨Rect.unit ![0, 0, 0] ![1, 8, 512] inb_S2x8x512_S1x8x512_0_0_0, k0_pay83 (k0_pay13 (View.ld x (Rect.unit ![1792, 0] ![256, 2048] inb_S2048x2048_S256x2048_1792_0)) wa)⟩]

/-- The same over the zeros that the first tile of a sequence writes. -/
def halosOver (z : FVec F S2x8x512 .f32) (x : Vec F S2048x2048 .bf16) : List (View.Piece (Elt F) S2x8x512 .f32) :=
  [⟨Rect.unit ![1, 0, 0] ![1, 8, 512] inb_S2x8x512_S1x8x512_1_0_0, k0_pay1 (k0_pay13 (View.ld x (Rect.unit ![1792, 0] ![256, 2048] inb_S2048x2048_S256x2048_1792_0)) wb)⟩,
    ⟨Rect.unit ![0, 0, 0] ![1, 8, 512] inb_S2x8x512_S1x8x512_0_0_0, k0_pay83 (k0_pay13 (View.ld x (Rect.unit ![1792, 0] ![256, 2048] inb_S2048x2048_S256x2048_1792_0)) wa)⟩,
    ⟨Rect.unit ![0, 0, 0] ![2, 8, 512] inb_S2x8x512_S2x8x512_0_0_0, z⟩]
end Pieces

/-- The product of one row of the tile with one weight column. -/
def rowsOf (x : Vec Ideal S2048x2048 .bf16) (w : Vec Ideal S1x2048x512 .bf16) (k : Fin 512) (r : Fin 2048) : EReal := ∑ e : Fin 2048, x (ix2 r e) * w (ix3 0 e k)

/-- The eight rows before the tile, then the rows of the tile. -/
def tileSeq (pv : Vec Ideal S8x512 .f32) (x : Vec Ideal S2048x2048 .bf16) (w : Vec Ideal S1x2048x512 .bf16) (k : Fin 512) : ℕ → EReal :=
  ext (fun j => pv (ix2 j k)) (rowsOf x w k)

/-- One value of the tile's output. -/
def tileAt (cwa cwb : Vec Ideal S3x512 .f32) (cba cbb : Vec Ideal S1x512 .f32) (fa fb : ℕ → EReal) (k : Fin 512) (r : ℕ) : EReal :=
  gateAt (conv (cwa (ix2 0 k)) (cwa (ix2 1 k)) (cwa (ix2 2 k)) (cba (ix2 0 k)) fa r) (conv (cwb (ix2 0 k)) (cwb (ix2 1 k)) (cwb (ix2 2 k)) (cbb (ix2 0 k)) fb r)

section Tile
variable (x : Vec Ideal S2048x2048 .bf16)

theorem cut_at (o : ℕ) (inb : ∀ a, (![o, 0] : Fin 2 → ℕ) a + (![256, 2048] : Fin 2 → ℕ) a ≤ S2048x2048.size a) (a : Fin 256) (e : Fin 2048) (r : Fin 2048) (h : r.val = o + a.val) :
    (View.ld x (Rect.unit (s := S2048x2048) ![o, 0] ![256, 2048] inb)) (ix2 a e) = x (ix2 r e) :=
  Cert.RowNorm.band_ld o inb x a e r h

/-- The first band's rows are the tile's own start. -/
theorem seq_first (inb : ∀ a, (![0, 0] : Fin 2 → ℕ) a + (![256, 2048] : Fin 2 → ℕ) a ≤ S2048x2048.size a) (pv : Vec Ideal S8x512 .f32) (w : Vec Ideal S1x2048x512 .bf16) (k : Fin 512) (s : ℕ) (hs : s < 264) :
    ext (fun j => pv (ix2 j k)) (fun r : Fin 256 => ∑ e : Fin 2048, (View.ld x (Rect.unit (s := S2048x2048) ![0, 0] ![256, 2048] inb)) (ix2 r e) * w (ix3 0 e k)) s = tileSeq pv x w k (0 + s) := by
  rw [Nat.zero_add]
  unfold tileSeq ext
  by_cases h : s < 8
  · rw [dif_pos h, dif_pos h]
  · rw [dif_neg h, dif_neg h, dif_pos (by omega), dif_pos (by omega)]
    exact Finset.sum_congr rfl fun e _ => congrArg (· * w (ix3 0 e k)) (cut_at x 0 inb _ e _ (Nat.zero_add _).symm)

/-- A later band starts from the last rows of the band before it. -/
theorem seq_next (p o : ℕ) (ho : o = p + 256) (hp : o + 256 ≤ 2048) (inb' : ∀ a, (![p, 0] : Fin 2 → ℕ) a + (![256, 2048] : Fin 2 → ℕ) a ≤ S2048x2048.size a)
    (inb : ∀ a, (![o, 0] : Fin 2 → ℕ) a + (![256, 2048] : Fin 2 → ℕ) a ≤ S2048x2048.size a)
    (pv : Vec Ideal S8x512 .f32) (w : Vec Ideal S1x2048x512 .bf16) (k : Fin 512) (s : ℕ) (hs : s < 264) :
    ext (fun j => k0_pay13 (View.ld x (Rect.unit (s := S2048x2048) ![p, 0] ![256, 2048] inb')) w (ix2 j k)) (fun r : Fin 256 => ∑ e : Fin 2048, (View.ld x (Rect.unit (s := S2048x2048) ![o, 0] ![256, 2048] inb)) (ix2 r e) * w (ix3 0 e k)) s = tileSeq pv x w k (o + s) := by
  unfold tileSeq ext
  rw [dif_neg (show ¬ o + s < 8 by omega), dif_pos (show o + s - 8 < 2048 by omega)]
  by_cases h : s < 8
  · rw [dif_pos h]
    refine (tail_apply _ w _ k).trans (Finset.sum_congr rfl fun e _ => congrArg (· * w (ix3 0 e k)) (cut_at x p inb' _ e _ ?_))
    dsimp only
    omega
  · rw [dif_neg h, dif_pos (by omega)]
    refine Finset.sum_congr rfl fun e _ => congrArg (· * w (ix3 0 e k)) (cut_at x o inb _ e _ ?_)
    dsimp only
    omega

theorem gated_at (cwa cwb : Vec Ideal S3x512 .f32) (cba cbb : Vec Ideal S1x512 .f32) (wa wb : Vec Ideal S1x2048x512 .bf16) (pa pb : Vec Ideal S8x512 .f32) (o : ℕ)
    (y : Vec Ideal S256x2048 .bf16) (k : Fin 512) (fa fb : ℕ → EReal)
    (ha : ∀ s, s < 264 → ext (fun j => pa (ix2 j k)) (fun r : Fin 256 => ∑ e : Fin 2048, y (ix2 r e) * wa (ix3 0 e k)) s = fa (o + s))
    (hb : ∀ s, s < 264 → ext (fun j => pb (ix2 j k)) (fun r : Fin 256 => ∑ e : Fin 2048, y (ix2 r e) * wb (ix3 0 e k)) s = fb (o + s)) (r : Fin 256) (R : ℕ) (hR : R = o + r.val) (K : Fin 512) (hK : K = k) :
    @Eq EReal (gated cwa cwb cba cbb pa pb wa wb y (ix2 r k)) (tileAt cwa cwb cba cbb fa fb K R) := by
  subst hR hK
  have hr := r.isLt
  refine (gate_apply _ _ r _).trans (congrArg₂ gateAt ?_ ?_)
  · rw [branch_apply]
    unfold conv
    rw [ha _ (by omega), ha _ (by omega), ha _ (by omega)]
    simp only [Nat.add_assoc]
  · rw [branch_apply]
    unfold conv
    rw [hb _ (by omega), hb _ (by omega), hb _ (by omega)]
    simp only [Nat.add_assoc]

theorem bands_apply (cwa cwb : Vec Ideal S3x512 .f32) (cba cbb : Vec Ideal S1x512 .f32) (wa wb : Vec Ideal S1x2048x512 .bf16) (pa pb : Vec Ideal S8x512 .f32) (r : Fin 2048) (k : Fin 512) :
    @Eq EReal (View.canon (bands cwa cwb cba cbb pa pb wa wb x) (ix2 r k)) (tileAt cwa cwb cba cbb (tileSeq pa x wa k) (tileSeq pb x wb k) k r.val) := by
  unfold bands
  canon_tiles y h
  all_goals (obtain ⟨a, j, rfl⟩ : ∃ (a : Fin 256) (j : Fin 512), y = ix2 a j := ⟨y 0, y 1, eq_ix2 y⟩)
  all_goals (obtain rfl : k = j := Fin.ext h1)
  · exact gated_at _ _ _ _ _ _ _ _ 1792 _ _ _ _ (seq_next x 1536 1792 rfl (by decide) _ _ pa wa k) (seq_next x 1536 1792 rfl (by decide) _ _ pb wb k) a _ h0 _ rfl
  · exact gated_at _ _ _ _ _ _ _ _ 1536 _ _ _ _ (seq_next x 1280 1536 rfl (by decide) _ _ pa wa k) (seq_next x 1280 1536 rfl (by decide) _ _ pb wb k) a _ h0 _ rfl
  · exact gated_at _ _ _ _ _ _ _ _ 1280 _ _ _ _ (seq_next x 1024 1280 rfl (by decide) _ _ pa wa k) (seq_next x 1024 1280 rfl (by decide) _ _ pb wb k) a _ h0 _ rfl
  · exact gated_at _ _ _ _ _ _ _ _ 1024 _ _ _ _ (seq_next x 768 1024 rfl (by decide) _ _ pa wa k) (seq_next x 768 1024 rfl (by decide) _ _ pb wb k) a _ h0 _ rfl
  · exact gated_at _ _ _ _ _ _ _ _ 768 _ _ _ _ (seq_next x 512 768 rfl (by decide) _ _ pa wa k) (seq_next x 512 768 rfl (by decide) _ _ pb wb k) a _ h0 _ rfl
  · exact gated_at _ _ _ _ _ _ _ _ 512 _ _ _ _ (seq_next x 256 512 rfl (by decide) _ _ pa wa k) (seq_next x 256 512 rfl (by decide) _ _ pb wb k) a _ h0 _ rfl
  · exact gated_at _ _ _ _ _ _ _ _ 256 _ _ _ _ (seq_next x 0 256 rfl (by decide) _ _ pa wa k) (seq_next x 0 256 rfl (by decide) _ _ pb wb k) a _ h0 _ rfl
  · exact gated_at _ _ _ _ _ _ _ _ 0 _ _ _ _ (seq_first x _ pa wa k) (seq_first x _ pb wb k) a _ (h0.trans (Nat.zero_add _).symm) _ rfl

theorem tail_rows (w : Vec Ideal S1x2048x512 .bf16) (j : Fin 8) (k : Fin 512) :
    @Eq EReal (k0_pay13 (View.ld x (Rect.unit (s := S2048x2048) ![1792, 0] ![256, 2048] inb_S2048x2048_S256x2048_1792_0)) w (ix2 j k)) (rowsOf x w k (⟨2040 + j.val, by omega⟩ : Fin 2048)) :=
  (tail_apply _ w j k).trans (Finset.sum_congr rfl fun e _ => congrArg (· * w (ix3 0 e k)) (cut_at x 1792 _ _ e _ (by dsimp only; omega)))

theorem pay1_apply (v : Vec Ideal S8x512 .f32) (j : Fin 8) (k : Fin 512) : @Eq EReal (k0_pay1 (F := Ideal) v (ix3 0 j k)) (v (ix2 j k)) := by
  unfold k0_pay1
  pointwise

theorem pay83_apply (v : Vec Ideal S8x512 .f32) (j : Fin 8) (k : Fin 512) : @Eq EReal (k0_pay83 (F := Ideal) v (ix3 0 j k)) (v (ix2 j k)) := by
  unfold k0_pay83
  pointwise

theorem halos_low (wa wb : Vec Ideal S1x2048x512 .bf16) (j : Fin 8) (k : Fin 512) :
    @Eq EReal (View.canon (halos wa wb x) (ix3 (0 : Fin 2) j k)) (rowsOf x wa k (⟨2040 + j.val, by omega⟩ : Fin 2048)) := by
  unfold halos
  canon_tiles y h
  · exact absurd h0 (by show ¬ (0 = 1 + _); omega)
  · have hy : y = ix3 0 j k := by
      refine (eq_ix3 y).trans ?_
      congr 1
      · exact Subsingleton.elim _ _
      · exact Fin.ext h1.symm
      · exact Fin.ext h2.symm
    rw [hy]
    exact (pay83_apply _ j k).trans (tail_rows x wa j k)

theorem halos_high (wa wb : Vec Ideal S1x2048x512 .bf16) (j : Fin 8) (k : Fin 512) :
    @Eq EReal (View.canon (halos wa wb x) (ix3 (1 : Fin 2) j k)) (rowsOf x wb k (⟨2040 + j.val, by omega⟩ : Fin 2048)) := by
  unfold halos
  canon_tiles y h
  · have hy : y = ix3 0 j k := by
      refine (eq_ix3 y).trans ?_
      congr 1
      · exact Subsingleton.elim _ _
      · exact Fin.ext h1.symm
      · exact Fin.ext h2.symm
    rw [hy]
    exact (pay1_apply _ j k).trans (tail_rows x wb j k)
  · exact absurd h0 (by have : (y 0).val < 1 := (y 0).isLt; show ¬ (1 = _); omega)

/-- What lies under two pieces that hold the place does not matter. -/
theorem under_two {Val : EltTy → Type} [∀ e, Nonempty (Val e)] {q : Shape} {e : EltTy} (a b : View.Piece Val q e) (L L' : List (View.Piece Val q e)) (y : q.Idx)
    (h : (∃ z, a.1.emb z = y) ∨ ∃ z, b.1.emb z = y) : View.canon (a :: b :: L) y = View.canon (a :: b :: L') y := by
  obtain ⟨ra, va⟩ := a
  obtain ⟨rb, vb⟩ := b
  by_cases ha : ∃ z, ra.emb z = y
  · obtain ⟨z, rfl⟩ := ha
    rw [View.canon_cons_emb, View.canon_cons_emb]
  · have hn : y ∉ ra.set := by
      rw [← Rect.map_emb_univ, Finset.mem_map]
      exact fun ⟨z, _, hz⟩ => ha ⟨z, hz⟩
    rw [View.canon_cons_of_not_mem ⟨ra, va⟩ _ hn, View.canon_cons_of_not_mem ⟨ra, va⟩ _ hn]
    obtain ⟨z, rfl⟩ := h.resolve_left ha
    rw [View.canon_cons_emb, View.canon_cons_emb]

theorem over_eq (wa wb : Vec Ideal S1x2048x512 .bf16) (z : Vec Ideal S2x8x512 .f32) (p : Fin 2) (j : Fin 8) (k : Fin 512) :
    View.canon (halosOver wa wb z x) (ix3 p j k) = View.canon (halos wa wb x) (ix3 p j k) := by
  have hp : p = 0 ∨ p = 1 := by omega
  refine under_two _ _ _ _ _ (hp.symm.imp ?_ ?_)
  · rintro rfl
    refine ⟨ix3 0 j k, funext fun a => Fin.ext ?_⟩
    match a with
    | ⟨0, _⟩ => rfl
    | ⟨1, _⟩ => show 0 + 1 * j.val = j.val; omega
    | ⟨2, _⟩ => show 0 + 1 * k.val = k.val; omega
  · rintro rfl
    refine ⟨ix3 0 j k, funext fun a => Fin.ext ?_⟩
    match a with
    | ⟨0, _⟩ => rfl
    | ⟨1, _⟩ => show 0 + 1 * j.val = j.val; omega
    | ⟨2, _⟩ => show 0 + 1 * k.val = k.val; omega

end Tile

/-- What the first tile of a sequence finds before it. -/
def zeros : Vec Ideal S2x8x512 .f32 := k0_pay4 (F := Ideal)

/-- The store of those zeros. -/
def fill : List (View.Piece (Elt Ideal) S2x8x512 .f32) := [⟨Rect.unit ![0, 0, 0] ![2, 8, 512] inb_S2x8x512_S2x8x512_0_0_0, zeros⟩]

section Body
variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x3x512 .f32) (harg5 : arg5.IsWhole) (arg6 : Memref sig .tc .vmem S1x3x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S2048x512 .bf16) (harg9 : arg9.IsWhole) (arg10 : Memref sig .tc .vmem S2x2048x512 .bf16) (harg10 : arg10.IsWhole) (arg11 : Memref sig .tc .vmem S2x8x512 .f32) (harg11 : arg11.IsWhole)
  (x0 : Vec Ideal S2048x2048 .bf16) (x1 x2 : Vec Ideal S1x2048x512 .f32) (x3 x4 : Vec Ideal S1x3x512 .f32) (x5 x6 : Vec Ideal S1x1x512 .f32) (xw : Vec Ideal S2x2048x512 .bf16) (xh : Vec Ideal S2x8x512 .f32)

theorem zero_low : arg11.view.readCov fill (Rect.unit (s := S2x8x512) ![0, 0, 0] ![1, 8, 512] inb_S2x8x512_S1x8x512_0_0_0).toLoadRect = View.ld zeros (Rect.unit ![0, 0, 0] ![1, 8, 512] inb_S2x8x512_S1x8x512_0_0_0) :=
  View.readCov_fill _ _ _ _ _ (by decide)

theorem zero_high : arg11.view.readCov fill (Rect.unit (s := S2x8x512) ![1, 0, 0] ![1, 8, 512] inb_S2x8x512_S1x8x512_1_0_0).toLoadRect = View.ld zeros (Rect.unit ![1, 0, 0] ![1, 8, 512] inb_S2x8x512_S1x8x512_1_0_0) :=
  View.readCov_fill _ _ _ _ _ (by decide)

/-- The two halves of the weight scratch as the first tile of a column block stores them. -/
def halves : List (View.Piece (Elt Ideal) S2x2048x512 .bf16) :=
  [⟨Rect.unit ![1, 0, 0] ![1, 2048, 512] inb_S2x2048x512_S1x2048x512_1_0_0, k0_pay3 x2⟩,
    ⟨Rect.unit ![0, 0, 0] ![1, 2048, 512] inb_S2x2048x512_S1x2048x512_0_0_0, k0_pay2 x1⟩]

theorem low_half : arg10.view.readCov (halves x1 x2) (Rect.unit (s := S2x2048x512) ![0, 0, 0] ![1, 2048, 512] inb_S2x2048x512_S1x2048x512_0_0_0).toLoadRect = k0_pay2 x1 :=
  (View.readCov_skip _ _ _ _ _ (by decide)).trans (View.readCov_cons_toLoadRect _ _ _ _)

theorem high_half : arg10.view.readCov (halves x1 x2) (Rect.unit (s := S2x2048x512) ![1, 0, 0] ![1, 2048, 512] inb_S2x2048x512_S1x2048x512_1_0_0).toLoadRect = k0_pay3 x2 :=
  View.readCov_cons_toLoadRect _ _ _ _

theorem out_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 hc0 hc1 x0 x1 x2 x3 x4 x5 x6 xw xh
      = View.canon (bands (k0_pay5 x3) (k0_pay6 x4) (k0_pay7 x5) (k0_pay8 x6) (k0_pay9 (View.ld xh (Rect.unit ![0, 0, 0] ![1, 8, 512] inb_S2x8x512_S1x8x512_0_0_0))) (k0_pay10 (View.ld xh (Rect.unit ![1, 0, 0] ![1, 8, 512] inb_S2x8x512_S1x8x512_1_0_0))) (View.ld xw (Rect.unit ![0, 0, 0] ![1, 2048, 512] inb_S2x2048x512_S1x2048x512_0_0_0)) (View.ld xw (Rect.unit ![1, 0, 0] ![1, 2048, 512] inb_S2x2048x512_S1x2048x512_1_0_0)) x0) := by
  frame_out
  rfl

theorem halo_B (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 x3 x4 x5 x6 xw xh
      = View.canon (halos (View.ld xw (Rect.unit ![0, 0, 0] ![1, 2048, 512] inb_S2x2048x512_S1x2048x512_0_0_0)) (View.ld xw (Rect.unit ![1, 0, 0] ![1, 2048, 512] inb_S2x2048x512_S1x2048x512_1_0_0)) x0) := by
  frame_out
  rfl

theorem out_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xw
      = View.canon (bands (k0_pay5 x3) (k0_pay6 x4) (k0_pay7 x5) (k0_pay8 x6) (k0_pay9 (View.ld zeros (Rect.unit ![0, 0, 0] ![1, 8, 512] inb_S2x8x512_S1x8x512_0_0_0))) (k0_pay10 (View.ld zeros (Rect.unit ![1, 0, 0] ![1, 8, 512] inb_S2x8x512_S1x8x512_1_0_0))) (View.ld xw (Rect.unit ![0, 0, 0] ![1, 2048, 512] inb_S2x2048x512_S1x2048x512_0_0_0)) (View.ld xw (Rect.unit ![1, 0, 0] ![1, 2048, 512] inb_S2x2048x512_S1x2048x512_1_0_0)) x0) := by
  have h : View.canon (bands (k0_pay5 x3) (k0_pay6 x4) (k0_pay7 x5) (k0_pay8 x6) (k0_pay9 (arg11.view.readCov fill (Rect.unit (s := S2x8x512) ![0, 0, 0] ![1, 8, 512] inb_S2x8x512_S1x8x512_0_0_0).toLoadRect)) (k0_pay10 (arg11.view.readCov fill (Rect.unit (s := S2x8x512) ![1, 0, 0] ![1, 8, 512] inb_S2x8x512_S1x8x512_1_0_0).toLoadRect)) (View.ld xw (Rect.unit ![0, 0, 0] ![1, 2048, 512] inb_S2x2048x512_S1x2048x512_0_0_0)) (View.ld xw (Rect.unit ![1, 0, 0] ![1, 2048, 512] inb_S2x2048x512_S1x2048x512_1_0_0)) x0) = View.canon (bands (k0_pay5 x3) (k0_pay6 x4) (k0_pay7 x5) (k0_pay8 x6) (k0_pay9 (View.ld zeros (Rect.unit ![0, 0, 0] ![1, 8, 512] inb_S2x8x512_S1x8x512_0_0_0))) (k0_pay10 (View.ld zeros (Rect.unit ![1, 0, 0] ![1, 8, 512] inb_S2x8x512_S1x8x512_1_0_0))) (View.ld xw (Rect.unit ![0, 0, 0] ![1, 2048, 512] inb_S2x2048x512_S1x2048x512_0_0_0)) (View.ld xw (Rect.unit ![1, 0, 0] ![1, 2048, 512] inb_S2x2048x512_S1x2048x512_1_0_0)) x0) := by
    rw [zero_low, zero_high]
  frame_out
  exact h

theorem halo_C (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 x3 x4 x5 x6 xw
      = View.canon (halosOver (View.ld xw (Rect.unit ![0, 0, 0] ![1, 2048, 512] inb_S2x2048x512_S1x2048x512_0_0_0)) (View.ld xw (Rect.unit ![1, 0, 0] ![1, 2048, 512] inb_S2x2048x512_S1x2048x512_1_0_0)) zeros x0) := by
  frame_out
  rfl

theorem out_A (hc0 : cond0_0 i) (hc1 : cond0_1 i) :
    out0_A_7 c i arg2 harg2 arg3 harg3 arg4 harg4 arg5 harg5 arg6 harg6 arg7 harg7 arg8 harg8 arg9 harg9 arg10 harg10 arg11 harg11 hc0 hc1 x0 x1 x2 x3 x4 x5 x6
      = View.canon (bands (k0_pay5 x3) (k0_pay6 x4) (k0_pay7 x5) (k0_pay8 x6) (k0_pay9 (View.ld zeros (Rect.unit ![0, 0, 0] ![1, 8, 512] inb_S2x8x512_S1x8x512_0_0_0))) (k0_pay10 (View.ld zeros (Rect.unit ![1, 0, 0] ![1, 8, 512] inb_S2x8x512_S1x8x512_1_0_0))) (k0_pay2 x1) (k0_pay3 x2) x0) := by
  have h : View.canon (bands (k0_pay5 x3) (k0_pay6 x4) (k0_pay7 x5) (k0_pay8 x6) (k0_pay9 (arg11.view.readCov fill (Rect.unit (s := S2x8x512) ![0, 0, 0] ![1, 8, 512] inb_S2x8x512_S1x8x512_0_0_0).toLoadRect)) (k0_pay10 (arg11.view.readCov fill (Rect.unit (s := S2x8x512) ![1, 0, 0] ![1, 8, 512] inb_S2x8x512_S1x8x512_1_0_0).toLoadRect)) (arg10.view.readCov (halves x1 x2) (Rect.unit (s := S2x2048x512) ![0, 0, 0] ![1, 2048, 512] inb_S2x2048x512_S1x2048x512_0_0_0).toLoadRect) (arg10.view.readCov (halves x1 x2) (Rect.unit (s := S2x2048x512) ![1, 0, 0] ![1, 2048, 512] inb_S2x2048x512_S1x2048x512_1_0_0).toLoadRect) x0) = View.canon (bands (k0_pay5 x3) (k0_pay6 x4) (k0_pay7 x5) (k0_pay8 x6) (k0_pay9 (View.ld zeros (Rect.unit ![0, 0, 0] ![1, 8, 512] inb_S2x8x512_S1x8x512_0_0_0))) (k0_pay10 (View.ld zeros (Rect.unit ![1, 0, 0] ![1, 8, 512] inb_S2x8x512_S1x8x512_1_0_0))) (k0_pay2 x1) (k0_pay3 x2) x0) := by
    rw [zero_low, zero_high, low_half, high_half]
  frame_out
  exact h

theorem halo_A (hc0 : cond0_0 i) (hc1 : cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6
      = View.canon (halosOver (k0_pay2 x1) (k0_pay3 x2) zeros x0) := by
  have h : View.canon (halosOver (arg10.view.readCov (halves x1 x2) (Rect.unit (s := S2x2048x512) ![0, 0, 0] ![1, 2048, 512] inb_S2x2048x512_S1x2048x512_0_0_0).toLoadRect) (arg10.view.readCov (halves x1 x2) (Rect.unit (s := S2x2048x512) ![1, 0, 0] ![1, 2048, 512] inb_S2x2048x512_S1x2048x512_1_0_0).toLoadRect) zeros x0) = View.canon (halosOver (k0_pay2 x1) (k0_pay3 x2) zeros x0) := by
    rw [low_half, high_half]
  frame_out
  exact h

theorem weights_A (hc0 : cond0_0 i) (hc1 : cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6 = View.canon (halves x1 x2) := by
  frame_out
  rfl

end Body

/-- The columns of the two halves that a point's column block holds. -/
def colA (n : ℕ) (h : n < 88) (k : Fin 512) : Fin 11264 := ⟨512 * (n / 8) + k.val, by omega⟩

def colB (n : ℕ) (h : n < 88) (k : Fin 512) : Fin 11264 := ⟨5632 + (512 * (n / 8) + k.val), by omega⟩

theorem lt_88 (t : Fin cfg0.N) : t.val < 88 := lt_of_lt_of_eq t.isLt N_0

variable (m : (ℓ : Loc nD τ sig) → Buf (Elt Ideal) ℓ)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = t.val / 8 :=
  (by decide +kernel : ∀ t : Fin grid0.N, _)
theorem idx2 : ∀ t : Fin cfg0.N, win0_2.index t (0 : Fin 3) = 1 ∧ win0_2.index t (1 : Fin 3) = 0 ∧ win0_2.index t (2 : Fin 3) = 11 + t.val / 8 :=
  (by decide +kernel : ∀ t : Fin grid0.N, _)
theorem idx3 : ∀ t : Fin cfg0.N, win0_3.index t (0 : Fin 3) = 1 ∧ win0_3.index t (1 : Fin 3) = 0 ∧ win0_3.index t (2 : Fin 3) = t.val / 8 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 11 + t.val / 8 :=
  (by decide +kernel : ∀ t : Fin grid0.N, _)
theorem idx5 : ∀ t : Fin cfg0.N, win0_5.index t (0 : Fin 3) = 1 ∧ win0_5.index t (1 : Fin 3) = 0 ∧ win0_5.index t (2 : Fin 3) = t.val / 8 :=
  (by decide +kernel : ∀ t : Fin grid0.N, _)
theorem idx6 : ∀ t : Fin cfg0.N, win0_6.index t (0 : Fin 3) = 1 ∧ win0_6.index t (1 : Fin 3) = 0 ∧ win0_6.index t (2 : Fin 3) = 11 + t.val / 8 :=
  (by decide +kernel : ∀ t : Fin grid0.N, _)

theorem x_apply (c : Dev nD) (t : Fin cfg0.N) (r e : Fin 2048) :
    (iblk m c 0 t : Vec Ideal S2048x2048 .bf16) (ix2 r e)
      = V m c main_v1 (ix2 (⟨2048 * (t.val % 8) + r.val, by omega⟩ : Fin 16384) e) := by
  have hi := idx0 t
  unfold iblk
  rw [View.read_apply]
  show V m c main_v1 _ = _
  congr 1
  funext a
  apply Fin.ext
  match a with
  | ⟨0, _⟩ => show win0_0.index t 0 * 2048 + 1 * r.val = 2048 * (t.val % 8) + r.val; rw [hi.1]; omega
  | ⟨1, _⟩ => show win0_0.index t 1 * 2048 + 1 * e.val = e.val; rw [hi.2]; omega

theorem wa_apply (c : Dev nD) (t : Fin cfg0.N) (e : Fin 2048) (k : Fin 512) :
    (iblk m c 1 t : Vec Ideal S1x2048x512 .f32) (ix3 0 e k) = V m c main_arg1 (ix3 (1 : Fin 2) e (colA t.val (lt_88 t) k)) := by
  have hi := idx1 t
  unfold iblk
  rw [View.read_apply]
  show V m c main_arg1 _ = _
  congr 1
  funext a
  apply Fin.ext
  match a with
  | ⟨0, _⟩ => show win0_1.index t 0 * 1 + 1 * 0 = 1; rw [hi.1]
  | ⟨1, _⟩ => show win0_1.index t 1 * 2048 + 1 * e.val = e.val; rw [hi.2.1]; omega
  | ⟨2, _⟩ => show win0_1.index t 2 * 512 + 1 * k.val = 512 * (t.val / 8) + k.val; rw [hi.2.2]; omega

theorem wb_apply (c : Dev nD) (t : Fin cfg0.N) (e : Fin 2048) (k : Fin 512) :
    (iblk m c 2 t : Vec Ideal S1x2048x512 .f32) (ix3 0 e k) = V m c main_arg1 (ix3 (1 : Fin 2) e (colB t.val (lt_88 t) k)) := by
  have hi := idx2 t
  unfold iblk
  rw [View.read_apply]
  show V m c main_arg1 _ = _
  congr 1
  funext a
  apply Fin.ext
  match a with
  | ⟨0, _⟩ => show win0_2.index t 0 * 1 + 1 * 0 = 1; rw [hi.1]
  | ⟨1, _⟩ => show win0_2.index t 1 * 2048 + 1 * e.val = e.val; rw [hi.2.1]; omega
  | ⟨2, _⟩ => show win0_2.index t 2 * 512 + 1 * k.val = 5632 + (512 * (t.val / 8) + k.val); rw [hi.2.2]; omega

theorem ca_apply (c : Dev nD) (t : Fin cfg0.N) (e : Fin 3) (k : Fin 512) :
    (iblk m c 3 t : Vec Ideal S1x3x512 .f32) (ix3 0 e k) = V m c main_arg2 (ix3 (1 : Fin 2) e (colA t.val (lt_88 t) k)) := by
  have hi := idx3 t
  unfold iblk
  rw [View.read_apply]
  show V m c main_arg2 _ = _
  congr 1
  funext a
  apply Fin.ext
  match a with
  | ⟨0, _⟩ => show win0_3.index t 0 * 1 + 1 * 0 = 1; rw [hi.1]
  | ⟨1, _⟩ => show win0_3.index t 1 * 3 + 1 * e.val = e.val; rw [hi.2.1]; omega
  | ⟨2, _⟩ => show win0_3.index t 2 * 512 + 1 * k.val = 512 * (t.val / 8) + k.val; rw [hi.2.2]; omega

theorem cb_apply (c : Dev nD) (t : Fin cfg0.N) (e : Fin 3) (k : Fin 512) :
    (iblk m c 4 t : Vec Ideal S1x3x512 .f32) (ix3 0 e k) = V m c main_arg2 (ix3 (1 : Fin 2) e (colB t.val (lt_88 t) k)) := by
  have hi := idx4 t
  unfold iblk
  rw [View.read_apply]
  show V m c main_arg2 _ = _
  congr 1
  funext a
  apply Fin.ext
  match a with
  | ⟨0, _⟩ => show win0_4.index t 0 * 1 + 1 * 0 = 1; rw [hi.1]
  | ⟨1, _⟩ => show win0_4.index t 1 * 3 + 1 * e.val = e.val; rw [hi.2.1]; omega
  | ⟨2, _⟩ => show win0_4.index t 2 * 512 + 1 * k.val = 5632 + (512 * (t.val / 8) + k.val); rw [hi.2.2]; omega

theorem ba_apply (c : Dev nD) (t : Fin cfg0.N) (k : Fin 512) :
    (iblk m c 5 t : Vec Ideal S1x1x512 .f32) (ix3 0 0 k) = V m c main_v2 (ix3 (1 : Fin 2) 0 (colA t.val (lt_88 t) k)) := by
  have hi := idx5 t
  unfold iblk
  rw [View.read_apply]
  show V m c main_v2 _ = _
  congr 1
  funext a
  apply Fin.ext
  match a with
  | ⟨0, _⟩ => show win0_5.index t 0 * 1 + 1 * 0 = 1; rw [hi.1]
  | ⟨1, _⟩ => show win0_5.index t 1 * 1 + 1 * 0 = 0; rw [hi.2.1]
  | ⟨2, _⟩ => show win0_5.index t 2 * 512 + 1 * k.val = 512 * (t.val / 8) + k.val; rw [hi.2.2]; omega

theorem bb_apply (c : Dev nD) (t : Fin cfg0.N) (k : Fin 512) :
    (iblk m c 6 t : Vec Ideal S1x1x512 .f32) (ix3 0 0 k) = V m c main_v2 (ix3 (1 : Fin 2) 0 (colB t.val (lt_88 t) k)) := by
  have hi := idx6 t
  unfold iblk
  rw [View.read_apply]
  show V m c main_v2 _ = _
  congr 1
  funext a
  apply Fin.ext
  match a with
  | ⟨0, _⟩ => show win0_6.index t 0 * 1 + 1 * 0 = 1; rw [hi.1]
  | ⟨1, _⟩ => show win0_6.index t 1 * 1 + 1 * 0 = 0; rw [hi.2.1]
  | ⟨2, _⟩ => show win0_6.index t 2 * 512 + 1 * k.val = 5632 + (512 * (t.val / 8) + k.val); rw [hi.2.2]; omega

theorem entry_x (c : Dev nD) (r : Fin 16384) (k : Fin 2048) :
    @Eq EReal (V m c main_v1 (ix2 r k)) (m ((c : Thread nD τ).loc main_arg0) (ix3 (⟨r.val / 4096, by omega⟩ : Fin 4) (⟨r.val % 4096, by omega⟩ : Fin 4096) k)) := by
  entry_read
  pointwise

theorem entry_bias (c : Dev nD) (l : Fin 2) (k : Fin 11264) :
    V m c main_v2 (ix3 l 0 k) = m ((c : Thread nD τ).loc main_arg3) (ix2 l k) := by
  entry_read
  pointwise

/-- One column of the product, as a sequence that starts eight places early. -/
def seqAt (x : Vec Ideal S4x4096x2048 .f32) (w : Vec Ideal S2x2048x11264 .f32) (b : ℕ) (q : Fin 11264) (u : ℕ) : EReal :=
  if h : (8 ≤ u ∧ u - 8 < 4096) ∧ b < 4 then ∑ e : Fin 2048, x (ix3 (⟨b, h.2⟩ : Fin 4) (⟨u - 8, h.1.2⟩ : Fin 4096) e) * w (ix3 1 e q) else 0

/-- One value of the call's result. -/
def spec (x : Vec Ideal S4x4096x2048 .f32) (w : Vec Ideal S2x2048x11264 .f32) (cw : Vec Ideal S2x3x11264 .f32) (cb : Vec Ideal S2x11264 .f32) (R : ℕ) (qa qb : Fin 11264) : EReal :=
  gateAt (conv (cw (ix3 1 0 qa)) (cw (ix3 1 1 qa)) (cw (ix3 1 2 qa)) (cb (ix2 1 qa)) (seqAt x w (R / 4096) qa) (R % 4096))
    (conv (cw (ix3 1 0 qb)) (cw (ix3 1 1 qb)) (cw (ix3 1 2 qb)) (cb (ix2 1 qb)) (seqAt x w (R / 4096) qb) (R % 4096))

section Points
variable (c : Dev nD)

/-- A row of the tile times a weight column is an entry of that column's sequence. -/
theorem rows_glue (t : Fin cfg0.N) (w : Vec Ideal S1x2048x512 .bf16) (k : Fin 512) (q : Fin 11264)
    (hw : ∀ e : Fin 2048, @Eq EReal (w (ix3 0 e k)) (m ((c : Thread nD τ).loc main_arg1) (ix3 (1 : Fin 2) e q))) (r : Fin 2048) :
    rowsOf (iblk m c 0 t) w k r
      = seqAt (m ((c : Thread nD τ).loc main_arg0)) (m ((c : Thread nD τ).loc main_arg1)) (t.val % 8 / 2) q (2048 * (t.val % 2) + (8 + r.val)) := by
  have hr := r.isLt
  unfold rowsOf seqAt
  rw [dif_pos ⟨⟨by omega, by omega⟩, by omega⟩]
  refine Finset.sum_congr rfl fun e _ => ?_
  rw [hw, x_apply, entry_x]
  refine congrArg (· * _) (congrArg (m ((c : Thread nD τ).loc main_arg0)) ?_)
  congr 1 <;> apply Fin.ext <;> dsimp only <;> omega

/-- The tile's sequence is a stretch of that column's sequence. -/
theorem seq_glue (t : Fin cfg0.N) (w : Vec Ideal S1x2048x512 .bf16) (k : Fin 512) (q : Fin 11264) (pv : Vec Ideal S8x512 .f32)
    (hw : ∀ e : Fin 2048, @Eq EReal (w (ix3 0 e k)) (m ((c : Thread nD τ).loc main_arg1) (ix3 (1 : Fin 2) e q)))
    (hp : ∀ j : Fin 8, @Eq EReal (pv (ix2 j k)) (seqAt (m ((c : Thread nD τ).loc main_arg0)) (m ((c : Thread nD τ).loc main_arg1)) (t.val % 8 / 2) q (2048 * (t.val % 2) + j.val))) (s : ℕ) (hs : s < 2056) :
    tileSeq pv (iblk m c 0 t) w k s
      = seqAt (m ((c : Thread nD τ).loc main_arg0)) (m ((c : Thread nD τ).loc main_arg1)) (t.val % 8 / 2) q (2048 * (t.val % 2) + s) := by
  unfold tileSeq ext
  by_cases h : s < 8
  · rw [dif_pos h]
    exact hp ⟨s, h⟩
  · rw [dif_neg h, dif_pos (by omega)]
    refine (rows_glue m c t w k q hw _).trans (congrArg _ ?_)
    dsimp only
    omega

theorem taps5 (v : Vec Ideal S1x3x512 .f32) (l : Fin 3) (k : Fin 512) : @Eq EReal (k0_pay5 (F := Ideal) v (ix2 l k)) (v (ix3 0 l k)) := by
  unfold k0_pay5
  pointwise

theorem taps6 (v : Vec Ideal S1x3x512 .f32) (l : Fin 3) (k : Fin 512) : @Eq EReal (k0_pay6 (F := Ideal) v (ix2 l k)) (v (ix3 0 l k)) := by
  unfold k0_pay6
  pointwise

theorem bias7 (v : Vec Ideal S1x1x512 .f32) (k : Fin 512) : @Eq EReal (k0_pay7 (F := Ideal) v (ix2 0 k)) (v (ix3 0 0 k)) := by
  unfold k0_pay7
  pointwise

theorem bias8 (v : Vec Ideal S1x1x512 .f32) (k : Fin 512) : @Eq EReal (k0_pay8 (F := Ideal) v (ix2 0 k)) (v (ix3 0 0 k)) := by
  unfold k0_pay8
  pointwise

theorem rows9 (v : Vec Ideal S1x8x512 .f32) (j : Fin 8) (k : Fin 512) : @Eq EReal (k0_pay9 (F := Ideal) v (ix2 j k)) (v (ix3 0 j k)) := by
  unfold k0_pay9
  pointwise

theorem rows10 (v : Vec Ideal S1x8x512 .f32) (j : Fin 8) (k : Fin 512) : @Eq EReal (k0_pay10 (F := Ideal) v (ix2 j k)) (v (ix3 0 j k)) := by
  unfold k0_pay10
  pointwise

theorem pay2_apply (v : Vec Ideal S1x2048x512 .f32) (e : Fin 2048) (k : Fin 512) : @Eq EReal (k0_pay2 (F := Ideal) v (ix3 0 e k)) (v (ix3 0 e k)) := by
  unfold k0_pay2
  pointwise

theorem pay3_apply (v : Vec Ideal S1x2048x512 .f32) (e : Fin 2048) (k : Fin 512) : @Eq EReal (k0_pay3 (F := Ideal) v (ix3 0 e k)) (v (ix3 0 e k)) := by
  unfold k0_pay3
  pointwise

theorem zeros_apply (p : Fin 2) (j : Fin 8) (k : Fin 512) : @Eq EReal (zeros (ix3 p j k)) 0 := by
  unfold zeros k0_pay4
  pointwise

/-- Given the weights and the rows before the tile, the eight bands hold the call's values. -/
theorem tile_spec (t : Fin cfg0.N) (wa wb : Vec Ideal S1x2048x512 .bf16) (pa pb : Vec Ideal S8x512 .f32) (k : Fin 512)
    (ha : ∀ e : Fin 2048, @Eq EReal (wa (ix3 0 e k)) (m ((c : Thread nD τ).loc main_arg1) (ix3 (1 : Fin 2) e (colA t.val (lt_88 t) k))))
    (hb : ∀ e : Fin 2048, @Eq EReal (wb (ix3 0 e k)) (m ((c : Thread nD τ).loc main_arg1) (ix3 (1 : Fin 2) e (colB t.val (lt_88 t) k))))
    (hpa : ∀ j : Fin 8, @Eq EReal (pa (ix2 j k)) (seqAt (m ((c : Thread nD τ).loc main_arg0)) (m ((c : Thread nD τ).loc main_arg1)) (t.val % 8 / 2) (colA t.val (lt_88 t) k) (2048 * (t.val % 2) + j.val)))
    (hpb : ∀ j : Fin 8, @Eq EReal (pb (ix2 j k)) (seqAt (m ((c : Thread nD τ).loc main_arg0)) (m ((c : Thread nD τ).loc main_arg1)) (t.val % 8 / 2) (colB t.val (lt_88 t) k) (2048 * (t.val % 2) + j.val)))
    (r : Fin 2048) :
    @Eq EReal (View.canon (bands (k0_pay5 (iblk m c 3 t)) (k0_pay6 (iblk m c 4 t)) (k0_pay7 (iblk m c 5 t)) (k0_pay8 (iblk m c 6 t)) pa pb wa wb (iblk m c 0 t)) (ix2 r k))
      (spec (m ((c : Thread nD τ).loc main_arg0)) (m ((c : Thread nD τ).loc main_arg1)) (m ((c : Thread nD τ).loc main_arg2)) (m ((c : Thread nD τ).loc main_arg3))
        (2048 * (t.val % 8) + r.val) (colA t.val (lt_88 t) k) (colB t.val (lt_88 t) k)) := by
  have hr := r.isLt
  have hd : (2048 * (t.val % 8) + r.val) / 4096 = t.val % 8 / 2 := by omega
  have hm : (2048 * (t.val % 8) + r.val) % 4096 = 2048 * (t.val % 2) + r.val := by omega
  refine (bands_apply _ _ _ _ _ wa wb pa pb r k).trans ?_
  unfold tileAt spec conv
  rw [seq_glue m c t wa k _ pa ha hpa _ (by omega), seq_glue m c t wa k _ pa ha hpa _ (by omega), seq_glue m c t wa k _ pa ha hpa _ (by omega),
    seq_glue m c t wb k _ pb hb hpb _ (by omega), seq_glue m c t wb k _ pb hb hpb _ (by omega), seq_glue m c t wb k _ pb hb hpb _ (by omega), hd, hm]
  simp only [taps5, taps6, bias7, bias8, ca_apply, cb_apply, ba_apply, bb_apply, Nat.add_assoc]
  rw [V_main_arg2, entry_bias, entry_bias]

theorem halves_low (x1 x2 : Vec Ideal S1x2048x512 .f32) (e : Fin 2048) (k : Fin 512) : @Eq EReal (View.canon (halves x1 x2) (ix3 (0 : Fin 2) e k)) (x1 (ix3 0 e k)) := by
  unfold halves
  canon_tiles y h
  · exact absurd h0 (by show ¬ (0 = 1 + _); omega)
  · have hy : y = ix3 0 e k := by
      refine (eq_ix3 y).trans ?_
      congr 1
      · exact Subsingleton.elim _ _
      · exact Fin.ext h1.symm
      · exact Fin.ext h2.symm
    rw [hy]
    exact pay2_apply x1 e k

theorem halves_high (x1 x2 : Vec Ideal S1x2048x512 .f32) (e : Fin 2048) (k : Fin 512) : @Eq EReal (View.canon (halves x1 x2) (ix3 (1 : Fin 2) e k)) (x2 (ix3 0 e k)) := by
  unfold halves
  canon_tiles y h
  · have hy : y = ix3 0 e k := by
      refine (eq_ix3 y).trans ?_
      congr 1
      · exact Subsingleton.elim _ _
      · exact Fin.ext h1.symm
      · exact Fin.ext h2.symm
    rw [hy]
    exact pay3_apply x2 e k
  · exact absurd h0 (by have : (y 0).val < 1 := (y 0).isLt; show ¬ (1 = _); omega)

/-- What a load of one of the two halves of a scratch reads. -/
theorem half_ld {Val : EltTy → Type} {e : EltTy} {n l : ℕ} (o : ℕ) (ho : o < 2) (inb : ∀ a, (![o, 0, 0] : Fin 3 → ℕ) a + (![1, n, l] : Fin 3 → ℕ) a ≤ (![2, n, l] : Fin 3 → ℕ) a)
    (v : (⟨3, ![2, n, l]⟩ : Shape).Idx → Val e) (a : Fin n) (k : Fin l) :
    View.ld v (Rect.unit (s := ⟨3, ![2, n, l]⟩) ![o, 0, 0] ![1, n, l] inb) (ix3 0 a k) = v (ix3 (⟨o, ho⟩ : Fin 2) a k) := by
  refine congrArg v (funext fun z => Fin.ext ?_)
  match z with
  | ⟨0, _⟩ => rfl
  | ⟨1, _⟩ => show 0 + 1 * a.val = a.val; omega
  | ⟨2, _⟩ => show 0 + 1 * k.val = k.val; omega

/-- After a point the weight scratch holds the two halves of the point's column block. -/
theorem weights (n : ℕ) (h : n < cfg0.N) (h88 : n < 88) (e : Fin 2048) (k : Fin 512) :
    @Eq EReal ((outsAt0 m c n h).2.1 (ix3 (0 : Fin 2) e k)) (m ((c : Thread nD τ).loc main_arg1) (ix3 (1 : Fin 2) e (colA n h88 k)))
    ∧ @Eq EReal ((outsAt0 m c n h).2.1 (ix3 (1 : Fin 2) e k)) (m ((c : Thread nD τ).loc main_arg1) (ix3 (1 : Fin 2) e (colB n h88 k))) := by
  induction n with
  | zero =>
    rw [outsAt0_A m c ⟨0, h⟩ rfl rfl]
    dsimp only
    rw [weights_A]
    rw [halves_low, halves_high, wa_apply, wb_apply, V_main_arg1]
    exact ⟨rfl, rfl⟩
  | succ n ih =>
    by_cases h0 : (n + 1) % 8 = 0
    · rw [outsAt0_A m c ⟨n + 1, h⟩ h0 (by dsimp only; omega)]
      dsimp only
      rw [weights_A]
      rw [halves_low, halves_high, wa_apply, wb_apply, V_main_arg1]
      exact ⟨rfl, rfl⟩
    · have ih := ih (Nat.lt_of_succ_lt h) (by omega)
      have ea : colA (n + 1) h88 k = colA n (by omega) k := Fin.ext (by unfold colA; dsimp only; omega)
      have eb : colB (n + 1) h88 k = colB n (by omega) k := Fin.ext (by unfold colB; dsimp only; omega)
      rw [ea, eb]
      by_cases h1 : (n + 1) % 2 = 0
      · rw [outsAt0_C m c ⟨n + 1, h⟩ h0 h1]
        dsimp only
        unfold sout0_C_0
        exact ih
      · rw [outsAt0_B m c ⟨n + 1, h⟩ h0 h1]
        dsimp only
        unfold sout0_B_0
        exact ih

/-- Between the first tile of a column block and the last, the weights come from the point before. -/
theorem weights_before (t : Fin cfg0.N) (h0 : ¬t.val % 8 = 0) (h : t.val - 1 < cfg0.N) (e : Fin 2048) (k : Fin 512) :
    @Eq EReal ((outsAt0 m c (t.val - 1) h).2.1 (ix3 (0 : Fin 2) e k)) (m ((c : Thread nD τ).loc main_arg1) (ix3 (1 : Fin 2) e (colA t.val (lt_88 t) k)))
    ∧ @Eq EReal ((outsAt0 m c (t.val - 1) h).2.1 (ix3 (1 : Fin 2) e k)) (m ((c : Thread nD τ).loc main_arg1) (ix3 (1 : Fin 2) e (colB t.val (lt_88 t) k))) := by
  have ht := lt_88 t
  have hw := weights m c (t.val - 1) h (by omega) e k
  have ea : colA (t.val - 1) (by omega) k = colA t.val (lt_88 t) k := Fin.ext (by unfold colA; dsimp only; omega)
  have eb : colB (t.val - 1) (by omega) k = colB t.val (lt_88 t) k := Fin.ext (by unfold colB; dsimp only; omega)
  rw [ea, eb] at hw
  exact hw

/-- After a point the row scratch holds the last eight rows of the point's tile. -/
theorem carried (t : Fin cfg0.N) (j : Fin 8) (k : Fin 512) :
    @Eq EReal ((outsAt0 m c t.val t.isLt).2.2 (ix3 (0 : Fin 2) j k))
        (seqAt (m ((c : Thread nD τ).loc main_arg0)) (m ((c : Thread nD τ).loc main_arg1)) (t.val % 8 / 2) (colA t.val (lt_88 t) k) (2048 * (t.val % 2) + (8 + (2040 + j.val))))
    ∧ @Eq EReal ((outsAt0 m c t.val t.isLt).2.2 (ix3 (1 : Fin 2) j k))
        (seqAt (m ((c : Thread nD τ).loc main_arg0)) (m ((c : Thread nD τ).loc main_arg1)) (t.val % 8 / 2) (colB t.val (lt_88 t) k) (2048 * (t.val % 2) + (8 + (2040 + j.val)))) := by
  by_cases h0 : t.val % 8 = 0
  · rw [outsAt0_A m c t h0 (by omega)]
    dsimp only
    rw [halo_A, over_eq, over_eq, halos_low, halos_high]
    exact ⟨rows_glue m c t _ k _ (fun e => (pay2_apply _ e k).trans ((wa_apply m c t e k).trans (by rw [V_main_arg1]))) _,
      rows_glue m c t _ k _ (fun e => (pay3_apply _ e k).trans ((wb_apply m c t e k).trans (by rw [V_main_arg1]))) _⟩
  · have hw := weights_before m c t h0 (by omega)
    by_cases h1 : t.val % 2 = 0
    · rw [outsAt0_C m c t h0 h1]
      dsimp only
      rw [halo_C, over_eq, over_eq, halos_low, halos_high]
      exact ⟨rows_glue m c t _ k _ (fun e => (half_ld 0 (by omega) _ _ e k).trans (hw e k).1) _, rows_glue m c t _ k _ (fun e => (half_ld 1 (by omega) _ _ e k).trans (hw e k).2) _⟩
    · rw [outsAt0_B m c t h0 h1]
      dsimp only
      rw [halo_B, halos_low, halos_high]
      exact ⟨rows_glue m c t _ k _ (fun e => (half_ld 0 (by omega) _ _ e k).trans (hw e k).1) _, rows_glue m c t _ k _ (fun e => (half_ld 1 (by omega) _ _ e k).trans (hw e k).2) _⟩

/-- Before its first place a sequence is zero. -/
theorem seq_before (x : Vec Ideal S4x4096x2048 .f32) (w : Vec Ideal S2x2048x11264 .f32) (b : ℕ) (q : Fin 11264) (u : ℕ) (hu : u < 8) : seqAt x w b q u = 0 := by
  unfold seqAt
  rw [dif_neg (by omega)]

theorem first_rows (t : Fin cfg0.N) (h1 : t.val % 2 = 0) (q : Fin 11264) (j : Fin 8) (p : Fin 2) (k : Fin 512) :
    @Eq EReal (zeros (ix3 p j k)) (seqAt (m ((c : Thread nD τ).loc main_arg0)) (m ((c : Thread nD τ).loc main_arg1)) (t.val % 8 / 2) q (2048 * (t.val % 2) + j.val)) :=
  (zeros_apply p j k).trans (seq_before _ _ _ _ _ (by omega)).symm

theorem written (t : Fin cfg0.N) (r : Fin 2048) (k : Fin 512) :
    @Eq EReal ((outsAt0 m c t.val t.isLt).1 (ix2 r k))
      (spec (m ((c : Thread nD τ).loc main_arg0)) (m ((c : Thread nD τ).loc main_arg1)) (m ((c : Thread nD τ).loc main_arg2)) (m ((c : Thread nD τ).loc main_arg3))
        (2048 * (t.val % 8) + r.val) (colA t.val (lt_88 t) k) (colB t.val (lt_88 t) k)) := by
  by_cases h0 : t.val % 8 = 0
  · have h1 : t.val % 2 = 0 := by omega
    rw [outsAt0_A m c t h0 h1]
    dsimp only
    rw [out_A]
    exact tile_spec m c t _ _ _ _ k (fun e => (pay2_apply _ e k).trans ((wa_apply m c t e k).trans (by rw [V_main_arg1])))
      (fun e => (pay3_apply _ e k).trans ((wb_apply m c t e k).trans (by rw [V_main_arg1])))
      (fun j => (rows9 _ j k).trans ((half_ld 0 (by omega) _ _ j k).trans (first_rows m c t h1 _ j _ k)))
      (fun j => (rows10 _ j k).trans ((half_ld 1 (by omega) _ _ j k).trans (first_rows m c t h1 _ j _ k))) r
  · have hw := weights_before m c t h0 (by omega)
    by_cases h1 : t.val % 2 = 0
    · rw [outsAt0_C m c t h0 h1]
      dsimp only
      rw [out_C]
      exact tile_spec m c t _ _ _ _ k (fun e => (half_ld 0 (by omega) _ _ e k).trans (hw e k).1) (fun e => (half_ld 1 (by omega) _ _ e k).trans (hw e k).2)
        (fun j => (rows9 _ j k).trans ((half_ld 0 (by omega) _ _ j k).trans (first_rows m c t h1 _ j _ k)))
        (fun j => (rows10 _ j k).trans ((half_ld 1 (by omega) _ _ j k).trans (first_rows m c t h1 _ j _ k))) r
    · have ht := lt_88 t
      have hlt : t.val - 1 < cfg0.N := by omega
      have hc := fun j => carried m c ⟨t.val - 1, hlt⟩ j k
      have ea : colA (t.val - 1) (by omega) k = colA t.val (lt_88 t) k := Fin.ext (by unfold colA; dsimp only; omega)
      have eb : colB (t.val - 1) (by omega) k = colB t.val (lt_88 t) k := Fin.ext (by unfold colB; dsimp only; omega)
      have ei : (t.val - 1) % 8 / 2 = t.val % 8 / 2 := by omega
      have ep : ∀ j : Fin 8, 2048 * ((t.val - 1) % 2) + (8 + (2040 + j.val)) = 2048 * (t.val % 2) + j.val := fun j => by omega
      dsimp only at hc
      simp only [ea, eb, ei, ep] at hc
      rw [outsAt0_B m c t h0 h1]
      dsimp only
      rw [out_B]
      exact tile_spec m c t _ _ _ _ k (fun e => (half_ld 0 (by omega) _ _ e k).trans (hw e k).1) (fun e => (half_ld 1 (by omega) _ _ e k).trans (hw e k).2)
        (fun j => (rows9 _ j k).trans ((half_ld 0 (by omega) _ _ j k).trans (hc j).1))
        (fun j => (rows10 _ j k).trans ((half_ld 1 (by omega) _ _ j k).trans (hc j).2)) r

theorem array7 (r : Fin 16384) (k : Fin 5632) :
    @Eq EReal (G7 m c (ix2 r k)) (spec (m ((c : Thread nD τ).loc main_arg0)) (m ((c : Thread nD τ).loc main_arg1)) (m ((c : Thread nD τ).loc main_arg2)) (m ((c : Thread nD τ).loc main_arg3))
      r.val (⟨k.val, by omega⟩ : Fin 11264) (⟨5632 + k.val, by omega⟩ : Fin 11264)) := by
  have hN : cfg0.N = 88 := N_0
  have hr := r.isLt
  have hk := k.isLt
  have hp : pt7Of (ix2 r k) = r.val / 2048 + 8 * (k.val / 512) := by show 1 * (r.val / 2048 - 0) + 8 * (k.val / 512 - 0) = _; omega
  have hlt : pt7Of (ix2 r k) < cfg0.N := by omega
  unfold G7
  rw [dif_pos hlt, ← outsAt0_sweep m c _ hlt]
  have hl : loc7Of (ix2 r k) = ix2 (⟨r.val % 2048, by omega⟩ : Fin 2048) (⟨k.val % 512, by omega⟩ : Fin 512) :=
    (eq_ix2 _).trans (congrArg₂ ix2 rfl rfl)
  rw [hl]
  refine (written m c ⟨_, hlt⟩ _ _).trans ?_
  congr 1
  · dsimp only
    omega
  · apply Fin.ext
    unfold colA
    dsimp only
    omega
  · apply Fin.ext
    unfold colB
    dsimp only
    omega

end Points

section Reference
variable (x : (⟨S4x4096x2048, .f32⟩ : BufTy).Contents (Elt Ideal)) (w : (⟨S2x2048x11264, .f32⟩ : BufTy).Contents (Elt Ideal))
  (cw : (⟨S2x3x11264, .f32⟩ : BufTy).Contents (Elt Ideal)) (cb : (⟨S2x11264, .f32⟩ : BufTy).Contents (Elt Ideal))

open Cert.UpRefIdeal.Read

theorem product_at (b : Fin 4) (p : Fin 4096) (q : Fin 11264) :
    @Eq EReal (val_main_v2 (F := Ideal) x w (ix3 b p q)) (∑ e : Fin 2048, x (ix3 b p e) * w (ix3 1 e q)) := by
  unfold val_main_v2 val_main_v1 val_main_v0
  pointwise

theorem word_zero : @Eq EReal (FloatOps.sitofp (F := Ideal) FTy.f32 0#32) 0 := by
  show (((0#32 : BitVec 32).toInt : ℝ) : EReal) = 0
  simp

theorem padded_at (b : Fin 4) (u : Fin 4098) (q : Fin 11264) :
    @Eq EReal (val_main_v3 (F := Ideal) x w (ix3 b u q)) (seqAt x w b.val q (u.val + 6)) := by
  have hu := u.isLt
  unfold val_main_v3 val_main_call0_v0 val_main_c
  pointwise
  unfold seqAt
  by_cases h : 2 ≤ u.val
  · rw [dif_pos ⟨h, by omega⟩, dif_pos ⟨⟨by omega, by omega⟩, b.isLt⟩, product_at]
    refine Finset.sum_congr rfl fun e _ => congrArg (fun p => x (ix3 b p e) * w (ix3 1 e q)) (Fin.ext ?_)
    dsimp only
    omega
  · rw [dif_neg (by omega), dif_neg (by omega)]
    exact word_zero

/-- The reference's convolution at one place. -/
theorem conv_at (b : Fin 4) (p : Fin 4096) (q : Fin 11264) :
    @Eq EReal (val_main_v30 (F := Ideal) x w cw cb (ix3 b p q))
      (conv (cw (ix3 1 0 q)) (cw (ix3 1 1 q)) (cw (ix3 1 2 q)) (cb (ix2 1 q)) (seqAt x w b.val q) p.val) := by
  unfold val_main_v30 val_main_v29 val_main_v28 val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10 val_main_cst val_main_v9 val_main_v8 val_main_v7
    val_main_v6 val_main_v5 val_main_v4
  pointwise
  simp only [padded_at]
  unfold conv
  rw [show 1 + p.val + 6 = p.val + 7 by omega, show 2 + p.val + 6 = p.val + 8 by omega]

theorem ref_at (r : Fin 16384) (k : Fin 5632) :
    @Eq EReal (val_main_v36 (F := Ideal) x w cw cb (ix2 r k))
      (spec x w cw cb r.val (⟨k.val, by omega⟩ : Fin 11264) (⟨5632 + k.val, by omega⟩ : Fin 11264)) := by
  unfold val_main_v36 val_main_v35 val_main_v34 val_main_v33 val_main_call1_v5 val_main_call1_v4 val_main_call1_cst_0 val_main_call1_v3 val_main_call1_v2 val_main_call1_cst
    val_main_call1_v1 val_main_call1_v0 val_main_v32 val_main_v31
  pointwise
  simp only [conv_at]
  unfold spec gateAt
  rfl

end Reference

end Cert.UpEq

theorem Cert.UpEq.algebraic : algebraic_UpIdeal_UpRefIdeal := by
  intro m ρ m' ρ' _ hagree
  refine ⟨_, Cert.UpIdeal.Value.run (F := Ideal) m ρ, ?_⟩
  refine (θ_run Cert.UpRefIdeal.defs _ _).mono (fun _ h c => ⟨?_, (h c).2⟩) (Cert.UpRefIdeal.Value.run (F := Ideal) m' ρ')
  obtain ⟨h0, h1, h2, h3⟩ := hagree c
  rw [(h c).1, Cert.UpRefIdeal.Read.val_main_v36_eq, h0, h1, h2, h3]
  funext i
  obtain ⟨r, a, rfl⟩ : ∃ (r : Fin 16384) (a : Fin 5632), i = ix2 r a := ⟨i 0, i 1, eq_ix2 i⟩
  exact (Cert.UpEq.ref_at ..).trans (Cert.UpEq.array7 m c r a).symm
-- ==== Proof.DownAlgebraic.lean ====
/-
  The second feed-forward product with its withResidual and layer norm, read as a value.
-/
module

public import proofs.«01_k».proof.Defs
public import proofs.«01_k».proof.Proof.Gen.DownIdeal.Value
public import proofs.«01_k».proof.Proof.Gen.DownRefIdeal.Run
public import proofs.«01_k».proof.Proof.Gen.DownRefIdeal.Read
public import proofs.«01_k».proof.Proof.LayerNorm
public import Idealize.ShloMosaic.Lib.Tactic
public import Idealize.ShloMosaic.Lib.Claim
public import Idealize.ShloMosaic.Lib.Pointwise

@[expose] public section

noncomputable section

open Idealize.ShloMosaic Idealize.ShloMosaic.TcCoe Idealize.SL.Sem

namespace Cert.DownEq

open Cert.DownIdeal Cert.DownIdeal.Gen Cert.DownIdeal.Value Cert.RowNorm

theorem zero2 : (![0, 0] : Fin 2 → Nat) = fun _ => 0 := funext fun a => by fin_cases a <;> rfl
theorem zero3 : (![0, 0, 0] : Fin 3 → Nat) = fun _ => 0 := funext fun a => by fin_cases a <;> rfl

theorem same_low {F : FTy → Type} [FloatOps F] : k0_pay3 (F := F) = k0_pay1 := rfl

theorem pay1_apply (x : Vec Ideal S128x5632 .bf16) (w : Vec Ideal S5632x2048 .bf16) (y : Vec Ideal S128x2048 .f32) (g b : Vec Ideal S1x1x2048 .f32)
    (r : Fin 128) (k : Fin 2048) :
    @Eq EReal (k0_pay1 x w y g b (ix2 r k))
      (rowNorm (fun j => withResidual (y (ix2 r j)) (∑ n : Fin 5632, x (ix2 r n) * w (ix2 n j))) (g (ix3 0 0 k)) (b (ix3 0 0 k)) k) := by
  unfold k0_pay1 rowNorm dev mean withResidual
  pointwise

/-- What the body leaves in a block, at row `r` and column `k`. -/
def blockAt (x : Vec Ideal S256x5632 .bf16) (w : Vec Ideal S5632x2048 .bf16) (y : Vec Ideal S256x2048 .f32) (g b : Vec Ideal S1x1x2048 .f32)
    (r : Fin 256) (k : Fin 2048) : EReal :=
  rowNorm (fun j => withResidual (y (ix2 r j)) (∑ n : Fin 5632, x (ix2 r n) * w (ix2 n j))) (g (ix3 0 0 k)) (b (ix3 0 0 k)) k

theorem out5_apply (x : Vec Ideal S256x5632 .bf16) (w : Vec Ideal S5632x2048 .bf16) (y : Vec Ideal S256x2048 .f32) (g b : Vec Ideal S1x1x2048 .f32)
    (r : Fin 256) (k : Fin 2048) : @Eq EReal (out0_5 x w y g b (ix2 r k)) (blockAt x w y g b r k) := by
  unfold out0_5
  refine View.canon_apply_of_pieces (Val := Elt Ideal) (e := .f32) (fun i : S256x2048.Idx => (blockAt x w y g b (i 0) (i 1) : Elt Ideal .f32)) _ ?_ (ix2 r k) (cover0_5 _ _ _)
  intro p hp i
  have hw : View.ld w r0_1 = w := View.ld_unit_zero (S := S5632x2048) zero2 _ w
  have hg : ∀ v : Vec Ideal S1x1x2048 .f32, View.ld v r0_3 = v := fun v => View.ld_unit_zero (S := S1x1x2048) zero3 _ v
  fin_cases hp
  · obtain ⟨a, j, rfl⟩ : ∃ (a : Fin 128) (j : Fin 2048), i = ix2 a j := ⟨i 0, i 1, eq_ix2 i⟩
    have e : ∀ (n : Fin 2048), r0_5.idx (ix2 a n) = ix2 (⟨128 + a.val, by omega⟩ : Fin 256) n := fun n => band_idx 128 _ a n _
    have e' : ∀ (n : Fin 5632), r0_4.idx (ix2 a n) = ix2 (⟨128 + a.val, by omega⟩ : Fin 256) n := fun n => band_idx 128 _ a n _
    refine (pay1_apply _ _ _ _ _ a j).trans ?_
    show _ = blockAt x w y g b (r0_5.idx (ix2 a j) 0) (r0_5.idx (ix2 a j) 1)
    rw [e, hw, hg, hg]
    simp only [View.ld, e, e']
    rfl
  · obtain ⟨a, j, rfl⟩ : ∃ (a : Fin 128) (j : Fin 2048), i = ix2 a j := ⟨i 0, i 1, eq_ix2 i⟩
    have e : ∀ (n : Fin 2048), r0_2.idx (ix2 a n) = ix2 (⟨0 + a.val, by omega⟩ : Fin 256) n := fun n => band_idx 0 _ a n _
    have e' : ∀ (n : Fin 5632), r0_0.idx (ix2 a n) = ix2 (⟨0 + a.val, by omega⟩ : Fin 256) n := fun n => band_idx 0 _ a n _
    refine (pay1_apply _ _ _ _ _ a j).trans ?_
    show _ = blockAt x w y g b (r0_2.idx (ix2 a j) 0) (r0_2.idx (ix2 a j) 1)
    rw [e, hw, hg, hg]
    simp only [View.ld, e, e']
    rfl

theorem out6_eq (x : Vec Ideal S256x5632 .bf16) (w : Vec Ideal S5632x2048 .bf16) (y : Vec Ideal S256x2048 .f32) (g b : Vec Ideal S1x1x2048 .f32) :
    @Eq (S256x2048.Idx → EReal) (out0_6 x w y g b) (out0_5 x w y g b) := by
  unfold out0_6 out0_5
  rfl

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)

theorem rows_apply (c : Dev nD) (t : Fin cfg0.N) (r : Fin 256) (k : Fin 5632) :
    (iblk m c 0 t : Vec Ideal S256x5632 .bf16) (ix2 r k)
      = V m c main_arg0 (ix2 (⟨256 * t.val + r.val, by have := t.isLt; have : cfg0.N = 64 := N_0; omega⟩ : Fin 16384) k) := by
  have hi := idx0 t
  unfold iblk
  rw [View.read_apply]
  show V m c main_arg0 _ = _
  congr 1
  funext a
  apply Fin.ext
  match a with
  | ⟨0, _⟩ => show win0_0.index t 0 * 256 + 1 * r.val = 256 * t.val + r.val; rw [hi.1]; omega
  | ⟨1, _⟩ => show win0_0.index t 1 * 5632 + 1 * k.val = k.val; rw [hi.2]; omega

theorem weight_eq (c : Dev nD) (t : Fin cfg0.N) :
    (iblk m c 1 t : Vec Ideal S5632x2048 .bf16) = V m c main_arg1 := by
  have hi := idx1 t
  funext y
  obtain ⟨r, k, rfl⟩ : ∃ (r : Fin 5632) (k : Fin 2048), y = ix2 r k := ⟨y 0, y 1, eq_ix2 y⟩
  unfold iblk
  rw [View.read_apply]
  show V m c main_arg1 _ = _
  congr 1
  funext a
  apply Fin.ext
  match a with
  | ⟨0, _⟩ => show win0_1.index t 0 * 5632 + 1 * r.val = r.val; rw [hi.1]; omega
  | ⟨1, _⟩ => show win0_1.index t 1 * 2048 + 1 * k.val = k.val; rw [hi.2]; omega

theorem resid_apply (c : Dev nD) (t : Fin cfg0.N) (r : Fin 256) (k : Fin 2048) :
    (iblk m c 2 t : Vec Ideal S256x2048 .f32) (ix2 r k)
      = V m c main_v0 (ix2 (⟨256 * t.val + r.val, by have := t.isLt; have : cfg0.N = 64 := N_0; omega⟩ : Fin 16384) k) := by
  have hi := idx2 t
  unfold iblk
  rw [View.read_apply]
  show V m c main_v0 _ = _
  congr 1
  funext a
  apply Fin.ext
  match a with
  | ⟨0, _⟩ => show win0_2.index t 0 * 256 + 1 * r.val = 256 * t.val + r.val; rw [hi.1]; omega
  | ⟨1, _⟩ => show win0_2.index t 1 * 2048 + 1 * k.val = k.val; rw [hi.2]; omega

theorem gain_apply (c : Dev nD) (t : Fin cfg0.N) (k : Fin 2048) :
    (iblk m c 3 t : Vec Ideal S1x1x2048 .f32) (ix3 0 0 k) = V m c main_v1 (ix3 (1 : Fin 2) 0 k) := by
  have hi := idx3 t
  unfold iblk
  rw [View.read_apply]
  show V m c main_v1 _ = _
  congr 1
  funext a
  apply Fin.ext
  match a with
  | ⟨0, _⟩ => show win0_3.index t 0 * 1 + 1 * 0 = 1; rw [hi.1]
  | ⟨1, _⟩ => show win0_3.index t 1 * 1 + 1 * 0 = 0; rw [hi.2.1]
  | ⟨2, _⟩ => show win0_3.index t 2 * 2048 + 1 * k.val = k.val; rw [hi.2.2]; omega

theorem shift_apply (c : Dev nD) (t : Fin cfg0.N) (k : Fin 2048) :
    (iblk m c 4 t : Vec Ideal S1x1x2048 .f32) (ix3 0 0 k) = V m c main_v2 (ix3 (1 : Fin 2) 0 k) := by
  have hi := idx4 t
  unfold iblk
  rw [View.read_apply]
  show V m c main_v2 _ = _
  congr 1
  funext a
  apply Fin.ext
  match a with
  | ⟨0, _⟩ => show win0_4.index t 0 * 1 + 1 * 0 = 1; rw [hi.1]
  | ⟨1, _⟩ => show win0_4.index t 1 * 1 + 1 * 0 = 0; rw [hi.2.1]
  | ⟨2, _⟩ => show win0_4.index t 2 * 2048 + 1 * k.val = k.val; rw [hi.2.2]; omega

theorem entry_resid (c : Dev nD) (r : Fin 16384) (k : Fin 2048) :
    V m c main_v0 (ix2 r k) = m ((c : Thread nD τ).loc main_arg2) (ix3 (⟨r.val / 4096, by omega⟩ : Fin 4) (⟨r.val % 4096, by omega⟩ : Fin 4096) k) := by
  entry_read
  pointwise

theorem entry_gain (c : Dev nD) (l : Fin 2) (k : Fin 2048) :
    V m c main_v1 (ix3 l 0 k) = m ((c : Thread nD τ).loc main_arg3) (ix2 l k) := by
  entry_read
  pointwise

theorem entry_shift (c : Dev nD) (l : Fin 2) (k : Fin 2048) :
    V m c main_v2 (ix3 l 0 k) = m ((c : Thread nD τ).loc main_arg4) (ix2 l k) := by
  entry_read
  pointwise

/-- The layer norm of the residual plus the product, at one index. -/
def spec (x : Vec Ideal S16384x5632 .bf16) (w : Vec Ideal S5632x2048 .bf16) (y : Vec Ideal S4x4096x2048 .f32) (g b : Vec Ideal S2x2048 .f32)
    (r : Fin 16384) (k : Fin 2048) : EReal :=
  rowNorm (fun j => withResidual (y (ix3 (⟨r.val / 4096, by omega⟩ : Fin 4) (⟨r.val % 4096, by omega⟩ : Fin 4096) j)) (∑ n : Fin 5632, x (ix2 r n) * w (ix2 n j)))
    (g (ix2 1 k)) (b (ix2 1 k)) k

theorem body_apply (c : Dev nD) (t : Fin cfg0.N) (a : Fin 256) (k : Fin 2048) :
    @Eq EReal (out0_5 (iblk m c 0 t) (iblk m c 1 t) (iblk m c 2 t) (iblk m c 3 t) (iblk m c 4 t) (ix2 a k))
      (spec (m ((c : Thread nD τ).loc main_arg0)) (m ((c : Thread nD τ).loc main_arg1)) (m ((c : Thread nD τ).loc main_arg2))
        (m ((c : Thread nD τ).loc main_arg3)) (m ((c : Thread nD τ).loc main_arg4))
        (⟨256 * t.val + a.val, by have := t.isLt; have : cfg0.N = 64 := N_0; omega⟩ : Fin 16384) k) := by
  refine (out5_apply _ _ _ _ _ a k).trans ?_
  unfold blockAt spec
  rw [gain_apply, entry_gain, shift_apply, entry_shift]
  refine congrArg (fun f => rowNorm f _ _ k) (funext fun j => ?_)
  refine congrArg₂ withResidual ?_ (Finset.sum_congr rfl fun n _ => ?_)
  · rw [resid_apply, entry_resid]
  · rw [rows_apply, weight_eq, V_main_arg0, V_main_arg1]

theorem array5 (c : Dev nD) (r : Fin 16384) (k : Fin 2048) :
    @Eq EReal ((dats m 0 c).arrAt 5 cfg0.N (ix2 r k))
      (spec (m ((c : Thread nD τ).loc main_arg0)) (m ((c : Thread nD τ).loc main_arg1)) (m ((c : Thread nD τ).loc main_arg2))
        (m ((c : Thread nD τ).loc main_arg3)) (m ((c : Thread nD τ).loc main_arg4)) r k) := by
  have hN : cfg0.N = 64 := N_0
  have hr := r.isLt
  have hq : r.val / 256 < cfg0.N := by omega
  have h := congrFun (blocks5 m c ⟨r.val / 256, hq⟩ (flush5 _)) (ix2 (⟨r.val % 256, by omega⟩ : Fin 256) k)
  rw [View.read_apply, flushed5] at h
  have hi := idx5 ⟨r.val / 256, hq⟩
  refine Eq.trans ?_ (h.trans ((body_apply m c ⟨r.val / 256, hq⟩ (⟨r.val % 256, by omega⟩ : Fin 256) k).trans ?_))
  · refine congrArg ((dats m 0 c).arrAt 5 cfg0.N) ?_
    funext a
    apply Fin.ext
    match a with
    | ⟨0, _⟩ => show r.val = win0_5.index ⟨r.val / 256, hq⟩ 0 * 256 + 1 * (r.val % 256); rw [hi.1]; dsimp only; omega
    | ⟨1, _⟩ => show k.val = win0_5.index ⟨r.val / 256, hq⟩ 1 * 2048 + 1 * k.val; rw [hi.2]; omega
  · congr 1
    apply Fin.ext
    dsimp only
    omega

theorem array6 (c : Dev nD) (r : Fin 16384) (k : Fin 2048) :
    @Eq EReal ((dats m 0 c).arrAt 6 cfg0.N (ix2 r k))
      (spec (m ((c : Thread nD τ).loc main_arg0)) (m ((c : Thread nD τ).loc main_arg1)) (m ((c : Thread nD τ).loc main_arg2))
        (m ((c : Thread nD τ).loc main_arg3)) (m ((c : Thread nD τ).loc main_arg4)) r k) := by
  have hN : cfg0.N = 64 := N_0
  have hr := r.isLt
  have hq : r.val / 256 < cfg0.N := by omega
  have h := congrFun (blocks6 m c ⟨r.val / 256, hq⟩ (flush6 _)) (ix2 (⟨r.val % 256, by omega⟩ : Fin 256) k)
  rw [View.read_apply, flushed6] at h
  have hi := idx6 ⟨r.val / 256, hq⟩
  refine Eq.trans ?_ (h.trans ((congrFun (out6_eq _ _ _ _ _) _).trans ((body_apply m c ⟨r.val / 256, hq⟩ (⟨r.val % 256, by omega⟩ : Fin 256) k).trans ?_)))
  · refine congrArg ((dats m 0 c).arrAt 6 cfg0.N) ?_
    funext a
    apply Fin.ext
    match a with
    | ⟨0, _⟩ => show r.val = win0_6.index ⟨r.val / 256, hq⟩ 0 * 256 + 1 * (r.val % 256); rw [hi.1]; dsimp only; omega
    | ⟨1, _⟩ => show k.val = win0_6.index ⟨r.val / 256, hq⟩ 1 * 2048 + 1 * k.val; rw [hi.2]; omega
  · congr 1
    apply Fin.ext
    dsimp only
    omega

end Cert.DownEq

theorem Cert.DownEq.algebraic : algebraic_DownIdeal_DownRefIdeal := by
  intro m ρ m' ρ' _ hagree
  refine ⟨_, _, Cert.DownIdeal.Value.run_blocks (F := Ideal) m ρ, ?_⟩
  refine (θ_run Cert.DownRefIdeal.defs _ _).mono (fun _ h c => ⟨?_, ?_, (h c).2.2⟩) (Cert.DownRefIdeal.Value.run (F := Ideal) m' ρ')
  · obtain ⟨h0, h1, h2, h3, h4⟩ := hagree c
    rw [(h c).1]
    funext i
    obtain ⟨r, a, rfl⟩ : ∃ (r : Fin 16384) (a : Fin 2048), i = ix2 r a := ⟨i 0, i 1, eq_ix2 i⟩
    refine Eq.trans ?_ (Cert.DownEq.array5 m c r a).symm
    unfold Cert.DownRefIdeal.Value.res_main_v33 Cert.DownEq.spec Cert.RowNorm.rowNorm Cert.RowNorm.dev Cert.RowNorm.mean Cert.RowNorm.withResidual
    rw [← h0, ← h1, ← h2, ← h3, ← h4]
    pointwise
  · obtain ⟨h0, h1, h2, h3, h4⟩ := hagree c
    rw [(h c).2.1]
    funext i
    obtain ⟨r, a, rfl⟩ : ∃ (r : Fin 16384) (a : Fin 2048), i = ix2 r a := ⟨i 0, i 1, eq_ix2 i⟩
    refine Eq.trans ?_ (Cert.DownEq.array6 m c r a).symm
    unfold Cert.DownRefIdeal.Value.res_main_v34 Cert.DownEq.spec Cert.RowNorm.rowNorm Cert.RowNorm.dev Cert.RowNorm.mean Cert.RowNorm.withResidual
    rw [← h0, ← h1, ← h2, ← h3, ← h4]
    pointwise
-- ==== Proof.MixAlgebraic.lean ====
/-
  The mixer's output product with its residual and layer norm, read as a value.
-/
module

public import proofs.«01_k».proof.Defs
public import proofs.«01_k».proof.Proof.Gen.MixIdeal.Value
public import proofs.«01_k».proof.Proof.Gen.MixRefIdeal.Run
public import proofs.«01_k».proof.Proof.Gen.MixRefIdeal.Read
public import proofs.«01_k».proof.Proof.LayerNorm
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pipeline.ValueKit.Tiles
public import Idealize.ShloMosaic.Lib.Pointwise

@[expose] public section

noncomputable section

open Idealize.ShloMosaic Idealize.ShloMosaic.TcCoe Idealize.SL.Sem

namespace Cert.MixEq

open Cert.MixIdeal Cert.MixIdeal.Gen Cert.MixIdeal.Value Cert.RowNorm

/-- What the body leaves at one row and column: the layer norm of the residual plus both products. -/
def blockAt {n : ℕ} (wa wb : Vec Ideal S1x1024x2048 .bf16) (a1 a2 : (⟨2, ![n, 1024]⟩ : Shape).Idx → EReal) (y : (⟨2, ![n, 2048]⟩ : Shape).Idx → EReal)
    (g b : Vec Ideal S1x1x2048 .f32) (r : Fin n) (k : Fin 2048) : EReal :=
  rowNorm (fun j => withResidual (y (ix2 r j)) (∑ e : Fin 1024, a1 (ix2 r e) * wa (ix3 0 e j) + ∑ e : Fin 1024, a2 (ix2 r e) * wb (ix3 0 e j)))
    (g (ix3 0 0 k)) (b (ix3 0 0 k)) k

section Pieces
variable {F : FTy → Type} [FloatOps F]
variable (wa wb : Vec F S1x1024x2048 .bf16) (a1 a2 : Vec F S128x1024 .bf16) (y : Vec F S128x2048 .f32) (g b : Vec F S1x1x2048 .f32)

/-- One band of 128 rows. -/
def band : Vec F S128x2048 .f32 := k0_pay8 (k0_pay4 g) (k0_pay5 b) (k0_pay6 a1 wa a2 wb y) (k0_pay7 a1 wa a2 wb y)

theorem band_two : k0_pay12 (k0_pay10 a1 wa a2 wb y) (k0_pay11 g) b = band wa wb a1 a2 y g b := rfl
theorem band_three : k0_pay15 (k0_pay14 a1 wa a2 wb) y g b = band wa wb a1 a2 y g b := rfl
theorem band_four : k0_pay18 (k0_pay17 a1) wa a2 wb y g b = band wa wb a1 a2 y g b := rfl

end Pieces

theorem dev_apply (wa wb : Vec Ideal S1x1024x2048 .bf16) (a1 a2 : Vec Ideal S128x1024 .bf16) (y : Vec Ideal S128x2048 .f32) (r : Fin 128) (k : Fin 2048) :
    @Eq EReal (k0_pay6 a1 wa a2 wb y (ix2 r k))
      (dev (fun j => withResidual (y (ix2 r j)) (∑ e : Fin 1024, a1 (ix2 r e) * wa (ix3 0 e j) + ∑ e : Fin 1024, a2 (ix2 r e) * wb (ix3 0 e j))) k) := by
  unfold k0_pay6 dev mean withResidual
  pointwise

theorem band_apply (wa wb : Vec Ideal S1x1024x2048 .bf16) (a1 a2 : Vec Ideal S128x1024 .bf16) (y : Vec Ideal S128x2048 .f32) (g b : Vec Ideal S1x1x2048 .f32)
    (r : Fin 128) (k : Fin 2048) : @Eq EReal (band wa wb a1 a2 y g b (ix2 r k)) (blockAt wa wb a1 a2 y g b r k) := by
  unfold band k0_pay8 k0_pay7 k0_pay4 k0_pay5 blockAt rowNorm mean
  pointwise
  simp only [dev_apply]

section Body
variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S512x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S2x1024x2048 .bf16) (harg10 : arg10.IsWhole)
  (x0 : Vec Ideal S512x1024 .bf16) (x1 : Vec Ideal S512x1024 .bf16) (x2 : Vec Ideal S1x1024x2048 .f32) (x3 : Vec Ideal S1x1024x2048 .f32) (x4 : Vec Ideal S512x2048 .f32) (x5 : Vec Ideal S1x1x2048 .f32) (x6 : Vec Ideal S1x1x2048 .f32) (xs : Vec Ideal S2x1024x2048 .bf16)

/-- The four bands the body stores, the last first. -/
def bands (wa wb : Vec Ideal S1x1024x2048 .bf16) : List (View.Piece (Elt Ideal) S512x2048 .f32) :=
  [⟨Rect.unit ![384, 0] ![128, 2048] inb_S512x2048_S128x2048_384_0, band wa wb (View.ld x0 (Rect.unit ![384, 0] ![128, 1024] inb_S512x1024_S128x1024_384_0)) (View.ld x1 (Rect.unit ![384, 0] ![128, 1024] inb_S512x1024_S128x1024_384_0)) (View.ld x4 (Rect.unit ![384, 0] ![128, 2048] inb_S512x2048_S128x2048_384_0)) x5 x6⟩,
    ⟨Rect.unit ![256, 0] ![128, 2048] inb_S512x2048_S128x2048_256_0, band wa wb (View.ld x0 (Rect.unit ![256, 0] ![128, 1024] inb_S512x1024_S128x1024_256_0)) (View.ld x1 (Rect.unit ![256, 0] ![128, 1024] inb_S512x1024_S128x1024_256_0)) (View.ld x4 (Rect.unit ![256, 0] ![128, 2048] inb_S512x2048_S128x2048_256_0)) x5 x6⟩,
    ⟨Rect.unit ![128, 0] ![128, 2048] inb_S512x2048_S128x2048_128_0, band wa wb (View.ld x0 (Rect.unit ![128, 0] ![128, 1024] inb_S512x1024_S128x1024_128_0)) (View.ld x1 (Rect.unit ![128, 0] ![128, 1024] inb_S512x1024_S128x1024_128_0)) (View.ld x4 (Rect.unit ![128, 0] ![128, 2048] inb_S512x2048_S128x2048_128_0)) x5 x6⟩,
    ⟨Rect.unit ![0, 0] ![128, 2048] inb_S512x2048_S128x2048_0_0, band wa wb (View.ld x0 (Rect.unit ![0, 0] ![128, 1024] inb_S512x1024_S128x1024_0_0)) (View.ld x1 (Rect.unit ![0, 0] ![128, 1024] inb_S512x1024_S128x1024_0_0)) (View.ld x4 (Rect.unit ![0, 0] ![128, 2048] inb_S512x2048_S128x2048_0_0)) x5 x6⟩]

theorem blockAt_band (wa wb : Vec Ideal S1x1024x2048 .bf16) (o : ℕ)
    (in1 : ∀ a, (![o, 0] : Fin 2 → ℕ) a + (![128, 1024] : Fin 2 → ℕ) a ≤ (![512, 1024] : Fin 2 → ℕ) a)
    (in2 : ∀ a, (![o, 0] : Fin 2 → ℕ) a + (![128, 2048] : Fin 2 → ℕ) a ≤ (![512, 2048] : Fin 2 → ℕ) a)
    (a : Fin 128) (j k : Fin 2048) (r : Fin 512) (h0 : r.val = o + a.val) (h1 : k.val = j.val) :
    blockAt wa wb (View.ld (S := S512x1024) x0 (Rect.unit ![o, 0] ![128, 1024] in1)) (View.ld (S := S512x1024) x1 (Rect.unit ![o, 0] ![128, 1024] in1))
      (View.ld (S := S512x2048) x4 (Rect.unit ![o, 0] ![128, 2048] in2)) x5 x6 a j = blockAt wa wb x0 x1 x4 x5 x6 r k := by
  obtain rfl : k = j := Fin.ext h1
  unfold blockAt
  refine congrArg (fun f => rowNorm f _ _ k) (funext fun j => ?_)
  refine congrArg₂ withResidual (band_ld o in2 x4 a j r h0) (congrArg₂ (· + ·) (Finset.sum_congr rfl fun e _ => ?_) (Finset.sum_congr rfl fun e _ => ?_))
  · exact congrArg (· * wa (ix3 0 e j)) (band_ld o in1 x0 a e r h0)
  · exact congrArg (· * wb (ix3 0 e j)) (band_ld o in1 x1 a e r h0)

theorem bands_apply (wa wb : Vec Ideal S1x1024x2048 .bf16) (r : Fin 512) (k : Fin 2048) :
    @Eq EReal (View.canon (bands x0 x1 x4 x5 x6 wa wb) (ix2 r k)) (blockAt wa wb x0 x1 x4 x5 x6 r k) := by
  unfold bands
  canon_tiles x h
  all_goals (obtain ⟨a, j, rfl⟩ : ∃ (a : Fin 128) (j : Fin 2048), x = ix2 a j := ⟨x 0, x 1, eq_ix2 x⟩)
  all_goals refine (band_apply _ _ _ _ _ _ _ a j).trans ?_
  · exact blockAt_band _ _ _ _ _ _ _ 384 _ _ a j k r h0 h1
  · exact blockAt_band _ _ _ _ _ _ _ 256 _ _ a j k r h0 h1
  · exact blockAt_band _ _ _ _ _ _ _ 128 _ _ a j k r h0 h1
  · exact blockAt_band _ _ _ _ _ _ _ 0 _ _ a j k r (h0.trans (Nat.zero_add _).symm) h1

theorem out7_B (hc0 : ¬cond0_0 i) :
    out0_B_7 c i arg1 harg1 arg2 harg2 arg3 harg3 arg4 harg4 arg5 harg5 arg6 harg6 arg7 harg7 arg8 harg8 arg9 harg9 arg10 harg10 hc0 x0 x1 x2 x3 x4 x5 x6 xs
      = View.canon (bands x0 x1 x4 x5 x6 (View.ld xs (Rect.unit ![0, 0, 0] ![1, 1024, 2048] inb_S2x1024x2048_S1x1024x2048_0_0_0)) (View.ld xs (Rect.unit ![1, 0, 0] ![1, 1024, 2048] inb_S2x1024x2048_S1x1024x2048_1_0_0))) := by
  frame_out
  rfl

theorem out8_B (hc0 : ¬cond0_0 i) :
    @Eq (S512x2048.Idx → EReal) (out0_B_8 c i arg1 harg1 arg2 harg2 arg3 harg3 arg4 harg4 arg5 harg5 arg6 harg6 arg7 harg7 arg8 harg8 arg9 harg9 arg10 harg10 hc0 x0 x1 x2 x3 x4 x5 x6 xs)
      (View.canon (bands x0 x1 x4 x5 x6 (View.ld xs (Rect.unit ![0, 0, 0] ![1, 1024, 2048] inb_S2x1024x2048_S1x1024x2048_0_0_0)) (View.ld xs (Rect.unit ![1, 0, 0] ![1, 1024, 2048] inb_S2x1024x2048_S1x1024x2048_1_0_0)))) := by
  frame_out
  rfl

/-- The two halves of the cast weights as the body stores them. -/
def halves : List (View.Piece (Elt Ideal) S2x1024x2048 .bf16) :=
  [⟨Rect.unit ![1, 0, 0] ![1, 1024, 2048] inb_S2x1024x2048_S1x1024x2048_1_0_0, k0_pay3 x3⟩, ⟨Rect.unit ![0, 0, 0] ![1, 1024, 2048] inb_S2x1024x2048_S1x1024x2048_0_0_0, k0_pay2 x2⟩]

theorem low_half : arg10.view.readCov (halves x2 x3) (Rect.unit (s := S2x1024x2048) ![0, 0, 0] ![1, 1024, 2048] inb_S2x1024x2048_S1x1024x2048_0_0_0).toLoadRect = k0_pay2 x2 :=
  (View.readCov_skip _ _ _ _ _ (by decide)).trans (View.readCov_cons_toLoadRect _ _ _ _)

theorem high_half : arg10.view.readCov (halves x2 x3) (Rect.unit (s := S2x1024x2048) ![1, 0, 0] ![1, 1024, 2048] inb_S2x1024x2048_S1x1024x2048_1_0_0).toLoadRect = k0_pay3 x3 :=
  View.readCov_cons_toLoadRect _ _ _ _

theorem out7_A (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 x6
      = View.canon (bands x0 x1 x4 x5 x6 (k0_pay2 x2) (k0_pay3 x3)) := by
  frame_out
  have hl := low_half arg10 x2 x3
  have hh := high_half arg10 x2 x3
  unfold halves at hl hh
  simp only [hl, hh]
  rfl

theorem out8_A (hc0 : cond0_0 i) :
    @Eq (S512x2048.Idx → EReal) (out0_A_8 c i arg1 harg1 arg2 harg2 arg3 harg3 arg4 harg4 arg5 harg5 arg6 harg6 arg7 harg7 arg8 harg8 arg9 harg9 arg10 harg10 hc0 x0 x1 x2 x3 x4 x5 x6)
      (View.canon (bands x0 x1 x4 x5 x6 (k0_pay2 x2) (k0_pay3 x3))) := by
  frame_out
  have hl := low_half arg10 x2 x3
  have hh := high_half arg10 x2 x3
  unfold halves at hl hh
  simp only [hl, hh]
  rfl

theorem sout_A (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 x6
      = View.canon (halves x2 x3) := by
  frame_out
  rfl

theorem pay2_apply (e : Fin 1024) (j : Fin 2048) : k0_pay2 x2 (ix3 0 e j) = x2 (ix3 0 e j) := by
  unfold k0_pay2
  pointwise
theorem pay3_apply (e : Fin 1024) (j : Fin 2048) : k0_pay3 x3 (ix3 0 e j) = x3 (ix3 0 e j) := by
  unfold k0_pay3
  pointwise

theorem halves_low (e : Fin 1024) (j : Fin 2048) : @Eq EReal (View.canon (halves x2 x3) (ix3 (0 : Fin 2) e j)) (x2 (ix3 0 e j)) := by
  unfold halves
  canon_tiles x h
  · exact absurd h0 (by show ¬ (0 = 1 + _); omega)
  · have hx : x = ix3 0 e j := by
      refine (eq_ix3 x).trans ?_
      congr 1
      · exact Subsingleton.elim _ _
      · exact Fin.ext h1.symm
      · exact Fin.ext h2.symm
    rw [hx]
    exact pay2_apply x2 e j

theorem halves_high (e : Fin 1024) (j : Fin 2048) : @Eq EReal (View.canon (halves x2 x3) (ix3 (1 : Fin 2) e j)) (x3 (ix3 0 e j)) := by
  unfold halves
  canon_tiles x h
  · have hx : x = ix3 0 e j := by
      refine (eq_ix3 x).trans ?_
      congr 1
      · exact Subsingleton.elim _ _
      · exact Fin.ext h1.symm
      · exact Fin.ext h2.symm
    rw [hx]
    exact pay3_apply x3 e j
  · exact absurd h0 (by have : (x 0).val < 1 := (x 0).isLt; show ¬ (1 = _); omega)

theorem low_ld (xs : Vec Ideal S2x1024x2048 .bf16) (e : Fin 1024) (j : Fin 2048) :
    View.ld xs (Rect.unit ![0, 0, 0] ![1, 1024, 2048] inb_S2x1024x2048_S1x1024x2048_0_0_0) (ix3 0 e j) = xs (ix3 (0 : Fin 2) e j) := by
  refine congrArg xs (funext fun z => Fin.ext ?_)
  match z with
  | ⟨0, _⟩ => rfl
  | ⟨1, _⟩ => show 0 + 1 * e.val = e.val; omega
  | ⟨2, _⟩ => show 0 + 1 * j.val = j.val; omega

theorem high_ld (xs : Vec Ideal S2x1024x2048 .bf16) (e : Fin 1024) (j : Fin 2048) :
    View.ld xs (Rect.unit ![1, 0, 0] ![1, 1024, 2048] inb_S2x1024x2048_S1x1024x2048_1_0_0) (ix3 0 e j) = xs (ix3 (1 : Fin 2) e j) := by
  refine congrArg xs (funext fun z => Fin.ext ?_)
  match z with
  | ⟨0, _⟩ => rfl
  | ⟨1, _⟩ => show 0 + 1 * e.val = e.val; omega
  | ⟨2, _⟩ => show 0 + 1 * j.val = j.val; omega

end Body

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = 1 ∧ win0_2.index t (1 : Fin 3) = 0 ∧ win0_2.index t (2 : Fin 3) = 0 :=
  (by decide +kernel : ∀ t : Fin grid0.N, _)
theorem idx3 : ∀ t : Fin cfg0.N, win0_3.index t (0 : Fin 3) = 1 ∧ win0_3.index t (1 : Fin 3) = 1 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 3) = 1 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 1 ∧ win0_6.index t (1 : Fin 3) = 0 ∧ win0_6.index t (2 : Fin 3) = 0 :=
  (by decide +kernel : ∀ t : Fin grid0.N, _)

theorem fox_apply (c : Dev nD) (t : Fin cfg0.N) (r : Fin 512) (k : Fin 1024) :
    (iblk m c 0 t : Vec Ideal S512x1024 .bf16) (ix2 r k)
      = V m c main_v0 (ix2 (⟨512 * t.val + r.val, by have := t.isLt; have : cfg0.N = 32 := N_0; omega⟩ : Fin 16384) k) := by
  have hi := idx0 t
  unfold iblk
  rw [View.read_apply]
  show V m c main_v0 _ = _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem hgrn_apply (c : Dev nD) (t : Fin cfg0.N) (r : Fin 512) (k : Fin 1024) :
    (iblk m c 1 t : Vec Ideal S512x1024 .bf16) (ix2 r k)
      = V m c main_v1 (ix2 (⟨512 * t.val + r.val, by have := t.isLt; have : cfg0.N = 32 := N_0; omega⟩ : Fin 16384) k) := by
  have hi := idx1 t
  unfold iblk
  rw [View.read_apply]
  show V m c main_v1 _ = _
  congr 1
  funext a
  apply Fin.ext
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem top_apply (c : Dev nD) (t : Fin cfg0.N) (e : Fin 1024) (k : Fin 2048) :
    (iblk m c 2 t : Vec Ideal S1x1024x2048 .f32) (ix3 0 e k) = V m c main_arg2 (ix3 (1 : Fin 2) (⟨e.val, by omega⟩ : Fin 2048) k) := by
  have hi := idx2 t
  unfold iblk
  rw [View.read_apply]
  show V m c main_arg2 _ = _
  congr 1
  funext a
  apply Fin.ext
  match a with
  | ⟨0, _⟩ => show win0_2.index t 0 * 1 + 1 * 0 = 1; rw [hi.1]
  | ⟨1, _⟩ => show win0_2.index t 1 * 1024 + 1 * e.val = e.val; rw [hi.2.1]; omega
  | ⟨2, _⟩ => show win0_2.index t 2 * 2048 + 1 * k.val = k.val; rw [hi.2.2]; omega

theorem bottom_apply (c : Dev nD) (t : Fin cfg0.N) (e : Fin 1024) (k : Fin 2048) :
    (iblk m c 3 t : Vec Ideal S1x1024x2048 .f32) (ix3 0 e k) = V m c main_arg2 (ix3 (1 : Fin 2) (⟨1024 + e.val, by omega⟩ : Fin 2048) k) := by
  have hi := idx3 t
  unfold iblk
  rw [View.read_apply]
  show V m c main_arg2 _ = _
  congr 1
  funext a
  apply Fin.ext
  match a with
  | ⟨0, _⟩ => show win0_3.index t 0 * 1 + 1 * 0 = 1; rw [hi.1]
  | ⟨1, _⟩ => show win0_3.index t 1 * 1024 + 1 * e.val = 1024 + e.val; rw [hi.2.1]; omega
  | ⟨2, _⟩ => show win0_3.index t 2 * 2048 + 1 * k.val = k.val; rw [hi.2.2]; omega

theorem resid_apply (c : Dev nD) (t : Fin cfg0.N) (r : Fin 512) (k : Fin 2048) :
    (iblk m c 4 t : Vec Ideal S512x2048 .f32) (ix2 r k)
      = V m c main_v2 (ix2 (⟨512 * t.val + r.val, by have := t.isLt; have : cfg0.N = 32 := N_0; omega⟩ : Fin 16384) k) := by
  have hi := idx4 t
  unfold iblk
  rw [View.read_apply]
  show V m c main_v2 _ = _
  congr 1
  funext a
  apply Fin.ext
  match a with
  | ⟨0, _⟩ => show win0_4.index t 0 * 512 + 1 * r.val = 512 * t.val + r.val; rw [hi.1]; omega
  | ⟨1, _⟩ => show win0_4.index t 1 * 2048 + 1 * k.val = k.val; rw [hi.2]; omega

theorem gain_apply (c : Dev nD) (t : Fin cfg0.N) (k : Fin 2048) :
    (iblk m c 5 t : Vec Ideal S1x1x2048 .f32) (ix3 0 0 k) = V m c main_v3 (ix3 (1 : Fin 2) 0 k) := by
  have hi := idx5 t
  unfold iblk
  rw [View.read_apply]
  show V m c main_v3 _ = _
  congr 1
  funext a
  apply Fin.ext
  match a with
  | ⟨0, _⟩ => show win0_5.index t 0 * 1 + 1 * 0 = 1; rw [hi.1]
  | ⟨1, _⟩ => show win0_5.index t 1 * 1 + 1 * 0 = 0; rw [hi.2.1]
  | ⟨2, _⟩ => show win0_5.index t 2 * 2048 + 1 * k.val = k.val; rw [hi.2.2]; omega

theorem shift_apply (c : Dev nD) (t : Fin cfg0.N) (k : Fin 2048) :
    (iblk m c 6 t : Vec Ideal S1x1x2048 .f32) (ix3 0 0 k) = V m c main_v4 (ix3 (1 : Fin 2) 0 k) := by
  have hi := idx6 t
  unfold iblk
  rw [View.read_apply]
  show V m c main_v4 _ = _
  congr 1
  funext a
  apply Fin.ext
  match a with
  | ⟨0, _⟩ => show win0_6.index t 0 * 1 + 1 * 0 = 1; rw [hi.1]
  | ⟨1, _⟩ => show win0_6.index t 1 * 1 + 1 * 0 = 0; rw [hi.2.1]
  | ⟨2, _⟩ => show win0_6.index t 2 * 2048 + 1 * k.val = k.val; rw [hi.2.2]; omega

theorem entry_fox (c : Dev nD) (r : Fin 16384) (k : Fin 1024) :
    V m c main_v0 (ix2 r k) = m ((c : Thread nD τ).loc main_arg0) (ix3 (⟨r.val / 4096, by omega⟩ : Fin 4) (⟨r.val % 4096, by omega⟩ : Fin 4096) k) := by
  entry_read
  pointwise

theorem entry_hgrn (c : Dev nD) (r : Fin 16384) (k : Fin 1024) :
    V m c main_v1 (ix2 r k) = m ((c : Thread nD τ).loc main_arg1) (ix3 (⟨r.val / 4096, by omega⟩ : Fin 4) (⟨r.val % 4096, by omega⟩ : Fin 4096) k) := by
  entry_read
  pointwise

theorem entry_resid (c : Dev nD) (r : Fin 16384) (k : Fin 2048) :
    V m c main_v2 (ix2 r k) = m ((c : Thread nD τ).loc main_arg3) (ix3 (⟨r.val / 4096, by omega⟩ : Fin 4) (⟨r.val % 4096, by omega⟩ : Fin 4096) k) := by
  entry_read
  pointwise

theorem entry_gain (c : Dev nD) (l : Fin 2) (k : Fin 2048) :
    V m c main_v3 (ix3 l 0 k) = m ((c : Thread nD τ).loc main_arg4) (ix2 l k) := by
  entry_read
  pointwise

theorem entry_shift (c : Dev nD) (l : Fin 2) (k : Fin 2048) :
    V m c main_v4 (ix3 l 0 k) = m ((c : Thread nD τ).loc main_arg5) (ix2 l k) := by
  entry_read
  pointwise

/-- After every point the scratch holds the layer's two halves of the weight. -/
theorem carried (c : Dev nD) (n : ℕ) (h : n < cfg0.N) (e : Fin 1024) (j : Fin 2048) :
    @Eq EReal ((outsAt0 m c n h).2.2 (ix3 (0 : Fin 2) e j)) (V m c main_arg2 (ix3 (1 : Fin 2) (⟨e.val, by omega⟩ : Fin 2048) j))
    ∧ @Eq EReal ((outsAt0 m c n h).2.2 (ix3 (1 : Fin 2) e j)) (V m c main_arg2 (ix3 (1 : Fin 2) (⟨1024 + e.val, by omega⟩ : Fin 2048) j)) := by
  induction n with
  | zero =>
    rw [outsAt0_A m c ⟨0, h⟩ rfl]
    dsimp only
    rw [sout_A]
    exact ⟨(halves_low _ _ e j).trans (top_apply m c _ e j), (halves_high _ _ e j).trans (bottom_apply m c _ e j)⟩
  | succ n ih =>
    have h0 : ¬(n + 1) % 32 = 0 := by have : cfg0.N = 32 := N_0; omega
    rw [outsAt0_B m c ⟨n + 1, h⟩ h0]
    dsimp only
    unfold sout0_B_0
    exact ih (Nat.lt_of_succ_lt h)

/-- The layer norm of the residual plus both products, at one index. -/
def spec (a1 a2 : Vec Ideal S4x4096x1024 .bf16) (w : Vec Ideal S2x2048x2048 .f32) (y : Vec Ideal S4x4096x2048 .f32) (g b : Vec Ideal S2x2048 .f32)
    (r : Fin 16384) (k : Fin 2048) : EReal :=
  rowNorm (fun j => withResidual (y (ix3 (⟨r.val / 4096, by omega⟩ : Fin 4) (⟨r.val % 4096, by omega⟩ : Fin 4096) j))
      (∑ e : Fin 1024, a1 (ix3 (⟨r.val / 4096, by omega⟩ : Fin 4) (⟨r.val % 4096, by omega⟩ : Fin 4096) e) * w (ix3 1 (⟨e.val, by omega⟩ : Fin 2048) j)
        + ∑ e : Fin 1024, a2 (ix3 (⟨r.val / 4096, by omega⟩ : Fin 4) (⟨r.val % 4096, by omega⟩ : Fin 4096) e) * w (ix3 1 (⟨1024 + e.val, by omega⟩ : Fin 2048) j)))
    (g (ix2 1 k)) (b (ix2 1 k)) k

theorem block_spec (c : Dev nD) (t : Fin cfg0.N) (wa wb : Vec Ideal S1x1024x2048 .bf16)
    (ha : ∀ (e : Fin 1024) (j : Fin 2048), @Eq EReal (wa (ix3 0 e j)) (V m c main_arg2 (ix3 (1 : Fin 2) (⟨e.val, by omega⟩ : Fin 2048) j)))
    (hb : ∀ (e : Fin 1024) (j : Fin 2048), @Eq EReal (wb (ix3 0 e j)) (V m c main_arg2 (ix3 (1 : Fin 2) (⟨1024 + e.val, by omega⟩ : Fin 2048) j)))
    (a : Fin 512) (k : Fin 2048) :
    @Eq EReal (View.canon (bands (iblk m c 0 t) (iblk m c 1 t) (iblk m c 4 t) (iblk m c 5 t) (iblk m c 6 t) wa wb) (ix2 a k))
      (spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (⟨512 * t.val + a.val, by have := t.isLt; have : cfg0.N = 32 := N_0; omega⟩ : Fin 16384) k) := by
  refine (bands_apply _ _ _ _ _ wa wb a k).trans ?_
  unfold blockAt spec
  rw [gain_apply, entry_gain, shift_apply, entry_shift]
  refine congrArg (fun f => rowNorm f _ _ k) (funext fun j => ?_)
  refine congrArg₂ withResidual ?_ (congrArg₂ (· + ·) (Finset.sum_congr rfl fun n _ => ?_) (Finset.sum_congr rfl fun n _ => ?_))
  · rw [resid_apply, entry_resid]
  · rw [fox_apply, entry_fox, ha, V_main_arg2]
  · rw [hgrn_apply, entry_hgrn, hb, V_main_arg2]

theorem written (c : Dev nD) (t : Fin cfg0.N) (a : Fin 512) (k : Fin 2048) :
    let s := spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (⟨512 * t.val + a.val, by have := t.isLt; have : cfg0.N = 32 := N_0; omega⟩ : Fin 16384) k
    @Eq EReal ((outsAt0 m c t.val t.isLt).1 (ix2 a k)) s ∧ @Eq EReal ((outsAt0 m c t.val t.isLt).2.1 (ix2 a k)) s := by
  intro s
  by_cases h0 : t.val % 32 = 0
  · have hs := block_spec m c t (k0_pay2 (iblk m c 2 t)) (k0_pay3 (iblk m c 3 t))
      (fun e j => (pay2_apply _ e j).trans (top_apply m c t e j)) (fun e j => (pay3_apply _ e j).trans (bottom_apply m c t e j)) a k
    rw [outsAt0_A m c t h0]
    dsimp only
    exact ⟨(congrFun (out7_A ..) _).trans hs, (congrFun (out8_A ..) _).trans hs⟩
  · have hc := fun e j => carried m c t.val t.isLt e j
    rw [outsAt0_B m c t h0] at hc ⊢
    dsimp only at hc ⊢
    unfold sout0_B_0 at hc
    have hs := block_spec m c t _ _ (fun e j => (low_ld (outsAt0 m c (t.val - 1) _).2.2 e j).trans (hc e j).1) (fun e j => (high_ld (outsAt0 m c (t.val - 1) _).2.2 e j).trans (hc e j).2) a k
    exact ⟨(congrFun (out7_B ..) _).trans hs, (congrFun (out8_B ..) _).trans hs⟩

theorem array7 (c : Dev nD) (r : Fin 16384) (k : Fin 2048) :
    @Eq EReal (G7 m c (ix2 r k)) (spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r k) := by
  have hN : cfg0.N = 32 := N_0
  have hr := r.isLt
  have hk := k.isLt
  have hp : pt7Of (ix2 r k) = r.val / 512 := by show 1 * (r.val / 512 - 0) + 1 * (k.val / 2048 - 0) = _; omega
  have hlt : pt7Of (ix2 r k) < cfg0.N := by omega
  unfold G7
  rw [dif_pos hlt, ← outsAt0_sweep m c _ hlt]
  have hl : loc7Of (ix2 r k) = ix2 (⟨r.val % 512, by omega⟩ : Fin 512) k := by
    refine (eq_ix2 _).trans (congrArg₂ ix2 rfl (Fin.ext ?_))
    show k.val % 2048 = k.val
    omega
  rw [hl]
  refine (written m c ⟨_, hlt⟩ _ k).1.trans ?_
  congr 1
  apply Fin.ext
  dsimp only
  omega

theorem array8 (c : Dev nD) (r : Fin 16384) (k : Fin 2048) :
    @Eq EReal (G8 m c (ix2 r k)) (spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r k) := by
  have hN : cfg0.N = 32 := N_0
  have hr := r.isLt
  have hk := k.isLt
  have hp : pt8Of (ix2 r k) = r.val / 512 := by show 1 * (r.val / 512 - 0) + 1 * (k.val / 2048 - 0) = _; omega
  have hlt : pt8Of (ix2 r k) < cfg0.N := by omega
  unfold G8
  rw [dif_pos hlt, ← outsAt0_sweep m c _ hlt]
  have hl : loc8Of (ix2 r k) = ix2 (⟨r.val % 512, by omega⟩ : Fin 512) k := by
    refine (eq_ix2 _).trans (congrArg₂ ix2 rfl (Fin.ext ?_))
    show k.val % 2048 = k.val
    omega
  rw [hl]
  refine (written m c ⟨_, hlt⟩ _ k).2.trans ?_
  congr 1
  apply Fin.ext
  dsimp only
  omega

end Cert.MixEq

theorem Cert.MixEq.algebraic : algebraic_MixIdeal_MixRefIdeal := by
  intro m ρ m' ρ' _ hagree
  refine ⟨_, _, Cert.MixIdeal.Value.run (F := Ideal) m ρ, ?_⟩
  refine (θ_run Cert.MixRefIdeal.defs _ _).mono (fun _ h c => ⟨?_, ?_, (h c).2.2⟩) (Cert.MixRefIdeal.Value.run (F := Ideal) m' ρ')
  · obtain ⟨h0, h1, h2, h3, h4, h5⟩ := hagree c
    rw [(h c).1]
    funext i
    obtain ⟨r, a, rfl⟩ : ∃ (r : Fin 16384) (a : Fin 2048), i = ix2 r a := ⟨i 0, i 1, eq_ix2 i⟩
    refine Eq.trans ?_ (Cert.MixEq.array7 m c r a).symm
    unfold Cert.MixRefIdeal.Value.res_main_v36 Cert.MixEq.spec Cert.RowNorm.rowNorm Cert.RowNorm.dev Cert.RowNorm.mean Cert.RowNorm.withResidual
    rw [← h0, ← h1, ← h2, ← h3, ← h4, ← h5]
    pointwise
  · obtain ⟨h0, h1, h2, h3, h4, h5⟩ := hagree c
    rw [(h c).2.1]
    funext i
    obtain ⟨r, a, rfl⟩ : ∃ (r : Fin 16384) (a : Fin 2048), i = ix2 r a := ⟨i 0, i 1, eq_ix2 i⟩
    refine Eq.trans ?_ (Cert.MixEq.array8 m c r a).symm
    unfold Cert.MixRefIdeal.Value.res_main_v37 Cert.MixEq.spec Cert.RowNorm.rowNorm Cert.RowNorm.dev Cert.RowNorm.mean Cert.RowNorm.withResidual
    rw [← h0, ← h1, ← h2, ← h3, ← h4, ← h5]
    pointwise
-- ==== Proof.XqAlgebraic.lean ====
/-
  The cross-attention query product, read as a value.
-/
module

public import proofs.«01_k».proof.Defs
public import proofs.«01_k».proof.Proof.Gen.XqIdeal.Value
public import proofs.«01_k».proof.Proof.Gen.XqRefIdeal.Run
public import Idealize.ShloMosaic.Lib.Tactic
public import Idealize.ShloMosaic.Lib.Claim
public import Idealize.ShloMosaic.Lib.Pointwise

@[expose] public section

noncomputable section

open Idealize.ShloMosaic Idealize.ShloMosaic.TcCoe Idealize.SL.Sem

namespace Cert.XqEq

open Cert.XqIdeal Cert.XqIdeal.Gen Cert.XqIdeal.Value

section AnyF
variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

theorem scr_A (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2048x1024 .bf16) (harg6 : arg6.IsWhole) (hc0 : cond0_0 i)
    (x0 : Vec F S1024x2048 .bf16) (x1 : Vec F S1x2048x1024 .f32) (x2 : Vec F S1x1024 .f32) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zero2]
  simp only [View.readAt_eq_ld, harg3.read_unread, View.ld_unit_zero (S := S1x2048x1024) zero3]

theorem out_A (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2048x1024 .bf16) (harg6 : arg6.IsWhole) (hc0 : cond0_0 i)
    (x0 : Vec F S1024x2048 .bf16) (x1 : Vec F S1x2048x1024 .f32) (x2 : Vec F S1x1024 .f32) :
    out0_A_3 c i arg2 harg2 arg3 harg3 arg4 harg4 arg5 harg5 arg6 harg6 hc0 x0 x1 x2 = k0_pay2 x0 (k0_pay1 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero zero2, View.readCov_unit_zero (S := S2048x1024) _ zero2]
  simp only [View.readAt_eq_ld, harg2.read_unread, harg3.read_unread, harg4.read_unread, View.ld_unit_zero (S := S1x2048x1024) zero3, View.ld_unit_zero (S := S1024x2048) zero2, View.ld_unit_zero (S := S1x1024) zero2]

theorem out_B (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2048x1024 .bf16) (harg6 : arg6.IsWhole) (hc0 : ¬cond0_0 i)
    (x0 : Vec F S1024x2048 .bf16) (x1 : Vec F S1x2048x1024 .f32) (x2 : Vec F S1x1024 .f32) (xs : Vec F S2048x1024 .bf16) :
    out0_B_3 c i arg2 harg2 arg3 harg3 arg4 harg4 arg5 harg5 arg6 harg6 hc0 x0 x1 x2 xs = k0_pay2 x0 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  sl_unfold_words
  rw [View.canon_unit_zero zero2]
  simp only [View.readAt_eq_ld, harg2.read_unread, harg6.read_unread, harg4.read_unread, View.ld_unit_zero (S := S2048x1024) zero2, View.ld_unit_zero (S := S1024x2048) zero2, View.ld_unit_zero (S := S1x1024) zero2]

end AnyF

variable (m : (ℓ : Loc nD τ sig) → Buf (Elt Ideal) ℓ)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = t.val / 16 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)

theorem rows_apply (c : Dev nD) (t : Fin cfg0.N) (r : Fin 1024) (k : Fin 2048) :
    (iblk m c 0 t : Vec Ideal S1024x2048 .bf16) (ix2 r k)
      = V m c main_v2 (ix2 (⟨1024 * (t.val % 16) + r.val, by omega⟩ : Fin 16384) k) := by
  have hi := idx0 t
  unfold iblk
  rw [View.read_apply]
  show V m c main_v2 _ = _
  congr 1
  funext a
  apply Fin.ext
  match a with
  | ⟨0, _⟩ => show win0_0.index t 0 * 1024 + 1 * r.val = 1024 * (t.val % 16) + r.val; rw [hi.1]; omega
  | ⟨1, _⟩ => show win0_0.index t 1 * 2048 + 1 * k.val = k.val; rw [hi.2]; omega

theorem weight_apply (c : Dev nD) (t : Fin cfg0.N) (k : Fin 2048) (a : Fin 1024) :
    (iblk m c 1 t : Vec Ideal S1x2048x1024 .f32) (ix3 0 k a)
      = V m c main_arg1 (ix3 (1 : Fin 2) k (⟨1024 * (t.val / 16) + a.val, by have := t.isLt; have : cfg0.N = 32 := N_0; omega⟩ : Fin 2048)) := by
  have hi := idx1 t
  unfold iblk
  rw [View.read_apply]
  show V m c main_arg1 _ = _
  congr 1
  funext b
  apply Fin.ext
  match b with
  | ⟨0, _⟩ => show win0_1.index t 0 * 1 + 1 * 0 = 1; rw [hi.1]
  | ⟨1, _⟩ => show win0_1.index t 1 * 2048 + 1 * k.val = k.val; rw [hi.2.1]; omega
  | ⟨2, _⟩ => show win0_1.index t 2 * 1024 + 1 * a.val = _; rw [hi.2.2]; simp; omega

theorem scale_apply (c : Dev nD) (t : Fin cfg0.N) (a : Fin 1024) :
    (iblk m c 2 t : Vec Ideal S1x1024 .f32) (ix2 0 a)
      = V m c main_v0 (ix2 (0 : Fin 1) (⟨1024 * (t.val / 16) + a.val, by have := t.isLt; have : cfg0.N = 32 := N_0; omega⟩ : Fin 2048)) := by
  have hi := idx2 t
  unfold iblk
  rw [View.read_apply]
  show V m c main_v0 _ = _
  congr 1
  funext b
  apply Fin.ext
  match b with
  | ⟨0, _⟩ => show win0_2.index t 0 * 1 + 1 * 0 = 0; rw [hi.1]
  | ⟨1, _⟩ => show win0_2.index t 1 * 1024 + 1 * a.val = _; rw [hi.2]; simp; omega

/-- What the scratch holds after a point: the weight block of the point's own column group. -/
theorem carried (c : Dev nD) (n : ℕ) (h : n < cfg0.N) :
    (outsAt0 m c n h).2 = k0_pay1 (iblk m c 1 ⟨n, h⟩) := by
  induction n with
  | zero => rw [outsAt0_A m c ⟨0, h⟩ rfl]; dsimp only; rw [scr_A]
  | succ n ih =>
    by_cases h0 : (n + 1) % 16 = 0
    · rw [outsAt0_A m c ⟨n + 1, h⟩ h0]; dsimp only; rw [scr_A]
    · rw [outsAt0_B m c ⟨n + 1, h⟩ h0]
      dsimp only
      unfold sout0_B_0
      refine (ih (Nat.lt_of_succ_lt h)).trans (congrArg k0_pay1 ?_)
      funext y
      obtain ⟨z, a, k, rfl⟩ : ∃ z a k, y = ix3 z a k := ⟨y 0, y 1, y 2, eq_ix3 y⟩
      obtain rfl : z = 0 := Subsingleton.elim _ _
      refine (weight_apply m c _ a k).trans ((weight_apply m c _ a k).trans ?_).symm
      have : (n + 1) / 16 = n / 16 := by omega
      simp only [this]

theorem written (c : Dev nD) (t : Fin cfg0.N) :
    (outsAt0 m c t.val t.isLt).1 = k0_pay2 (iblk m c 0 t) (k0_pay1 (iblk m c 1 t)) (iblk m c 2 t) := by
  by_cases h0 : t.val % 16 = 0
  · rw [outsAt0_A m c t h0]; dsimp only; rw [out_A]
  · have hc := carried m c t.val t.isLt
    rw [outsAt0_B m c t h0] at hc ⊢
    dsimp only at hc ⊢
    unfold sout0_B_0 at hc
    rw [out_B, hc]

theorem entry_rows (c : Dev nD) (r : Fin 16384) (k : Fin 2048) :
    V m c main_v2 (ix2 r k) = m ((c : Thread nD τ).loc main_arg0) (ix3 (⟨r.val / 4096, by omega⟩ : Fin 4) (⟨r.val % 4096, by omega⟩ : Fin 4096) k) := by
  entry_read
  pointwise

theorem entry_scale (c : Dev nD) (a : Fin 2048) :
    V m c main_v0 (ix2 0 a) = Ideal.ofBits .f32 0x3D8293EE#32 := by
  entry_read
  pointwise

theorem pay1_apply (w : Vec Ideal S1x2048x1024 .f32) (k : Fin 2048) (a : Fin 1024) :
    k0_pay1 w (ix2 k a) = w (ix3 0 k a) := by
  unfold k0_pay1
  pointwise

theorem pay2_apply (x : Vec Ideal S1024x2048 .bf16) (w : Vec Ideal S2048x1024 .bf16) (s : Vec Ideal S1x1024 .f32) (r a : Fin 1024) :
    k0_pay2 x w s (ix2 r a) = (∑ k : Fin 2048, x (ix2 r k) * w (ix2 k a)) * s (ix2 0 a) := by
  unfold k0_pay2
  pointwise

/-- Row times weight column, times the softmax scale. -/
def spec (x : Vec Ideal S4x4096x2048 .f32) (w : Vec Ideal S2x2048x2048 .f32) : Vec Ideal S16384x2048 .bf16 := fun i =>
  (∑ k : Fin 2048, x (ix3 (⟨(i 0).val / 4096, by have : (i 0).val < 16384 := (i 0).isLt; omega⟩ : Fin 4) (⟨(i 0).val % 4096, by omega⟩ : Fin 4096) k)
      * w (ix3 (1 : Fin 2) k (⟨(i 1).val, (i 1).isLt⟩ : Fin 2048)))
    * Ideal.ofBits .f32 0x3D8293EE#32

theorem kernel_value (c : Dev nD) :
    G3 m c = spec (m ((c : Thread nD τ).loc main_arg0)) (m ((c : Thread nD τ).loc main_arg1)) := by
  funext i
  have h0 : (i 0).val < 16384 := (i 0).isLt
  have h1 : (i 1).val < 2048 := (i 1).isLt
  have hN : cfg0.N = 32 := N_0
  have hp : pt3Of i = (i 0).val / 1024 + 16 * ((i 1).val / 1024) := by show 1 * ((i 0).val / 1024 - 0) + 16 * ((i 1).val / 1024 - 0) = _; omega
  have hlt : pt3Of i < cfg0.N := by omega
  unfold G3
  rw [dif_pos hlt, ← outsAt0_sweep m c (pt3Of i) hlt, written m c ⟨pt3Of i, hlt⟩]
  have hl : loc3Of i = ix2 (⟨(i 0).val % 1024, by omega⟩ : Fin 1024) (⟨(i 1).val % 1024, by omega⟩ : Fin 1024) := eq_ix2 _
  rw [hl, pay2_apply]
  unfold spec
  refine congrArg₂ (· * ·) (Finset.sum_congr rfl fun k _ => ?_) ?_
  · rw [pay1_apply, rows_apply, weight_apply, entry_rows, V_main_arg1]
    refine congrArg₂ (· * ·) (congrArg _ ?_) (congrArg _ ?_)
    · congr 1 <;> apply Fin.ext <;> dsimp only <;> omega
    · congr 1; apply Fin.ext; dsimp only; omega
  · rw [scale_apply, entry_scale]

end Cert.XqEq

theorem Cert.XqEq.algebraic : algebraic_XqIdeal_XqRefIdeal := by
  intro m ρ m' ρ' _ hagree
  refine ⟨_, Cert.XqIdeal.Value.run (F := Ideal) m ρ, ?_⟩
  refine (θ_run Cert.XqRefIdeal.defs _ _).mono (fun _ h c => ⟨?_, (h c).2⟩) (Cert.XqRefIdeal.Value.run (F := Ideal) m' ρ')
  obtain ⟨hx, hw⟩ := hagree c
  rw [(h c).1, Cert.XqEq.kernel_value]
  funext i
  obtain ⟨r, a, rfl⟩ : ∃ r a, i = ix2 r a := ⟨i 0, i 1, eq_ix2 i⟩
  unfold Cert.XqEq.spec
  pointwise
  rw [hx, hw]
  try rfl
-- ==== Proof.CrossAlgebraic.lean ====
module

public import proofs.«01_k».proof.Defs
public import proofs.«01_k».proof.Proof.Gen.CrossIdeal.Value
public import proofs.«01_k».proof.Proof.Gen.CrossRefIdeal.Run
public import proofs.«01_k».proof.Proof.Gen.CrossRefIdeal.Read
public import proofs.«01_k».proof.Proof.LayerNorm
public import proofs.«01_k».proof.Proof.FoxAlgebraic
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pipeline.ValueKit.Tiles
public import Idealize.ShloMosaic.Lib.Pointwise

@[expose] public section

noncomputable section
open Idealize.ShloMosaic Idealize.ShloMosaic.TcCoe Idealize.SL.Sem

namespace Cert.CrossEq

open Cert.CrossIdeal Cert.CrossIdeal.Gen Cert.CrossIdeal.Value Cert.RowNorm

section Pieces
variable {F : FTy → Type} [FloatOps F]
variable (q k v : Vec F S256x512 .bf16)
def head : Vec F S256x512 .bf16 := k0_pay7 (k0_pay2 q k) v
theorem head_zero : k0_pay6 (k0_pay5 q k) v = head q k v := rfl
theorem head_two : k0_pay8 (k0_pay3 q k) v = head q k v := rfl
end Pieces

/-- A base-two softmax of the scores `s`, summed against `v`. -/
def soft (s v : Fin 256 → EReal) : EReal :=
  ∑ n, Ideal.div (Ideal.exp2 (s n - Finset.fold max (Ideal.ofBits .f32 0xFF800000#32) s Finset.univ))
      (∑ n', Ideal.exp2 (s n' - Finset.fold max (Ideal.ofBits .f32 0xFF800000#32) s Finset.univ)) * v n

/-- The attention of one row at column `c`: the scores are those of `c`'s head. -/
def attAt (q : Fin 2048 → EReal) (k v : Fin 256 → Fin 2048 → EReal) (c : Fin 2048) : EReal :=
  soft (fun n => ∑ d : Fin 512, q ⟨512 * (c.val / 512) + d.val, by omega⟩ * k n ⟨512 * (c.val / 512) + d.val, by omega⟩) (fun n => v n c)

theorem head_apply (q k v : Vec Ideal S256x512 .bf16) (r : Fin 256) (d : Fin 512) :
    @Eq EReal (head q k v (ix2 r d)) (soft (fun n => ∑ e, q (ix2 r e) * k (ix2 n e)) (fun n => v (ix2 n d))) := by
  unfold head k0_pay7 k0_pay2
  pointwise
  rfl

theorem col_ld (o : ℕ) (inb : ∀ a, (![0, o] : Fin 2 → ℕ) a + (![256, 512] : Fin 2 → ℕ) a ≤ (![256, 2048] : Fin 2 → ℕ) a)
    (X : Vec Ideal S256x2048 .bf16) (r : Fin 256) (d : Fin 512) (c : Fin 2048) (h : c.val = o + d.val) :
    View.ld (S := S256x2048) X (Rect.unit ![0, o] ![256, 512] inb) (ix2 r d) = X (ix2 r c) := by
  refine congrArg X (funext fun z => Fin.ext ?_)
  match z with
  | ⟨0, _⟩ => show 0 + 1 * r.val = r.val; omega
  | ⟨1, _⟩ => show o + 1 * d.val = c.val; omega

/-- One head's output on the columns `o …` of the block. -/
theorem head_cols (o : ℕ) (inb : ∀ a, (![0, o] : Fin 2 → ℕ) a + (![256, 512] : Fin 2 → ℕ) a ≤ (![256, 2048] : Fin 2 → ℕ) a)
    (q k v : Vec Ideal S256x2048 .bf16) (r : Fin 256) (d : Fin 512) (c : Fin 2048) (h : c.val = o + d.val) (ho : 512 * (c.val / 512) = o) :
    @Eq EReal (head (View.ld (S := S256x2048) q (Rect.unit ![0, o] ![256, 512] inb)) (View.ld (S := S256x2048) k (Rect.unit ![0, o] ![256, 512] inb))
      (View.ld (S := S256x2048) v (Rect.unit ![0, o] ![256, 512] inb)) (ix2 r d))
      (attAt (fun e => q (ix2 r e)) (fun n e => k (ix2 n e)) (fun n e => v (ix2 n e)) c) := by
  refine (head_apply _ _ _ r d).trans ?_
  unfold attAt
  refine congrArg₂ soft (funext fun n => Finset.sum_congr rfl fun e _ => ?_) (funext fun n => col_ld o inb v n d c h)
  exact congrArg₂ (· * ·) (col_ld o inb q r e _ (congrArg (· + e.val) ho)) (col_ld o inb k n e _ (congrArg (· + e.val) ho))

section Att
variable {F : FTy → Type} [FloatOps F]
variable (q k v : Vec F S256x2048 .bf16)

/-- The attention of all four heads side by side. -/
def att : Vec F S256x2048 .bf16 :=
  k0_pay11 (head (View.ld q (Rect.unit ![0, 0] ![256, 512] inb_S256x2048_S256x512_0_0)) (View.ld k (Rect.unit ![0, 0] ![256, 512] inb_S256x2048_S256x512_0_0)) (View.ld v (Rect.unit ![0, 0] ![256, 512] inb_S256x2048_S256x512_0_0)))
    (head (View.ld q (Rect.unit ![0, 512] ![256, 512] inb_S256x2048_S256x512_0_512)) (View.ld k (Rect.unit ![0, 512] ![256, 512] inb_S256x2048_S256x512_0_512)) (View.ld v (Rect.unit ![0, 512] ![256, 512] inb_S256x2048_S256x512_0_512)))
    (head (View.ld q (Rect.unit ![0, 1024] ![256, 512] inb_S256x2048_S256x512_0_1024)) (View.ld k (Rect.unit ![0, 1024] ![256, 512] inb_S256x2048_S256x512_0_1024)) (View.ld v (Rect.unit ![0, 1024] ![256, 512] inb_S256x2048_S256x512_0_1024)))
    (k0_pay9 (k0_pay4 (View.ld q (Rect.unit ![0, 1536] ![256, 512] inb_S256x2048_S256x512_0_1536)) (View.ld k (Rect.unit ![0, 1536] ![256, 512] inb_S256x2048_S256x512_0_1536))))
    (k0_pay10 (View.ld v (Rect.unit ![0, 1536] ![256, 512] inb_S256x2048_S256x512_0_1536)))

/-- The first band of 128 rows: the attention's rows times the weight, the residual and the layer norm. -/
def low (w : Vec F S2048x2048 .bf16) (y : Vec F S128x2048 .f32) (g b : Vec F S1x1x2048 .f32) : Vec F S128x2048 .f32 :=
  k0_pay12 (head (View.ld q (Rect.unit ![0, 0] ![256, 512] inb_S256x2048_S256x512_0_0)) (View.ld k (Rect.unit ![0, 0] ![256, 512] inb_S256x2048_S256x512_0_0)) (View.ld v (Rect.unit ![0, 0] ![256, 512] inb_S256x2048_S256x512_0_0)))
    (head (View.ld q (Rect.unit ![0, 512] ![256, 512] inb_S256x2048_S256x512_0_512)) (View.ld k (Rect.unit ![0, 512] ![256, 512] inb_S256x2048_S256x512_0_512)) (View.ld v (Rect.unit ![0, 512] ![256, 512] inb_S256x2048_S256x512_0_512)))
    (head (View.ld q (Rect.unit ![0, 1024] ![256, 512] inb_S256x2048_S256x512_0_1024)) (View.ld k (Rect.unit ![0, 1024] ![256, 512] inb_S256x2048_S256x512_0_1024)) (View.ld v (Rect.unit ![0, 1024] ![256, 512] inb_S256x2048_S256x512_0_1024)))
    (k0_pay9 (k0_pay4 (View.ld q (Rect.unit ![0, 1536] ![256, 512] inb_S256x2048_S256x512_0_1536)) (View.ld k (Rect.unit ![0, 1536] ![256, 512] inb_S256x2048_S256x512_0_1536))))
    (k0_pay10 (View.ld v (Rect.unit ![0, 1536] ![256, 512] inb_S256x2048_S256x512_0_1536))) w y g b

/-- The four heads' blocks put side by side. -/
def join (h0 h1 h2 h3 : Vec F S256x512 .bf16) : Vec F S256x2048 .bf16 :=
  concatenate S256x2048 1 [⟨S256x512, h0⟩, ⟨S256x512, h1⟩, ⟨S256x512, h2⟩, ⟨S256x512, h3⟩] concatenates_S256x512_S256x512_S256x512_S256x512_S256x2048_d1

theorem join_three (h0 h1 h2 q k v : Vec F S256x512 .bf16) : k0_pay11 h0 h1 h2 (k0_pay9 (k0_pay4 q k)) (k0_pay10 v) = join h0 h1 h2 (head q k v) := rfl

end Att

theorem join_apply (h0 h1 h2 h3 : Vec Ideal S256x512 .bf16) (r : Fin 256) (c : Fin 2048) :
    @Eq EReal (join h0 h1 h2 h3 (ix2 r c)) (if h : c.val < 512 then h0 (ix2 r ⟨c.val, h⟩) else if h' : c.val - 512 < 512 then h1 (ix2 r ⟨c.val - 512, h'⟩)
      else if h'' : c.val - 512 - 512 < 512 then h2 (ix2 r ⟨c.val - 512 - 512, h''⟩) else h3 (ix2 r ⟨c.val - 512 - 512 - 512, by omega⟩)) := by
  unfold join
  pointwise

theorem att_apply (q k v : Vec Ideal S256x2048 .bf16) (r : Fin 256) (c : Fin 2048) :
    @Eq EReal (att q k v (ix2 r c)) (attAt (fun e => q (ix2 r e)) (fun n e => k (ix2 n e)) (fun n e => v (ix2 n e)) c) := by
  unfold att
  refine (congrFun (join_three _ _ _ _ _ _) _).trans ((join_apply _ _ _ _ r c).trans ?_)
  by_cases h1 : c.val < 512
  · rw [dif_pos h1]
    exact head_cols 0 _ q k v r _ c (Nat.zero_add _).symm (by omega)
  · rw [dif_neg h1]
    by_cases h2 : c.val - 512 < 512
    · rw [dif_pos h2]
      exact head_cols 512 _ q k v r _ c (by dsimp only; omega) (by omega)
    · rw [dif_neg h2]
      by_cases h3 : c.val - 512 - 512 < 512
      · rw [dif_pos h3]
        exact head_cols 1024 _ q k v r _ c (by dsimp only; omega) (by omega)
      · rw [dif_neg h3]
        exact head_cols 1536 _ q k v r _ c (by dsimp only; omega) (by omega)

/-- What the body leaves at one row and column: the layer norm of the residual plus the product. -/
def blockAt (a : Fin 2048 → EReal) (w : Vec Ideal S2048x2048 .bf16) (y : Fin 2048 → EReal) (g b : Vec Ideal S1x1x2048 .f32) (k : Fin 2048) : EReal :=
  rowNorm (fun j => withResidual (y j) (∑ e : Fin 2048, a e * w (ix2 e j))) (g (ix3 0 0 k)) (b (ix3 0 0 k)) k

theorem high_apply (a : Vec Ideal S256x2048 .bf16) (w : Vec Ideal S2048x2048 .bf16) (y : Vec Ideal S128x2048 .f32) (g b : Vec Ideal S1x1x2048 .f32) (r : Fin 128) (k : Fin 2048) :
    @Eq EReal (k0_pay14 a w y g b (ix2 r k)) (blockAt (fun e => a (ix2 (⟨128 + r.val, by omega⟩ : Fin 256) e)) w (fun j => y (ix2 r j)) g b k) := by
  unfold k0_pay14 blockAt rowNorm dev mean withResidual
  pointwise

theorem low_apply (h0 h1 h2 : Vec Ideal S256x512 .bf16) (p : Vec Ideal S256x256 .bf16) (h3 : Vec Ideal S256x512 .bf16) (w : Vec Ideal S2048x2048 .bf16) (y : Vec Ideal S128x2048 .f32) (g b : Vec Ideal S1x1x2048 .f32) (r : Fin 128) (k : Fin 2048) :
    @Eq EReal (k0_pay12 h0 h1 h2 p h3 w y g b (ix2 r k)) (blockAt (fun e => k0_pay11 (F := Ideal) h0 h1 h2 p h3 (ix2 (⟨0 + r.val, by omega⟩ : Fin 256) e)) w (fun j => y (ix2 r j)) g b k) := by
  unfold k0_pay12 blockAt rowNorm dev mean withResidual
  pointwise

theorem blockAt_band (a : Vec Ideal S256x2048 .bf16) (w : Vec Ideal S2048x2048 .bf16) (y : Vec Ideal S256x2048 .f32) (g b : Vec Ideal S1x1x2048 .f32) (o : ℕ)
    (inb : ∀ a, (![o, 0] : Fin 2 → ℕ) a + (![128, 2048] : Fin 2 → ℕ) a ≤ (![256, 2048] : Fin 2 → ℕ) a)
    (p : Fin 128) (j k : Fin 2048) (r : Fin 256) (hp : o + p.val < 256) (h0 : r.val = o + p.val) (h1 : k.val = j.val) :
    blockAt (fun e => a (ix2 (⟨o + p.val, hp⟩ : Fin 256) e)) w (fun j => View.ld (S := S256x2048) y (Rect.unit ![o, 0] ![128, 2048] inb) (ix2 p j)) g b j
      = blockAt (fun e => a (ix2 r e)) w (fun j => y (ix2 r j)) g b k := by
  obtain rfl : k = j := Fin.ext h1
  have hr : (⟨o + p.val, hp⟩ : Fin 256) = r := Fin.ext h0.symm
  rw [hr]
  exact congrArg (fun f => blockAt _ w f g b k) (funext fun j => band_ld o inb y p j r h0)

section Body
variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S1x2048x2048 .f32) (harg4 : arg4.IsWhole) (arg5 : Memref sig .tc .vmem S256x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S256x2048 .f32) (harg8 : arg8.IsWhole) (arg9 : Memref sig .tc .vmem S256x2048 .bf16) (harg9 : arg9.IsWhole) (arg10 : Memref sig .tc .vmem S2048x2048 .bf16) (harg10 : arg10.IsWhole)
  (x0 x1 x2 : Vec Ideal S256x2048 .bf16) (x3 : Vec Ideal S1x2048x2048 .f32) (x4 : Vec Ideal S256x2048 .f32) (x5 : Vec Ideal S1x1x2048 .f32) (x6 : Vec Ideal S1x1x2048 .f32) (xs : Vec Ideal S2048x2048 .bf16)

/-- The two bands the body stores, the last first. -/
def bands (w : Vec Ideal S2048x2048 .bf16) : List (View.Piece (Elt Ideal) S256x2048 .f32) :=
  [⟨Rect.unit ![128, 0] ![128, 2048] inb_S256x2048_S128x2048_128_0, k0_pay14 (att x0 x1 x2) w (View.ld x4 (Rect.unit ![128, 0] ![128, 2048] inb_S256x2048_S128x2048_128_0)) x5 x6⟩,
    ⟨Rect.unit ![0, 0] ![128, 2048] inb_S256x2048_S128x2048_0_0, low x0 x1 x2 w (View.ld x4 (Rect.unit ![0, 0] ![128, 2048] inb_S256x2048_S128x2048_0_0)) x5 x6⟩]

theorem bands_apply (w : Vec Ideal S2048x2048 .bf16) (r : Fin 256) (k : Fin 2048) :
    @Eq EReal (View.canon (bands x0 x1 x2 x4 x5 x6 w) (ix2 r k))
      (blockAt (attAt (fun e => x0 (ix2 r e)) (fun n e => x1 (ix2 n e)) (fun n e => x2 (ix2 n e))) w (fun j => x4 (ix2 r j)) x5 x6 k) := by
  have e : (fun e => att x0 x1 x2 (ix2 r e)) = attAt (fun e => x0 (ix2 r e)) (fun n e => x1 (ix2 n e)) (fun n e => x2 (ix2 n e)) := funext fun c => att_apply x0 x1 x2 r c
  rw [← e]
  unfold bands
  canon_tiles x h
  all_goals (obtain ⟨a, j, rfl⟩ : ∃ (a : Fin 128) (j : Fin 2048), x = ix2 a j := ⟨x 0, x 1, eq_ix2 x⟩)
  · exact (high_apply _ _ _ _ _ a j).trans (blockAt_band _ _ x4 _ _ 128 _ a j k r _ h0 h1)
  · refine (low_apply _ _ _ _ _ _ _ _ _ a j).trans (blockAt_band (att x0 x1 x2) _ x4 _ _ 0 _ a j k r _ (h0.trans (Nat.zero_add _).symm) h1)

theorem out7_B (hc0 : ¬cond0_0 i) :
    out0_B_7 c i arg1 harg1 arg2 harg2 arg3 harg3 arg4 harg4 arg5 harg5 arg6 harg6 arg7 harg7 arg8 harg8 arg9 harg9 arg10 harg10 hc0 x0 x1 x2 x3 x4 x5 x6 xs
      = View.canon (bands x0 x1 x2 x4 x5 x6 xs) := by
  frame_out
  rfl

theorem out8_B (hc0 : ¬cond0_0 i) :
    @Eq (S256x2048.Idx → EReal) (out0_B_8 c i arg1 harg1 arg2 harg2 arg3 harg3 arg4 harg4 arg5 harg5 arg6 harg6 arg7 harg7 arg8 harg8 arg9 harg9 arg10 harg10 hc0 x0 x1 x2 x3 x4 x5 x6 xs)
      (View.canon (bands x0 x1 x2 x4 x5 x6 xs)) := by
  frame_out
  rfl

theorem out7_A (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 x6
      = View.canon (bands x0 x1 x2 x4 x5 x6 (k0_pay1 x3)) := by
  frame_out
  rfl

theorem out8_A (hc0 : cond0_0 i) :
    @Eq (S256x2048.Idx → EReal) (out0_A_8 c i arg1 harg1 arg2 harg2 arg3 harg3 arg4 harg4 arg5 harg5 arg6 harg6 arg7 harg7 arg8 harg8 arg9 harg9 arg10 harg10 hc0 x0 x1 x2 x3 x4 x5 x6)
      (View.canon (bands x0 x1 x2 x4 x5 x6 (k0_pay1 x3))) := by
  frame_out
  rfl

theorem sout_A (hc0 : cond0_0 i) :
    sout0_A_0 c i arg1 harg1 arg2 harg2 arg3 harg3 arg4 harg4 arg5 harg5 arg6 harg6 arg7 harg7 arg8 harg8 arg9 harg9 arg10 harg10 hc0 x0 x1 x2 x3 x4 x5 x6
      = k0_pay1 x3 := by
  frame_out

theorem pay1_apply (e j : Fin 2048) : k0_pay1 x3 (ix2 e j) = x3 (ix3 0 e j) := by
  unfold k0_pay1
  pointwise

end Body

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val / 16 ∧ win0_1.index t (1 : Fin 2) = 0 :=
  (by decide +kernel : ∀ t : Fin grid0.N, _)
theorem idx2 : ∀ t : Fin cfg0.N, win0_2.index t (0 : Fin 2) = t.val / 16 ∧ win0_2.index t (1 : Fin 2) = 0 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 3) = 1 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 1 ∧ win0_6.index t (1 : Fin 3) = 0 ∧ win0_6.index t (2 : Fin 3) = 0 :=
  (by decide +kernel : ∀ t : Fin grid0.N, _)

theorem q_apply (c : Dev nD) (t : Fin cfg0.N) (r : Fin 256) (k : Fin 2048) :
    (iblk m c 0 t : Vec Ideal S256x2048 .bf16) (ix2 r k)
      = V m c main_v0 (ix2 (⟨256 * (t.val) + r.val, by have := t.isLt; have : cfg0.N = 64 := N_0; omega⟩ : Fin 16384) k) := by
  have hi := idx0 t
  unfold iblk
  rw [View.read_apply]
  show V m c main_v0 _ = _
  congr 1
  funext a
  apply Fin.ext
  match a with
  | ⟨0, _⟩ => show win0_0.index t 0 * 256 + 1 * r.val = 256 * (t.val) + r.val; rw [hi.1]; omega
  | ⟨1, _⟩ => show win0_0.index t 1 * 2048 + 1 * k.val = k.val; rw [hi.2]; omega

theorem k_apply (c : Dev nD) (t : Fin cfg0.N) (r : Fin 256) (k : Fin 2048) :
    (iblk m c 1 t : Vec Ideal S256x2048 .bf16) (ix2 r k)
      = V m c main_v1 (ix2 (⟨256 * (t.val / 16) + r.val, by have := t.isLt; have : cfg0.N = 64 := N_0; omega⟩ : Fin 1024) k) := by
  have hi := idx1 t
  unfold iblk
  rw [View.read_apply]
  show V m c main_v1 _ = _
  congr 1
  funext a
  apply Fin.ext
  match a with
  | ⟨0, _⟩ => show win0_1.index t 0 * 256 + 1 * r.val = 256 * (t.val / 16) + r.val; rw [hi.1]; omega
  | ⟨1, _⟩ => show win0_1.index t 1 * 2048 + 1 * k.val = k.val; rw [hi.2]; omega

theorem v_apply (c : Dev nD) (t : Fin cfg0.N) (r : Fin 256) (k : Fin 2048) :
    (iblk m c 2 t : Vec Ideal S256x2048 .bf16) (ix2 r k)
      = V m c main_v2 (ix2 (⟨256 * (t.val / 16) + r.val, by have := t.isLt; have : cfg0.N = 64 := N_0; omega⟩ : Fin 1024) k) := by
  have hi := idx2 t
  unfold iblk
  rw [View.read_apply]
  show V m c main_v2 _ = _
  congr 1
  funext a
  apply Fin.ext
  match a with
  | ⟨0, _⟩ => show win0_2.index t 0 * 256 + 1 * r.val = 256 * (t.val / 16) + r.val; rw [hi.1]; omega
  | ⟨1, _⟩ => show win0_2.index t 1 * 2048 + 1 * k.val = k.val; rw [hi.2]; omega

theorem resid_apply (c : Dev nD) (t : Fin cfg0.N) (r : Fin 256) (k : Fin 2048) :
    (iblk m c 4 t : Vec Ideal S256x2048 .f32) (ix2 r k)
      = V m c main_v3 (ix2 (⟨256 * (t.val) + r.val, by have := t.isLt; have : cfg0.N = 64 := N_0; omega⟩ : Fin 16384) k) := by
  have hi := idx4 t
  unfold iblk
  rw [View.read_apply]
  show V m c main_v3 _ = _
  congr 1
  funext a
  apply Fin.ext
  match a with
  | ⟨0, _⟩ => show win0_4.index t 0 * 256 + 1 * r.val = 256 * (t.val) + r.val; rw [hi.1]; omega
  | ⟨1, _⟩ => show win0_4.index t 1 * 2048 + 1 * k.val = k.val; rw [hi.2]; omega

theorem weight_apply (c : Dev nD) (t : Fin cfg0.N) (e k : Fin 2048) :
    (iblk m c 3 t : Vec Ideal S1x2048x2048 .f32) (ix3 0 e k) = V m c main_arg3 (ix3 (1 : Fin 2) e k) := by
  have hi := idx3 t
  unfold iblk
  rw [View.read_apply]
  show V m c main_arg3 _ = _
  congr 1
  funext a
  apply Fin.ext
  match a with
  | ⟨0, _⟩ => show win0_3.index t 0 * 1 + 1 * 0 = 1; rw [hi.1]
  | ⟨1, _⟩ => show win0_3.index t 1 * 2048 + 1 * e.val = e.val; rw [hi.2.1]; omega
  | ⟨2, _⟩ => show win0_3.index t 2 * 2048 + 1 * k.val = k.val; rw [hi.2.2]; omega

theorem gain_apply (c : Dev nD) (t : Fin cfg0.N) (k : Fin 2048) :
    (iblk m c 5 t : Vec Ideal S1x1x2048 .f32) (ix3 0 0 k) = V m c main_v4 (ix3 (1 : Fin 2) 0 k) := by
  have hi := idx5 t
  unfold iblk
  rw [View.read_apply]
  show V m c main_v4 _ = _
  congr 1
  funext a
  apply Fin.ext
  match a with
  | ⟨0, _⟩ => show win0_5.index t 0 * 1 + 1 * 0 = 1; rw [hi.1]
  | ⟨1, _⟩ => show win0_5.index t 1 * 1 + 1 * 0 = 0; rw [hi.2.1]
  | ⟨2, _⟩ => show win0_5.index t 2 * 2048 + 1 * k.val = k.val; rw [hi.2.2]; omega

theorem shift_apply (c : Dev nD) (t : Fin cfg0.N) (k : Fin 2048) :
    (iblk m c 6 t : Vec Ideal S1x1x2048 .f32) (ix3 0 0 k) = V m c main_v5 (ix3 (1 : Fin 2) 0 k) := by
  have hi := idx6 t
  unfold iblk
  rw [View.read_apply]
  show V m c main_v5 _ = _
  congr 1
  funext a
  apply Fin.ext
  match a with
  | ⟨0, _⟩ => show win0_6.index t 0 * 1 + 1 * 0 = 1; rw [hi.1]
  | ⟨1, _⟩ => show win0_6.index t 1 * 1 + 1 * 0 = 0; rw [hi.2.1]
  | ⟨2, _⟩ => show win0_6.index t 2 * 2048 + 1 * k.val = k.val; rw [hi.2.2]; omega

theorem entry_q (c : Dev nD) (r : Fin 16384) (k : Fin 2048) :
    V m c main_v0 (ix2 r k) = m ((c : Thread nD τ).loc main_arg0) (ix3 (⟨r.val / 4096, by omega⟩ : Fin 4) (⟨r.val % 4096, by omega⟩ : Fin 4096) k) := by
  entry_read
  pointwise

theorem entry_k (c : Dev nD) (r : Fin 1024) (k : Fin 2048) :
    V m c main_v1 (ix2 r k) = m ((c : Thread nD τ).loc main_arg1) (ix3 (⟨r.val / 256, by omega⟩ : Fin 4) (⟨r.val % 256, by omega⟩ : Fin 256) k) := by
  entry_read
  pointwise

theorem entry_v (c : Dev nD) (r : Fin 1024) (k : Fin 2048) :
    V m c main_v2 (ix2 r k) = m ((c : Thread nD τ).loc main_arg2) (ix3 (⟨r.val / 256, by omega⟩ : Fin 4) (⟨r.val % 256, by omega⟩ : Fin 256) k) := by
  entry_read
  pointwise

theorem entry_resid (c : Dev nD) (r : Fin 16384) (k : Fin 2048) :
    V m c main_v3 (ix2 r k) = m ((c : Thread nD τ).loc main_arg4) (ix3 (⟨r.val / 4096, by omega⟩ : Fin 4) (⟨r.val % 4096, by omega⟩ : Fin 4096) k) := by
  entry_read
  pointwise

theorem entry_gain (c : Dev nD) (l : Fin 2) (k : Fin 2048) :
    V m c main_v4 (ix3 l 0 k) = m ((c : Thread nD τ).loc main_arg5) (ix2 l k) := by
  entry_read
  pointwise

theorem entry_shift (c : Dev nD) (l : Fin 2) (k : Fin 2048) :
    V m c main_v5 (ix3 l 0 k) = m ((c : Thread nD τ).loc main_arg6) (ix2 l k) := by
  entry_read
  pointwise

/-- After every point the scratch holds the layer's weight. -/
theorem carried (c : Dev nD) (n : ℕ) (h : n < cfg0.N) (e j : Fin 2048) :
    @Eq EReal ((outsAt0 m c n h).2.2 (ix2 e j)) (V m c main_arg3 (ix3 (1 : Fin 2) e j)) := by
  induction n with
  | zero =>
    rw [outsAt0_A m c ⟨0, h⟩ rfl]
    dsimp only
    rw [sout_A]
    exact (pay1_apply _ e j).trans (weight_apply m c _ e j)
  | succ n ih =>
    have h0 : ¬(n + 1) % 64 = 0 := by have : cfg0.N = 64 := N_0; omega
    rw [outsAt0_B m c ⟨n + 1, h⟩ h0]
    dsimp only
    unfold sout0_B_0
    exact ih (Nat.lt_of_succ_lt h)

/-- The layer norm of the residual plus the attention's output product, for row `r` of batch `b`. -/
def spec (q : Vec Ideal S4x4096x2048 .bf16) (k v : Vec Ideal S4x256x2048 .bf16) (w : Vec Ideal S2x2048x2048 .f32) (y : Vec Ideal S4x4096x2048 .f32) (g b : Vec Ideal S2x2048 .f32)
    (i : Fin 4) (r : Fin 4096) (c : Fin 2048) : EReal :=
  rowNorm (fun j => withResidual (y (ix3 i r j))
      (∑ e : Fin 2048, attAt (fun e => q (ix3 i r e)) (fun n e => k (ix3 i n e)) (fun n e => v (ix3 i n e)) e * w (ix3 1 e j)))
    (g (ix2 1 c)) (b (ix2 1 c)) c

theorem att_congr {q q' : Fin 2048 → EReal} {k k' v v' : Fin 256 → Fin 2048 → EReal} (hq : q = q') (hk : k = k') (hv : v = v') (c : Fin 2048) :
    attAt q k v c = attAt q' k' v' c := by rw [hq, hk, hv]

theorem block_spec (c : Dev nD) (t : Fin cfg0.N) (w : Vec Ideal S2048x2048 .bf16)
    (hw : ∀ e j : Fin 2048, @Eq EReal (w (ix2 e j)) (V m c main_arg3 (ix3 (1 : Fin 2) e j)))
    (a : Fin 256) (k : Fin 2048) :
    @Eq EReal (View.canon (bands (iblk m c 0 t) (iblk m c 1 t) (iblk m c 2 t) (iblk m c 4 t) (iblk m c 5 t) (iblk m c 6 t) w) (ix2 a k))
      (spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (⟨t.val / 16, by have := t.isLt; have : cfg0.N = 64 := N_0; omega⟩ : Fin 4) (⟨256 * (t.val % 16) + a.val, by omega⟩ : Fin 4096) k) := by
  have ht : t.val < 64 := by have := t.isLt; have : cfg0.N = 64 := N_0; omega
  refine (bands_apply _ _ _ _ _ _ w a k).trans ?_
  unfold blockAt spec
  rw [gain_apply, entry_gain, shift_apply, entry_shift]
  have row : ∀ (x : Fin 16384) (_ : x.val = 256 * t.val + a.val), (⟨x.val / 4096, by omega⟩ : Fin 4) = ⟨t.val / 16, by omega⟩ ∧ (⟨x.val % 4096, by omega⟩ : Fin 4096) = ⟨256 * (t.val % 16) + a.val, by omega⟩ :=
    fun x hx => ⟨Fin.ext (by dsimp only; omega), Fin.ext (by dsimp only; omega)⟩
  have mem : ∀ (n : Fin 256) (x : Fin 1024) (_ : x.val = 256 * (t.val / 16) + n.val), (⟨x.val / 256, by omega⟩ : Fin 4) = ⟨t.val / 16, by omega⟩ ∧ (⟨x.val % 256, by omega⟩ : Fin 256) = n :=
    fun n x hx => ⟨Fin.ext (by dsimp only; omega), Fin.ext (by dsimp only; omega)⟩
  refine congrArg (fun f => rowNorm f _ _ k) (funext fun j => ?_)
  refine congrArg₂ withResidual ?_ (Finset.sum_congr rfl fun e _ => congrArg₂ (· * ·) (att_congr (funext fun e => ?_) (funext fun n => funext fun e => ?_) (funext fun n => funext fun e => ?_) e) ?_)
  · dsimp only
    rw [resid_apply, entry_resid, (row _ rfl).1, (row _ rfl).2]
  · rw [q_apply, entry_q, (row _ rfl).1, (row _ rfl).2]
  · rw [k_apply, entry_k, (mem n _ rfl).1, (mem n _ rfl).2]
  · rw [v_apply, entry_v, (mem n _ rfl).1, (mem n _ rfl).2]
  · rw [hw, V_main_arg3]

theorem written (c : Dev nD) (t : Fin cfg0.N) (a : Fin 256) (k : Fin 2048) :
    let s := spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (⟨t.val / 16, by have := t.isLt; have : cfg0.N = 64 := N_0; omega⟩ : Fin 4) (⟨256 * (t.val % 16) + a.val, by omega⟩ : Fin 4096) k
    @Eq EReal ((outsAt0 m c t.val t.isLt).1 (ix2 a k)) s ∧ @Eq EReal ((outsAt0 m c t.val t.isLt).2.1 (ix2 a k)) s := by
  intro s
  by_cases h0 : t.val % 64 = 0
  · have hs := block_spec m c t (k0_pay1 (iblk m c 3 t)) (fun e j => (pay1_apply _ e j).trans (weight_apply m c t e j)) a k
    rw [outsAt0_A m c t h0]
    dsimp only
    exact ⟨(congrFun (out7_A ..) _).trans hs, (congrFun (out8_A ..) _).trans hs⟩
  · have hc := fun e j => carried m c t.val t.isLt e j
    rw [outsAt0_B m c t h0] at hc ⊢
    dsimp only at hc ⊢
    unfold sout0_B_0 at hc
    have hs := block_spec m c t _ hc a k
    exact ⟨(congrFun (out7_B ..) _).trans hs, (congrFun (out8_B ..) _).trans hs⟩

theorem array7 (c : Dev nD) (r : Fin 16384) (k : Fin 2048) :
    @Eq EReal (G7 m c (ix2 r k)) (spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (⟨r.val / 4096, by omega⟩ : Fin 4) (⟨r.val % 4096, by omega⟩ : Fin 4096) k) := by
  have hN : cfg0.N = 64 := N_0
  have hr := r.isLt
  have hk := k.isLt
  have hp : pt7Of (ix2 r k) = r.val / 256 := by show 1 * (r.val / 256 - 0) + 1 * (k.val / 2048 - 0) = _; omega
  have hlt : pt7Of (ix2 r k) < cfg0.N := by omega
  unfold G7
  rw [dif_pos hlt, ← outsAt0_sweep m c _ hlt]
  have hl : loc7Of (ix2 r k) = ix2 (⟨r.val % 256, by omega⟩ : Fin 256) k := by
    refine (eq_ix2 _).trans (congrArg₂ ix2 rfl (Fin.ext ?_))
    show k.val % 2048 = k.val
    omega
  rw [hl]
  refine (written m c ⟨_, hlt⟩ _ k).1.trans ?_
  congr 1
  · apply Fin.ext; dsimp only; omega
  · apply Fin.ext; dsimp only; omega

theorem array8 (c : Dev nD) (r : Fin 16384) (k : Fin 2048) :
    @Eq EReal (G8 m c (ix2 r k)) (spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (⟨r.val / 4096, by omega⟩ : Fin 4) (⟨r.val % 4096, by omega⟩ : Fin 4096) k) := by
  have hN : cfg0.N = 64 := N_0
  have hr := r.isLt
  have hk := k.isLt
  have hp : pt8Of (ix2 r k) = r.val / 256 := by show 1 * (r.val / 256 - 0) + 1 * (k.val / 2048 - 0) = _; omega
  have hlt : pt8Of (ix2 r k) < cfg0.N := by omega
  unfold G8
  rw [dif_pos hlt, ← outsAt0_sweep m c _ hlt]
  have hl : loc8Of (ix2 r k) = ix2 (⟨r.val % 256, by omega⟩ : Fin 256) k := by
    refine (eq_ix2 _).trans (congrArg₂ ix2 rfl (Fin.ext ?_))
    show k.val % 2048 = k.val
    omega
  rw [hl]
  refine (written m c ⟨_, hlt⟩ _ k).2.trans ?_
  congr 1
  · apply Fin.ext; dsimp only; omega
  · apply Fin.ext; dsimp only; omega

section Reference
open Cert.CrossRefIdeal Cert.CrossRefIdeal.Read

variable (A0 : Vec Ideal Cert.CrossRefIdeal.S4x4096x2048 .bf16) (A1 A2 : Vec Ideal Cert.CrossRefIdeal.S4x256x2048 .bf16)

theorem score_at (b h : Fin 4) (r : Fin 4096) (n : Fin 256) :
    @Eq EReal (val_main_v2 (F := Ideal) A0 A1 (ix4 b h r n)) (∑ d : Fin 512, A0 (ix3 b r ⟨512 * h.val + d.val, by omega⟩) * A1 (ix3 b n ⟨512 * h.val + d.val, by omega⟩)) := by
  unfold val_main_v2 val_main_v0 val_main_v1
  pointwise
  refine Finset.sum_congr rfl fun x _ => congrArg₂ (fun p q => A0 (ix3 b r p) * A1 (ix3 b n q)) (Fin.ext ?_) (Fin.ext ?_)
  · show h.val * 512 + x.val = 512 * h.val + x.val; omega
  · show h.val * 512 + x.val = 512 * h.val + x.val; omega

theorem att_at (b : Fin 4) (r : Fin 4096) (c : Fin 2048) :
    @Eq EReal (val_main_v19 (F := Ideal) A0 A1 A2 (ix3 b r c)) (attAt (fun e => A0 (ix3 b r e)) (fun n e => A1 (ix3 b n e)) (fun n e => A2 (ix3 b n e)) c) := by
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst val_main_cst_0 val_main_cst_1
  pointwise
  simp only [score_at, Cert.FoxEq.log_two, Cert.Online.exp_ln2]
  unfold attAt soft
  exact Finset.sum_congr rfl fun x _ => mul_comm _ _

variable (A3 : Vec Ideal Cert.CrossRefIdeal.S2x2048x2048 .f32) (A4 : Vec Ideal Cert.CrossRefIdeal.S4x4096x2048 .f32) (A5 A6 : Vec Ideal Cert.CrossRefIdeal.S2x2048 .f32)

theorem resid_at (b : Fin 4) (r : Fin 4096) (j : Fin 2048) :
    @Eq EReal (val_main_v25 (F := Ideal) A0 A1 A2 A3 A4 (ix3 b r j)) (withResidual (A4 (ix3 b r j))
      (∑ e : Fin 2048, attAt (fun e => A0 (ix3 b r e)) (fun n e => A1 (ix3 b n e)) (fun n e => A2 (ix3 b n e)) e * A3 (ix3 1 e j))) := by
  unfold val_main_v25 val_main_v24 val_main_v23 val_main_v22 val_main_v21 val_main_v20 val_main_cst_2 withResidual
  pointwise
  simp only [att_at]

theorem norm_at (b : Fin 4) (r : Fin 4096) (c : Fin 2048) :
    @Eq EReal (val_main_v53 (F := Ideal) A0 A1 A2 A3 A4 A5 A6 (ix3 b r c)) (spec A0 A1 A2 A3 A4 A5 A6 b r c) := by
  unfold val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_cst_3 val_main_cst_4 val_main_cst_5 val_main_cst_6 val_main_cst_7
  pointwise
  simp only [resid_at]
  unfold spec rowNorm dev mean
  pointwise

theorem ref_at (r : Fin 16384) (c : Fin 2048) :
    @Eq EReal (val_main_v54 (F := Ideal) A0 A1 A2 A3 A4 A5 A6 (ix2 r c)) (spec A0 A1 A2 A3 A4 A5 A6 (⟨r.val / 4096, by omega⟩ : Fin 4) (⟨r.val % 4096, by omega⟩ : Fin 4096) c) := by
  unfold val_main_v54
  pointwise
  exact norm_at ..

end Reference

end Cert.CrossEq

theorem Cert.CrossEq.algebraic : algebraic_CrossIdeal_CrossRefIdeal := by
  intro m ρ m' ρ' _ hagree
  refine ⟨_, _, Cert.CrossIdeal.Value.run (F := Ideal) m ρ, ?_⟩
  refine (θ_run Cert.CrossRefIdeal.defs _ _).mono (fun _ h c => ⟨?_, ?_, (h c).2.2⟩) (Cert.CrossRefIdeal.Value.run (F := Ideal) m' ρ')
  · obtain ⟨h0, h1, h2, h3, h4, h5, h6⟩ := hagree c
    rw [(h c).1, Cert.CrossRefIdeal.Read.val_main_v54_eq, h0, h1, h2, h3, h4, h5, h6]
    funext i
    obtain ⟨r, a, rfl⟩ : ∃ (r : Fin 16384) (a : Fin 2048), i = ix2 r a := ⟨i 0, i 1, eq_ix2 i⟩
    exact (Cert.CrossEq.ref_at ..).trans (Cert.CrossEq.array7 m c r a).symm
  · obtain ⟨h0, h1, h2, h3, h4, h5, h6⟩ := hagree c
    rw [(h c).2.1, Cert.CrossRefIdeal.Read.val_main_v55_eq, h0, h1, h2, h3, h4, h5, h6]
    funext i
    obtain ⟨r, a, rfl⟩ : ∃ (r : Fin 16384) (a : Fin 2048), i = ix2 r a := ⟨i 0, i 1, eq_ix2 i⟩
    exact (Cert.CrossEq.ref_at ..).trans (Cert.CrossEq.array8 m c r a).symm
-- ==== Proof.Projection.lean ====
/-
  What the calls of the input projection share: the columns they compute, and the weight block that stays in scratch
  while the row blocks go by.
-/
module

public import proofs.«01_k».proof.Proof.InProj

@[expose] public section

noncomputable section

open Idealize.ShloMosaic Idealize.ShloMosaic.TcCoe Idealize.SL.Sem

namespace Cert.Projection

open Cert.KernelIdeal

/-- Row `r` of x (the batches one after another) times column `o + a` of the layer's input weight. -/
def column (o n : ℕ) (ho : o + n ≤ 7176) (x : Vec Ideal S4x4096x2048 .f32) (w : Vec Ideal S2x2048x7176 .f32)
    (r : Fin 16384) (a : Fin n) : EReal :=
  ∑ k : Fin 2048, x (ix3 (⟨r.val / 4096, by omega⟩ : Fin 4) (⟨r.val % 4096, by omega⟩ : Fin 4096) k)
    * w (ix3 (1 : Fin 2) k (⟨o + a.val, by omega⟩ : Fin 7176))

/-- A scratch filled at the first point of each run of `p` points and then left alone holds, at every point, what the
    point's own block would fill it with. -/
theorem held {N p : ℕ} {O S W : Type*} (outs : ∀ n, n < N → O × S) (fill : W → S) (wt : Fin N → W)
    (first : ∀ t : Fin N, t.val % p = 0 → (outs t.val t.isLt).2 = fill (wt t))
    (later : ∀ n (h : n + 1 < N), (n + 1) % p ≠ 0 → (outs (n + 1) h).2 = (outs n (Nat.lt_of_succ_lt h)).2)
    (same : ∀ n (h : n + 1 < N), (n + 1) % p ≠ 0 → wt ⟨n + 1, h⟩ = wt ⟨n, Nat.lt_of_succ_lt h⟩) :
    ∀ n (h : n < N), (outs n h).2 = fill (wt ⟨n, h⟩)
  | 0, h => first ⟨0, h⟩ (Nat.zero_mod p)
  | n + 1, h => by
    by_cases h0 : (n + 1) % p = 0
    · exact first ⟨n + 1, h⟩ h0
    · rw [later n h h0, same n h h0]
      exact held outs fill wt first later same n _

end Cert.Projection
-- ==== Proof.QkAlgebraic.lean ====
/-
  The call that makes the attention queries and keys, read as a value.
-/
module

public import proofs.«01_k».proof.Defs
public import proofs.«01_k».proof.Proof.Projection
public import proofs.«01_k».proof.Proof.Gen.QkIdeal.Value
public import proofs.«01_k».proof.Proof.Gen.QkRefIdeal.Run
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pointwise

@[expose] public section

noncomputable section

open Idealize.ShloMosaic Idealize.ShloMosaic.TcCoe Idealize.SL.Sem

namespace Cert.QkEq

open Cert.QkIdeal Cert.QkIdeal.Gen Cert.QkIdeal.Value
open Cert.InProj (zero2 zero3)
open Cert.Projection (column held)

variable (m : (ℓ : Loc nD τ sig) → Buf (Elt Ideal) ℓ) (c : Dev nD)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 1024 * (t.val / 16) ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val / 16 :=
  (by decide +kernel : ∀ t : Fin grid0.N, _)

/-- The query half or the key half of the columns. -/
theorem half_lt (t : Fin cfg0.N) : t.val / 16 < 2 := by
  have h := t.isLt
  have hN : cfg0.N = 32 := N_0
  omega

theorem rows_apply (t : Fin cfg0.N) (r : Fin 1024) (k : Fin 2048) :
    (iblk m c 0 t : Vec Ideal S1024x2048 .bf16) (ix2 r k)
      = V m c main_v4 (ix2 (⟨1024 * (t.val % 16) + r.val, by omega⟩ : Fin 16384) k) := by
  obtain ⟨h0, h1⟩ := idx0 t
  refine congrArg (V m c main_v4) (funext fun a => Fin.ext ?_)
  match a with
  | ⟨0, _⟩ => show win0_0.index t 0 * 1024 + 1 * r.val = 1024 * (t.val % 16) + r.val; omega
  | ⟨1, _⟩ => show win0_0.index t 1 * 2048 + 1 * k.val = k.val; omega

theorem weight_apply (t : Fin cfg0.N) (a : Fin 1024) (k : Fin 2048) :
    (iblk m c 1 t : Vec Ideal S1x1024x2048 .f32) (ix3 0 a k)
      = V m c main_v5 (ix3 (1 : Fin 2) (⟨1024 * (t.val / 16) + a.val, by have := half_lt t; omega⟩ : Fin 7176) k) := by
  obtain ⟨h0, h1, h2⟩ := idx1 t
  refine congrArg (V m c main_v5) (funext fun b => Fin.ext ?_)
  match b with
  | ⟨0, _⟩ => show win0_1.index t 0 + 1 * 0 = 1; omega
  | ⟨1, _⟩ => show win0_1.index t 1 + 1 * a.val = 1024 * (t.val / 16) + a.val; omega
  | ⟨2, _⟩ => show win0_1.index t 2 + 1 * k.val = k.val; omega

theorem scale_apply (t : Fin cfg0.N) (a : Fin 1024) :
    (iblk m c 2 t : Vec Ideal S1x1024 .f32) (ix2 0 a)
      = V m c main_v2 (ix2 (0 : Fin 1) (⟨1024 * (t.val / 16) + a.val, by have := half_lt t; omega⟩ : Fin 2048)) := by
  obtain ⟨h0, h1⟩ := idx2 t
  refine congrArg (V m c main_v2) (funext fun b => Fin.ext ?_)
  match b with
  | ⟨0, _⟩ => show win0_2.index t 0 * 1 + 1 * 0 = 0; omega
  | ⟨1, _⟩ => show win0_2.index t 1 * 1024 + 1 * a.val = 1024 * (t.val / 16) + a.val; omega

/-- Queries carry the scale and the change to base two, keys nothing. -/
theorem entry_scale (a : Fin 2048) :
    @Eq EReal (V m c main_v2 (ix2 0 a)) (if a.val < 1024 then Ideal.ofBits .f32 0x3E0293EE#32 else 1) := by
  entry_read
  pointwise
  split <;> rfl

theorem entry_rows (r : Fin 16384) (k : Fin 2048) :
    V m c main_v4 (ix2 r k) = m ((c : Thread nD τ).loc main_arg0) (ix3 (⟨r.val / 4096, by omega⟩ : Fin 4) (⟨r.val % 4096, by omega⟩ : Fin 4096) k) := by
  entry_read
  pointwise

theorem entry_weight (l : Fin 2) (a : Fin 7176) (k : Fin 2048) :
    V m c main_v5 (ix3 l a k) = m ((c : Thread nD τ).loc main_arg1) (ix3 l k a) := by
  entry_read
  pointwise

theorem scratch_first (t : Fin cfg0.N) (h0 : t.val % 16 = 0) :
    (outsAt0 m c t.val t.isLt).2 = k0_pay1 (iblk m c 1 t) := by
  rw [outsAt0_A m c t h0]
  frame_out

theorem out_first (t : Fin cfg0.N) (h0 : t.val % 16 = 0) :
    (outsAt0 m c t.val t.isLt).1 = k0_pay2 (iblk m c 0 t) (k0_pay1 (iblk m c 1 t)) (iblk m c 2 t) := by
  rw [outsAt0_A m c t h0]
  frame_out

theorem out_later (n : ℕ) (h : n + 1 < cfg0.N) (h0 : (n + 1) % 16 ≠ 0) :
    (outsAt0 m c (n + 1) h).1 = k0_pay2 (iblk m c 0 ⟨n + 1, h⟩) (outsAt0 m c n (Nat.lt_of_succ_lt h)).2 (iblk m c 2 ⟨n + 1, h⟩) := by
  rw [outsAt0_B m c ⟨n + 1, h⟩ h0]
  frame_out
  rw [show View.read _ _ _ = _ from (Memref.isWhole_whole cc0_scratch0).read_unread _]
  rfl

theorem scratch_later (n : ℕ) (h : n + 1 < cfg0.N) (h0 : (n + 1) % 16 ≠ 0) :
    (outsAt0 m c (n + 1) h).2 = (outsAt0 m c n (Nat.lt_of_succ_lt h)).2 := by
  rw [outsAt0_B m c ⟨n + 1, h⟩ h0]
  rfl

theorem same_weight (t t' : Fin cfg0.N) (ht : t.val / 16 = t'.val / 16) : (iblk m c 1 t : Vec Ideal S1x1024x2048 .f32) = iblk m c 1 t' := by
  funext y
  obtain ⟨z, a, k, rfl⟩ : ∃ z a k, y = ix3 z a k := ⟨y 0, y 1, y 2, eq_ix3 y⟩
  obtain rfl : z = 0 := Subsingleton.elim _ _
  refine (weight_apply m c t a k).trans ((weight_apply m c t' a k).trans ?_).symm
  simp only [ht]

theorem scratch (n : ℕ) (h : n < cfg0.N) : (outsAt0 m c n h).2 = k0_pay1 (iblk m c 1 ⟨n, h⟩) := by
  have hs := held (p := 16) (W := Vec Ideal S1x1024x2048 .f32) (S := Vec Ideal S1024x2048 .bf16) (outsAt0 m c)
    (fun w => k0_pay1 w) (fun t => iblk m c 1 t) (fun t h0 => scratch_first m c t h0) (scratch_later m c)
    (fun n _ h0 => same_weight m c _ _ (by dsimp only; omega))
  exact hs n h

theorem written : ∀ (n : ℕ) (h : n < cfg0.N),
    (outsAt0 m c n h).1 = k0_pay2 (iblk m c 0 ⟨n, h⟩) (k0_pay1 (iblk m c 1 ⟨n, h⟩)) (iblk m c 2 ⟨n, h⟩)
  | 0, h => out_first m c ⟨0, h⟩ rfl
  | n + 1, h => by
    by_cases h0 : (n + 1) % 16 = 0
    · exact out_first m c ⟨n + 1, h⟩ h0
    · rw [out_later m c n h h0, scratch, same_weight m c ⟨n, _⟩ ⟨n + 1, h⟩ (by dsimp only; omega)]

theorem product_apply (x : Vec Ideal S1024x2048 .bf16) (w : Vec Ideal S1x1024x2048 .f32) (s : Vec Ideal S1x1024 .f32) (r a : Fin 1024) :
    @Eq EReal (k0_pay2 x (k0_pay1 w) s (ix2 r a)) ((∑ k : Fin 2048, x (ix2 r k) * w (ix3 0 a k)) * s (ix2 0 a)) := by
  unfold k0_pay2 k0_pay1
  pointwise

theorem kernel_value (r : Fin 16384) (a : Fin 2048) :
    @Eq EReal (G3 m c (ix2 r a)) (column 0 2048 (by decide) (m ((c : Thread nD τ).loc main_arg0)) (m ((c : Thread nD τ).loc main_arg1)) r a
      * if a.val < 1024 then Ideal.ofBits .f32 0x3E0293EE#32 else 1) := by
  have hN : cfg0.N = 32 := N_0
  have hp : pt3Of (ix2 r a) = r.val / 1024 + 16 * (a.val / 1024) := by
    show 1 * (r.val / 1024 - 0) + 16 * (a.val / 1024 - 0) = _
    omega
  have hlt : pt3Of (ix2 r a) < cfg0.N := by omega
  have hl : loc3Of (ix2 r a) = ix2 (⟨r.val % 1024, by omega⟩ : Fin 1024) (⟨a.val % 1024, by omega⟩ : Fin 1024) := eq_ix2 _
  have ha : 1024 * (pt3Of (ix2 r a) / 16) + a.val % 1024 = a.val := by omega
  unfold G3
  rw [dif_pos hlt, ← outsAt0_sweep m c _ hlt, written, hl]
  refine (product_apply _ _ _ _ _).trans ?_
  rw [scale_apply, entry_scale]
  simp only [ha]
  refine congrArg (· * _) (Finset.sum_congr rfl fun k _ => ?_)
  rw [rows_apply, weight_apply, entry_rows, entry_weight]
  refine congrArg₂ (· * ·) (congrArg _ ?_) (congrArg _ ?_)
  · congr 1 <;> apply Fin.ext <;> dsimp only <;> omega
  · congr 1; apply Fin.ext; dsimp only; omega

end Cert.QkEq

theorem Cert.QkEq.algebraic : algebraic_QkIdeal_QkRefIdeal := by
  intro m ρ m' ρ' _ hagree
  refine ⟨_, Cert.QkIdeal.Value.run (F := Ideal) m ρ, ?_⟩
  refine (θ_run Cert.QkRefIdeal.defs _ _).mono (fun _ h c => ⟨?_, (h c).2⟩) (Cert.QkRefIdeal.Value.run (F := Ideal) m' ρ')
  obtain ⟨hx, hw⟩ := hagree c
  rw [(h c).1]
  funext i
  obtain ⟨r, a, rfl⟩ : ∃ r a, i = ix2 r a := ⟨i 0, i 1, eq_ix2 i⟩
  refine Eq.trans ?_ (Cert.QkEq.kernel_value m c r a).symm
  unfold Cert.Projection.column
  pointwise
  rw [hx, hw]
  by_cases ha : a.val < 1024
  · simp only [ha, ↓reduceDIte, ↓reduceIte]
  · simp only [ha, ↓reduceDIte, ↓reduceIte, mul_one]
    refine Finset.sum_congr rfl fun k _ => congrArg₂ (· * ·) rfl (congrArg _ ?_)
    congr 1
    apply Fin.ext
    dsimp only
    omega
-- ==== Proof.VtAlgebraic.lean ====
/-
  The call that makes the transposed attention values, read as a value.
-/
module

public import proofs.«01_k».proof.Defs
public import proofs.«01_k».proof.Proof.Projection
public import proofs.«01_k».proof.Proof.Gen.VtIdeal.Value
public import proofs.«01_k».proof.Proof.Gen.VtRefIdeal.Run
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pointwise

@[expose] public section

noncomputable section

open Idealize.ShloMosaic Idealize.ShloMosaic.TcCoe Idealize.SL.Sem

namespace Cert.VtEq

open Cert.VtIdeal Cert.VtIdeal.Gen Cert.VtIdeal.Value
open Cert.InProj (zero2 zero3)
open Cert.Projection (column held)

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 2048 ∧ win0_1.index t (2 : Fin 3) = 0 :=
  (by decide +kernel : ∀ t : Fin grid0.N, _)

theorem rows_apply (t : Fin cfg0.N) (r : Fin 1024) (k : Fin 2048) :
    (iblk m c 0 t : Vec Ideal S1024x2048 .bf16) (ix2 r k)
      = V m c main_v2 (ix2 (⟨1024 * t.val + r.val, by have := t.isLt; have : cfg0.N = 16 := N_0; omega⟩ : Fin 16384) k) := by
  obtain ⟨h0, h1⟩ := idx0 t
  refine congrArg (V m c main_v2) (funext fun a => Fin.ext ?_)
  match a with
  | ⟨0, _⟩ => show win0_0.index t 0 * 1024 + 1 * r.val = 1024 * t.val + r.val; omega
  | ⟨1, _⟩ => show win0_0.index t 1 * 2048 + 1 * k.val = k.val; omega

theorem weight_apply (t : Fin cfg0.N) (a : Fin 1024) (k : Fin 2048) :
    (iblk m c 1 t : Vec Ideal S1x1024x2048 .f32) (ix3 0 a k)
      = V m c main_v3 (ix3 (1 : Fin 2) (⟨2048 + a.val, by omega⟩ : Fin 7176) k) := by
  obtain ⟨h0, h1, h2⟩ := idx1 t
  refine congrArg (V m c main_v3) (funext fun b => Fin.ext ?_)
  match b with
  | ⟨0, _⟩ => show win0_1.index t 0 + 1 * 0 = 1; omega
  | ⟨1, _⟩ => show win0_1.index t 1 + 1 * a.val = 2048 + a.val; omega
  | ⟨2, _⟩ => show win0_1.index t 2 + 1 * k.val = k.val; omega

theorem entry_rows (r : Fin 16384) (k : Fin 2048) :
    V m c main_v2 (ix2 r k) = m ((c : Thread nD τ).loc main_arg0) (ix3 (⟨r.val / 4096, by omega⟩ : Fin 4) (⟨r.val % 4096, by omega⟩ : Fin 4096) k) := by
  entry_read
  pointwise

theorem entry_weight (l : Fin 2) (a : Fin 7176) (k : Fin 2048) :
    V m c main_v3 (ix3 l a k) = m ((c : Thread nD τ).loc main_arg1) (ix3 l k a) := by
  entry_read
  pointwise

theorem scratch_first (t : Fin cfg0.N) (h0 : t.val % 16 = 0) :
    (outsAt0 m c t.val t.isLt).2 = k0_pay1 (iblk m c 1 t) := by
  rw [outsAt0_A m c t h0]
  frame_out

theorem out_first (t : Fin cfg0.N) (h0 : t.val % 16 = 0) :
    (outsAt0 m c t.val t.isLt).1 = k0_pay2 (k0_pay1 (iblk m c 1 t)) (iblk m c 0 t) := by
  rw [outsAt0_A m c t h0]
  frame_out

theorem out_later (n : ℕ) (h : n + 1 < cfg0.N) (h0 : (n + 1) % 16 ≠ 0) :
    (outsAt0 m c (n + 1) h).1 = k0_pay2 (outsAt0 m c n (Nat.lt_of_succ_lt h)).2 (iblk m c 0 ⟨n + 1, h⟩) := by
  rw [outsAt0_B m c ⟨n + 1, h⟩ h0]
  frame_out
  rw [show View.read _ _ _ = _ from (Memref.isWhole_whole cc0_scratch0).read_unread _]
  rfl

theorem scratch_later (n : ℕ) (h : n + 1 < cfg0.N) (h0 : (n + 1) % 16 ≠ 0) :
    (outsAt0 m c (n + 1) h).2 = (outsAt0 m c n (Nat.lt_of_succ_lt h)).2 := by
  rw [outsAt0_B m c ⟨n + 1, h⟩ h0]
  rfl

theorem same_weight (t t' : Fin cfg0.N) : (iblk m c 1 t : Vec Ideal S1x1024x2048 .f32) = iblk m c 1 t' := by
  funext y
  obtain ⟨z, a, k, rfl⟩ : ∃ z a k, y = ix3 z a k := ⟨y 0, y 1, y 2, eq_ix3 y⟩
  obtain rfl : z = 0 := Subsingleton.elim _ _
  exact (weight_apply m c t a k).trans (weight_apply m c t' a k).symm

theorem scratch (n : ℕ) (h : n < cfg0.N) : (outsAt0 m c n h).2 = k0_pay1 (iblk m c 1 ⟨n, h⟩) := by
  have hs := held (p := 16) (W := Vec Ideal S1x1024x2048 .f32) (S := Vec Ideal S1024x2048 .bf16) (outsAt0 m c)
    (fun w => k0_pay1 w) (fun t => iblk m c 1 t) (fun t h0 => scratch_first m c t h0) (scratch_later m c)
    (fun _ _ _ => same_weight m c _ _)
  exact hs n h

theorem written : ∀ (n : ℕ) (h : n < cfg0.N),
    (outsAt0 m c n h).1 = k0_pay2 (k0_pay1 (iblk m c 1 ⟨n, h⟩)) (iblk m c 0 ⟨n, h⟩)
  | 0, h => out_first m c ⟨0, h⟩ rfl
  | n + 1, h => by
    by_cases h0 : (n + 1) % 16 = 0
    · exact out_first m c ⟨n + 1, h⟩ h0
    · rw [out_later m c n h h0, scratch, same_weight m c ⟨n, _⟩ ⟨n + 1, h⟩]

theorem product_apply (x : Vec Ideal S1024x2048 .bf16) (w : Vec Ideal S1x1024x2048 .f32) (a r : Fin 1024) :
    @Eq EReal (k0_pay2 (k0_pay1 w) x (ix2 a r)) (∑ k : Fin 2048, x (ix2 r k) * w (ix3 0 a k)) := by
  unfold k0_pay2 k0_pay1
  pointwise
  exact Finset.sum_congr rfl fun k _ => mul_comm _ _

theorem kernel_value (r : Fin 16384) (a : Fin 1024) :
    @Eq EReal (G3 m c (ix2 a r)) (column 2048 1024 (by decide) (m ((c : Thread nD τ).loc main_arg0)) (m ((c : Thread nD τ).loc main_arg1)) r a) := by
  have hN : cfg0.N = 16 := N_0
  have hp : pt3Of (ix2 a r) = r.val / 1024 := by
    show 16 * (a.val / 1024 - 0) + 1 * (r.val / 1024 - 0) = _
    omega
  have hlt : pt3Of (ix2 a r) < cfg0.N := by omega
  have hl : loc3Of (ix2 a r) = ix2 (⟨a.val % 1024, by omega⟩ : Fin 1024) (⟨r.val % 1024, by omega⟩ : Fin 1024) := eq_ix2 _
  unfold G3
  rw [dif_pos hlt, ← outsAt0_sweep m c _ hlt, written, hl]
  refine (product_apply _ _ _ _).trans ?_
  refine Finset.sum_congr rfl fun k _ => ?_
  rw [rows_apply, weight_apply, entry_rows, entry_weight]
  refine congrArg₂ (· * ·) (congrArg _ ?_) (congrArg _ ?_)
  · congr 1 <;> apply Fin.ext <;> dsimp only <;> omega
  · congr 1; apply Fin.ext; dsimp only; omega

end Cert.VtEq

theorem Cert.VtEq.algebraic : algebraic_VtIdeal_VtRefIdeal := by
  intro m ρ m' ρ' _ hagree
  refine ⟨_, Cert.VtIdeal.Value.run (F := Ideal) m ρ, ?_⟩
  refine (θ_run Cert.VtRefIdeal.defs _ _).mono (fun _ h c => ⟨?_, (h c).2⟩) (Cert.VtRefIdeal.Value.run (F := Ideal) m' ρ')
  obtain ⟨hx, hw⟩ := hagree c
  rw [(h c).1]
  funext i
  obtain ⟨a, r, rfl⟩ : ∃ (a : Fin 1024) (r : Fin 16384), i = ix2 a r := ⟨i 0, i 1, eq_ix2 i⟩
  refine Eq.trans ?_ (Cert.VtEq.kernel_value m c r a).symm
  unfold Cert.Projection.column
  pointwise
  rw [hx, hw]
-- ==== Proof.HvAlgebraic.lean ====
/-
  The call that makes the HGRN values, read as a value.
-/
module

public import proofs.«01_k».proof.Defs
public import proofs.«01_k».proof.Proof.Projection
public import proofs.«01_k».proof.Proof.Gen.HvIdeal.Value
public import proofs.«01_k».proof.Proof.Gen.HvRefIdeal.Run
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pointwise

@[expose] public section

noncomputable section

open Idealize.ShloMosaic Idealize.ShloMosaic.TcCoe Idealize.SL.Sem

namespace Cert.HvEq

open Cert.HvIdeal Cert.HvIdeal.Gen Cert.HvIdeal.Value
open Cert.InProj (zero2 zero3)
open Cert.Projection (column held)

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 5128 ∧ win0_1.index t (2 : Fin 3) = 0 :=
  (by decide +kernel : ∀ t : Fin grid0.N, _)

theorem rows_apply (t : Fin cfg0.N) (r : Fin 1024) (k : Fin 2048) :
    (iblk m c 0 t : Vec Ideal S1024x2048 .bf16) (ix2 r k)
      = V m c main_v2 (ix2 (⟨1024 * t.val + r.val, by have := t.isLt; have : cfg0.N = 16 := N_0; omega⟩ : Fin 16384) k) := by
  obtain ⟨h0, h1⟩ := idx0 t
  refine congrArg (V m c main_v2) (funext fun a => Fin.ext ?_)
  match a with
  | ⟨0, _⟩ => show win0_0.index t 0 * 1024 + 1 * r.val = 1024 * t.val + r.val; omega
  | ⟨1, _⟩ => show win0_0.index t 1 * 2048 + 1 * k.val = k.val; omega

theorem weight_apply (t : Fin cfg0.N) (a : Fin 1024) (k : Fin 2048) :
    (iblk m c 1 t : Vec Ideal S1x1024x2048 .f32) (ix3 0 a k)
      = V m c main_v3 (ix3 (1 : Fin 2) (⟨5128 + a.val, by omega⟩ : Fin 7176) k) := by
  obtain ⟨h0, h1, h2⟩ := idx1 t
  refine congrArg (V m c main_v3) (funext fun b => Fin.ext ?_)
  match b with
  | ⟨0, _⟩ => show win0_1.index t 0 + 1 * 0 = 1; omega
  | ⟨1, _⟩ => show win0_1.index t 1 + 1 * a.val = 5128 + a.val; omega
  | ⟨2, _⟩ => show win0_1.index t 2 + 1 * k.val = k.val; omega

theorem entry_ones (i : S1x1024.Idx) : @Eq EReal (V m c main_v0 i) 1 := by
  entry_read
  pointwise

theorem ones_apply (t : Fin cfg0.N) (i : S1x1024.Idx) : @Eq EReal ((iblk m c 2 t : Vec Ideal S1x1024 .f32) i) 1 :=
  entry_ones m c _

theorem entry_rows (r : Fin 16384) (k : Fin 2048) :
    V m c main_v2 (ix2 r k) = m ((c : Thread nD τ).loc main_arg0) (ix3 (⟨r.val / 4096, by omega⟩ : Fin 4) (⟨r.val % 4096, by omega⟩ : Fin 4096) k) := by
  entry_read
  pointwise

theorem entry_weight (l : Fin 2) (a : Fin 7176) (k : Fin 2048) :
    V m c main_v3 (ix3 l a k) = m ((c : Thread nD τ).loc main_arg1) (ix3 l k a) := by
  entry_read
  pointwise

theorem scratch_first (t : Fin cfg0.N) (h0 : t.val % 16 = 0) :
    (outsAt0 m c t.val t.isLt).2 = k0_pay1 (iblk m c 1 t) := by
  rw [outsAt0_A m c t h0]
  frame_out

theorem out_first (t : Fin cfg0.N) (h0 : t.val % 16 = 0) :
    (outsAt0 m c t.val t.isLt).1 = k0_pay2 (iblk m c 0 t) (k0_pay1 (iblk m c 1 t)) (iblk m c 2 t) := by
  rw [outsAt0_A m c t h0]
  frame_out

theorem out_later (n : ℕ) (h : n + 1 < cfg0.N) (h0 : (n + 1) % 16 ≠ 0) :
    (outsAt0 m c (n + 1) h).1 = k0_pay2 (iblk m c 0 ⟨n + 1, h⟩) (outsAt0 m c n (Nat.lt_of_succ_lt h)).2 (iblk m c 2 ⟨n + 1, h⟩) := by
  rw [outsAt0_B m c ⟨n + 1, h⟩ h0]
  frame_out
  rw [show View.read _ _ _ = _ from (Memref.isWhole_whole cc0_scratch0).read_unread _]
  rfl

theorem scratch_later (n : ℕ) (h : n + 1 < cfg0.N) (h0 : (n + 1) % 16 ≠ 0) :
    (outsAt0 m c (n + 1) h).2 = (outsAt0 m c n (Nat.lt_of_succ_lt h)).2 := by
  rw [outsAt0_B m c ⟨n + 1, h⟩ h0]
  rfl

theorem same_weight (t t' : Fin cfg0.N) : (iblk m c 1 t : Vec Ideal S1x1024x2048 .f32) = iblk m c 1 t' := by
  funext y
  obtain ⟨z, a, k, rfl⟩ : ∃ z a k, y = ix3 z a k := ⟨y 0, y 1, y 2, eq_ix3 y⟩
  obtain rfl : z = 0 := Subsingleton.elim _ _
  exact (weight_apply m c t a k).trans (weight_apply m c t' a k).symm

theorem scratch (n : ℕ) (h : n < cfg0.N) : (outsAt0 m c n h).2 = k0_pay1 (iblk m c 1 ⟨n, h⟩) := by
  have hs := held (p := 16) (W := Vec Ideal S1x1024x2048 .f32) (S := Vec Ideal S1024x2048 .bf16) (outsAt0 m c)
    (fun w => k0_pay1 w) (fun t => iblk m c 1 t) (fun t h0 => scratch_first m c t h0) (scratch_later m c)
    (fun _ _ _ => same_weight m c _ _)
  exact hs n h

theorem written : ∀ (n : ℕ) (h : n < cfg0.N),
    (outsAt0 m c n h).1 = k0_pay2 (iblk m c 0 ⟨n, h⟩) (k0_pay1 (iblk m c 1 ⟨n, h⟩)) (iblk m c 2 ⟨n, h⟩)
  | 0, h => out_first m c ⟨0, h⟩ rfl
  | n + 1, h => by
    by_cases h0 : (n + 1) % 16 = 0
    · exact out_first m c ⟨n + 1, h⟩ h0
    · rw [out_later m c n h h0, scratch, same_weight m c ⟨n, _⟩ ⟨n + 1, h⟩]

theorem product_apply (x : Vec Ideal S1024x2048 .bf16) (w : Vec Ideal S1x1024x2048 .f32) (s : Vec Ideal S1x1024 .f32) (r a : Fin 1024) :
    @Eq EReal (k0_pay2 x (k0_pay1 w) s (ix2 r a)) ((∑ k : Fin 2048, x (ix2 r k) * w (ix3 0 a k)) * s (ix2 0 a)) := by
  unfold k0_pay2 k0_pay1
  pointwise

theorem kernel_value (r : Fin 16384) (a : Fin 1024) :
    @Eq EReal (G3 m c (ix2 r a)) (column 5128 1024 (by decide) (m ((c : Thread nD τ).loc main_arg0)) (m ((c : Thread nD τ).loc main_arg1)) r a) := by
  have hN : cfg0.N = 16 := N_0
  have hp : pt3Of (ix2 r a) = r.val / 1024 := by
    show 1 * (r.val / 1024 - 0) + 1 * (a.val / 1024 - 0) = _
    omega
  have hlt : pt3Of (ix2 r a) < cfg0.N := by omega
  have hl : loc3Of (ix2 r a) = ix2 (⟨r.val % 1024, by omega⟩ : Fin 1024) (⟨a.val % 1024, by omega⟩ : Fin 1024) := eq_ix2 _
  unfold G3
  rw [dif_pos hlt, ← outsAt0_sweep m c _ hlt, written, hl]
  refine (product_apply _ _ _ _ _).trans ?_
  rw [ones_apply, mul_one]
  refine Finset.sum_congr rfl fun k _ => ?_
  rw [rows_apply, weight_apply, entry_rows, entry_weight]
  refine congrArg₂ (· * ·) (congrArg _ ?_) (congrArg _ ?_)
  · congr 1 <;> apply Fin.ext <;> dsimp only <;> omega
  · congr 1; apply Fin.ext; dsimp only; omega

end Cert.HvEq

theorem Cert.HvEq.algebraic : algebraic_HvIdeal_HvRefIdeal := by
  intro m ρ m' ρ' _ hagree
  refine ⟨_, Cert.HvIdeal.Value.run (F := Ideal) m ρ, ?_⟩
  refine (θ_run Cert.HvRefIdeal.defs _ _).mono (fun _ h c => ⟨?_, (h c).2⟩) (Cert.HvRefIdeal.Value.run (F := Ideal) m' ρ')
  obtain ⟨hx, hw⟩ := hagree c
  rw [(h c).1]
  funext i
  obtain ⟨r, a, rfl⟩ : ∃ r a, i = ix2 r a := ⟨i 0, i 1, eq_ix2 i⟩
  refine Eq.trans ?_ (Cert.HvEq.kernel_value m c r a).symm
  unfold Cert.Projection.column
  pointwise
  rw [hx, hw]
-- ==== Proof.HgAlgebraic.lean ====
/-
  The call that makes the HGRN output gates, read as a value.
-/
module

public import proofs.«01_k».proof.Defs
public import proofs.«01_k».proof.Proof.Projection
public import proofs.«01_k».proof.Proof.Gen.HgIdeal.Value
public import proofs.«01_k».proof.Proof.Gen.HgRefIdeal.Run
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pointwise

@[expose] public section

noncomputable section

open Idealize.ShloMosaic Idealize.ShloMosaic.TcCoe Idealize.SL.Sem

namespace Cert.HgEq

open Cert.HgIdeal Cert.HgIdeal.Gen Cert.HgIdeal.Value
open Cert.InProj (zero2 zero3)
open Cert.Projection (column held)

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 6152 ∧ win0_1.index t (2 : Fin 3) = 0 :=
  (by decide +kernel : ∀ t : Fin grid0.N, _)

theorem rows_apply (t : Fin cfg0.N) (r : Fin 1024) (k : Fin 2048) :
    (iblk m c 0 t : Vec Ideal S1024x2048 .bf16) (ix2 r k)
      = V m c main_v2 (ix2 (⟨1024 * t.val + r.val, by have := t.isLt; have : cfg0.N = 16 := N_0; omega⟩ : Fin 16384) k) := by
  obtain ⟨h0, h1⟩ := idx0 t
  refine congrArg (V m c main_v2) (funext fun a => Fin.ext ?_)
  match a with
  | ⟨0, _⟩ => show win0_0.index t 0 * 1024 + 1 * r.val = 1024 * t.val + r.val; omega
  | ⟨1, _⟩ => show win0_0.index t 1 * 2048 + 1 * k.val = k.val; omega

theorem weight_apply (t : Fin cfg0.N) (a : Fin 1024) (k : Fin 2048) :
    (iblk m c 1 t : Vec Ideal S1x1024x2048 .f32) (ix3 0 a k)
      = V m c main_v3 (ix3 (1 : Fin 2) (⟨6152 + a.val, by omega⟩ : Fin 7176) k) := by
  obtain ⟨h0, h1, h2⟩ := idx1 t
  refine congrArg (V m c main_v3) (funext fun b => Fin.ext ?_)
  match b with
  | ⟨0, _⟩ => show win0_1.index t 0 + 1 * 0 = 1; omega
  | ⟨1, _⟩ => show win0_1.index t 1 + 1 * a.val = 6152 + a.val; omega
  | ⟨2, _⟩ => show win0_1.index t 2 + 1 * k.val = k.val; omega

theorem entry_ones (i : S1x1024.Idx) : @Eq EReal (V m c main_v0 i) 1 := by
  entry_read
  pointwise

theorem ones_apply (t : Fin cfg0.N) (i : S1x1024.Idx) : @Eq EReal ((iblk m c 2 t : Vec Ideal S1x1024 .f32) i) 1 :=
  entry_ones m c _

theorem entry_rows (r : Fin 16384) (k : Fin 2048) :
    V m c main_v2 (ix2 r k) = m ((c : Thread nD τ).loc main_arg0) (ix3 (⟨r.val / 4096, by omega⟩ : Fin 4) (⟨r.val % 4096, by omega⟩ : Fin 4096) k) := by
  entry_read
  pointwise

theorem entry_weight (l : Fin 2) (a : Fin 7176) (k : Fin 2048) :
    V m c main_v3 (ix3 l a k) = m ((c : Thread nD τ).loc main_arg1) (ix3 l k a) := by
  entry_read
  pointwise

theorem scratch_first (t : Fin cfg0.N) (h0 : t.val % 16 = 0) :
    (outsAt0 m c t.val t.isLt).2 = k0_pay1 (iblk m c 1 t) := by
  rw [outsAt0_A m c t h0]
  frame_out

theorem out_first (t : Fin cfg0.N) (h0 : t.val % 16 = 0) :
    (outsAt0 m c t.val t.isLt).1 = k0_pay2 (iblk m c 0 t) (k0_pay1 (iblk m c 1 t)) (iblk m c 2 t) := by
  rw [outsAt0_A m c t h0]
  frame_out

theorem out_later (n : ℕ) (h : n + 1 < cfg0.N) (h0 : (n + 1) % 16 ≠ 0) :
    (outsAt0 m c (n + 1) h).1 = k0_pay2 (iblk m c 0 ⟨n + 1, h⟩) (outsAt0 m c n (Nat.lt_of_succ_lt h)).2 (iblk m c 2 ⟨n + 1, h⟩) := by
  rw [outsAt0_B m c ⟨n + 1, h⟩ h0]
  frame_out
  rw [show View.read _ _ _ = _ from (Memref.isWhole_whole cc0_scratch0).read_unread _]
  rfl

theorem scratch_later (n : ℕ) (h : n + 1 < cfg0.N) (h0 : (n + 1) % 16 ≠ 0) :
    (outsAt0 m c (n + 1) h).2 = (outsAt0 m c n (Nat.lt_of_succ_lt h)).2 := by
  rw [outsAt0_B m c ⟨n + 1, h⟩ h0]
  rfl

theorem same_weight (t t' : Fin cfg0.N) : (iblk m c 1 t : Vec Ideal S1x1024x2048 .f32) = iblk m c 1 t' := by
  funext y
  obtain ⟨z, a, k, rfl⟩ : ∃ z a k, y = ix3 z a k := ⟨y 0, y 1, y 2, eq_ix3 y⟩
  obtain rfl : z = 0 := Subsingleton.elim _ _
  exact (weight_apply m c t a k).trans (weight_apply m c t' a k).symm

theorem scratch (n : ℕ) (h : n < cfg0.N) : (outsAt0 m c n h).2 = k0_pay1 (iblk m c 1 ⟨n, h⟩) := by
  have hs := held (p := 16) (W := Vec Ideal S1x1024x2048 .f32) (S := Vec Ideal S1024x2048 .bf16) (outsAt0 m c)
    (fun w => k0_pay1 w) (fun t => iblk m c 1 t) (fun t h0 => scratch_first m c t h0) (scratch_later m c)
    (fun _ _ _ => same_weight m c _ _)
  exact hs n h

theorem written : ∀ (n : ℕ) (h : n < cfg0.N),
    (outsAt0 m c n h).1 = k0_pay2 (iblk m c 0 ⟨n, h⟩) (k0_pay1 (iblk m c 1 ⟨n, h⟩)) (iblk m c 2 ⟨n, h⟩)
  | 0, h => out_first m c ⟨0, h⟩ rfl
  | n + 1, h => by
    by_cases h0 : (n + 1) % 16 = 0
    · exact out_first m c ⟨n + 1, h⟩ h0
    · rw [out_later m c n h h0, scratch, same_weight m c ⟨n, _⟩ ⟨n + 1, h⟩]

theorem product_apply (x : Vec Ideal S1024x2048 .bf16) (w : Vec Ideal S1x1024x2048 .f32) (s : Vec Ideal S1x1024 .f32) (r a : Fin 1024) :
    @Eq EReal (k0_pay2 x (k0_pay1 w) s (ix2 r a)) ((∑ k : Fin 2048, x (ix2 r k) * w (ix3 0 a k)) * s (ix2 0 a)) := by
  unfold k0_pay2 k0_pay1
  pointwise

theorem kernel_value (r : Fin 16384) (a : Fin 1024) :
    @Eq EReal (G3 m c (ix2 r a)) (column 6152 1024 (by decide) (m ((c : Thread nD τ).loc main_arg0)) (m ((c : Thread nD τ).loc main_arg1)) r a) := by
  have hN : cfg0.N = 16 := N_0
  have hp : pt3Of (ix2 r a) = r.val / 1024 := by
    show 1 * (r.val / 1024 - 0) + 1 * (a.val / 1024 - 0) = _
    omega
  have hlt : pt3Of (ix2 r a) < cfg0.N := by omega
  have hl : loc3Of (ix2 r a) = ix2 (⟨r.val % 1024, by omega⟩ : Fin 1024) (⟨a.val % 1024, by omega⟩ : Fin 1024) := eq_ix2 _
  unfold G3
  rw [dif_pos hlt, ← outsAt0_sweep m c _ hlt, written, hl]
  refine (product_apply _ _ _ _ _).trans ?_
  rw [ones_apply, mul_one]
  refine Finset.sum_congr rfl fun k _ => ?_
  rw [rows_apply, weight_apply, entry_rows, entry_weight]
  refine congrArg₂ (· * ·) (congrArg _ ?_) (congrArg _ ?_)
  · congr 1 <;> apply Fin.ext <;> dsimp only <;> omega
  · congr 1; apply Fin.ext; dsimp only; omega

end Cert.HgEq

theorem Cert.HgEq.algebraic : algebraic_HgIdeal_HgRefIdeal := by
  intro m ρ m' ρ' _ hagree
  refine ⟨_, Cert.HgIdeal.Value.run (F := Ideal) m ρ, ?_⟩
  refine (θ_run Cert.HgRefIdeal.defs _ _).mono (fun _ h c => ⟨?_, (h c).2⟩) (Cert.HgRefIdeal.Value.run (F := Ideal) m' ρ')
  obtain ⟨hx, hw⟩ := hagree c
  rw [(h c).1]
  funext i
  obtain ⟨r, a, rfl⟩ : ∃ r a, i = ix2 r a := ⟨i 0, i 1, eq_ix2 i⟩
  refine Eq.trans ?_ (Cert.HgEq.kernel_value m c r a).symm
  unfold Cert.Projection.column
  pointwise
  rw [hx, hw]
-- ==== Proof.KvAlgebraic.lean ====
/-
  The call that makes the cross attention's keys, and with other weights its values, read as a value.
-/
module

public import proofs.«01_k».proof.Defs
public import proofs.«01_k».proof.Proof.Gen.KvIdeal.Value
public import proofs.«01_k».proof.Proof.Gen.KvRefIdeal.Run
public import Idealize.ShloMosaic.Lib.Tactic
public import Idealize.ShloMosaic.Lib.Claim
public import Idealize.ShloMosaic.Lib.Pipeline.ValueKit.Acc
public import Idealize.ShloMosaic.Lib.Pipeline.ReadBack
public import Idealize.ShloMosaic.Lib.Pointwise

@[expose] public section

noncomputable section

open Idealize.ShloMosaic Idealize.ShloMosaic.TcCoe Idealize.SL.Sem

namespace Cert.KvEq

open Cert.KvIdeal Cert.KvIdeal.Gen Cert.KvIdeal.Value

variable (m : (ℓ : Loc nD τ sig) → Buf (Elt Ideal) ℓ) (c : Dev nD)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem flush3 : ∀ t : Fin cfg0.N, (cfg0.win 3).flush t = true :=
  (by decide +kernel : ∀ t : Fin grid0.N, _)

theorem rows_apply (t : Fin cfg0.N) (r : Fin 1024) (k : Fin 2048) :
    (iblk m c 0 t : Vec Ideal S1024x2048 .bf16) (ix2 r k) = V m c main_v2 (ix2 r k) := by
  obtain ⟨h0, h1⟩ := idx0 t
  refine congrArg (V m c main_v2) (funext fun a => Fin.ext ?_)
  match a with
  | ⟨0, _⟩ => show win0_0.index t 0 * 1024 + 1 * r.val = r.val; omega
  | ⟨1, _⟩ => show win0_0.index t 1 * 2048 + 1 * k.val = k.val; omega

theorem weight_apply (t : Fin cfg0.N) (k : Fin 2048) (a : Fin 1024) :
    (iblk m c 1 t : Vec Ideal S1x2048x1024 .f32) (ix3 0 k a)
      = V m c main_arg1 (ix3 (1 : Fin 2) k (⟨1024 * t.val + a.val, by have := t.isLt; have : cfg0.N = 2 := N_0; omega⟩ : Fin 2048)) := by
  obtain ⟨h0, h1, h2⟩ := idx1 t
  refine congrArg (V m c main_arg1) (funext fun b => Fin.ext ?_)
  match b with
  | ⟨0, _⟩ => show win0_1.index t 0 * 1 + 1 * 0 = 1; omega
  | ⟨1, _⟩ => show win0_1.index t 1 * 2048 + 1 * k.val = k.val; omega
  | ⟨2, _⟩ => show win0_1.index t 2 * 1024 + 1 * a.val = 1024 * t.val + a.val; omega

theorem entry_ones (i : S1x2048.Idx) : @Eq EReal (V m c main_v0 i) 1 := by
  entry_read
  pointwise

theorem ones_apply (t : Fin cfg0.N) (i : S1x1024.Idx) : @Eq EReal ((iblk m c 2 t : Vec Ideal S1x1024 .f32) i) 1 :=
  entry_ones m c _

theorem entry_rows (r : Fin 1024) (k : Fin 2048) :
    V m c main_v2 (ix2 r k) = m ((c : Thread nD τ).loc main_arg0) (ix3 (⟨r.val / 256, by omega⟩ : Fin 4) (⟨r.val % 256, by omega⟩ : Fin 256) k) := by
  entry_read
  pointwise

theorem written (t : Fin cfg0.N) :
    outsAt0 m c t = k0_pay2 (iblk m c 0 t) (k0_pay1 (iblk m c 1 t)) (iblk m c 2 t) := by
  unfold outsAt0
  frame_out

theorem product_apply (x : Vec Ideal S1024x2048 .bf16) (w : Vec Ideal S1x2048x1024 .f32) (s : Vec Ideal S1x1024 .f32) (r a : Fin 1024) :
    @Eq EReal (k0_pay2 x (k0_pay1 w) s (ix2 r a)) ((∑ k : Fin 2048, x (ix2 r k) * w (ix3 0 k a)) * s (ix2 0 a)) := by
  unfold k0_pay2 k0_pay1
  pointwise

/-- A row of the memory times a column of the layer's weight. -/
def entry (x : Vec Ideal S4x256x2048 .f32) (w : Vec Ideal S2x2048x2048 .f32) (r : Fin 1024) (a : Fin 2048) : EReal :=
  ∑ k : Fin 2048, x (ix3 (⟨r.val / 256, by omega⟩ : Fin 4) (⟨r.val % 256, by omega⟩ : Fin 256) k) * w (ix3 (1 : Fin 2) k a)

theorem block_apply (t : Fin cfg0.N) (r a : Fin 1024) :
    @Eq EReal (outsAt0 m c t (ix2 r a)) (entry (m ((c : Thread nD τ).loc main_arg0)) (m ((c : Thread nD τ).loc main_arg1)) r
      (⟨1024 * t.val + a.val, by have := t.isLt; have : cfg0.N = 2 := N_0; omega⟩ : Fin 2048)) := by
  rw [written]
  refine (product_apply _ _ _ r a).trans ?_
  rw [ones_apply, mul_one]
  refine Finset.sum_congr rfl fun k _ => ?_
  rw [rows_apply, weight_apply, entry_rows, V_main_arg1]

theorem array3 (r : Fin 1024) (a : Fin 2048) :
    @Eq EReal ((dats m 0 c).arrAt 3 cfg0.N (ix2 r a))
      (entry (m ((c : Thread nD τ).loc main_arg0)) (m ((c : Thread nD τ).loc main_arg1)) r a) := by
  have hN : cfg0.N = 2 := N_0
  have hq : a.val / 1024 < cfg0.N := by omega
  have h := congrFun (blocks3 m c ⟨a.val / 1024, hq⟩ (flush3 _)) (ix2 r (⟨a.val % 1024, by omega⟩ : Fin 1024))
  rw [View.read_apply, flushed3] at h
  obtain ⟨h0, h1⟩ := idx3 ⟨a.val / 1024, hq⟩
  refine Eq.trans ?_ (h.trans ((block_apply m c ⟨a.val / 1024, hq⟩ r (⟨a.val % 1024, by omega⟩ : Fin 1024)).trans ?_))
  · refine congrArg ((dats m 0 c).arrAt 3 cfg0.N) (funext fun b => Fin.ext ?_)
    match b with
    | ⟨0, _⟩ => show r.val = win0_3.index ⟨a.val / 1024, hq⟩ 0 * 1024 + 1 * r.val; omega
    | ⟨1, _⟩ => show a.val = win0_3.index ⟨a.val / 1024, hq⟩ 1 * 1024 + 1 * (a.val % 1024); rw [h1]; dsimp only; omega
  · congr 1
    apply Fin.ext
    dsimp only
    omega

end Cert.KvEq

theorem Cert.KvEq.algebraic : algebraic_KvIdeal_KvRefIdeal := by
  intro m ρ m' ρ' _ hagree
  refine ⟨_, Cert.KvIdeal.Value.run_blocks (F := Ideal) m ρ, ?_⟩
  refine (θ_run Cert.KvRefIdeal.defs _ _).mono (fun _ h c => ⟨?_, (h c).2⟩) (Cert.KvRefIdeal.Value.run (F := Ideal) m' ρ')
  obtain ⟨hx, hw⟩ := hagree c
  rw [(h c).1]
  funext i
  obtain ⟨r, a, rfl⟩ : ∃ (r : Fin 1024) (a : Fin 2048), i = ix2 r a := ⟨i 0, i 1, eq_ix2 i⟩
  refine Eq.trans ?_ (Cert.KvEq.array3 m c r a).symm
  unfold Cert.KvEq.entry
  pointwise
  rw [hx, hw]
-- ==== Proof.FgateScan.lean ====
/-
  The running sum of the forget gates by doubling steps, and the body's values at an index.
-/
module

public import proofs.«01_k».proof.Defs
public import proofs.«01_k».proof.Proof.Gen.FgateIdeal.Value
public import Idealize.ShloMosaic.Lib.Tactic
public import Idealize.ShloMosaic.Lib.Claim
public import Idealize.ShloMosaic.Lib.Pointwise
public import Idealize.ShloMosaic.Lib.WordCmp

@[expose] public section

set_option maxRecDepth 8192

noncomputable section

open Idealize.ShloMosaic Idealize.ShloMosaic.TcCoe Idealize.SL.Sem

namespace Cert.Gate

/-- The sum of the `k` entries of a sequence that end at entry `r` (fewer where the sequence starts). -/
def window (k : ℕ) (f : ℕ → EReal) (r : ℕ) : EReal := ∑ j ∈ Finset.range k, if j ≤ r then f (r - j) else 0

/-- Two windows side by side are one of twice the length. -/
theorem window_double (k : ℕ) (f : ℕ → EReal) (r : ℕ) :
    window k f r + (if k ≤ r then window k f (r - k) else 0) = window (k + k) f r := by
  unfold window
  rw [Finset.sum_range_add]
  congr 1
  split_ifs with h
  · refine Finset.sum_congr rfl fun j _ => ?_
    by_cases hj : j ≤ r - k
    · rw [if_pos hj, if_pos (by omega)]; congr 1; omega
    · rw [if_neg hj, if_neg (by omega)]
  · exact (Finset.sum_eq_zero fun j _ => if_neg (by omega)).symm

/-- A window longer than what precedes is the whole running sum. -/
theorem window_full (n : ℕ) (f : ℕ → EReal) (r : ℕ) (h : r < n) : window n f r = ∑ j ∈ Finset.range (r + 1), f j := by
  unfold window
  rw [← Finset.sum_filter, ← Finset.sum_range_reflect f (r + 1)]
  refine Finset.sum_congr ?_ fun j _ => by congr 1
  ext j
  simp only [Finset.mem_filter, Finset.mem_range]
  omega

theorem window_one (f : ℕ → EReal) (r : ℕ) : window 1 f r = f r := by
  unfold window
  simp

/-- The log of the sigmoid, as the call computes it. -/
def lsig (z : EReal) : EReal := min z 0 - Ideal.log (1 + Ideal.exp (0 - max z (-z)))

end Cert.Gate

namespace Cert.FgateEq

open Cert.FgateIdeal Cert.FgateIdeal.Gen Cert.FgateIdeal.Value
open Cert.Gate

abbrev rowIota : IVec S512x128 32 := iota .tc S512x128 32 [0] iota_S512x128_d0_w32

/-- One doubling step: each row added the row `k` above it. -/
def step (k : BitVec 32) (v : FVec Ideal S512x128 .f32) : FVec Ideal S512x128 .f32 :=
  addf v (select (cmpi .sge rowIota (broadcast S512x128 k)) (dynamicRotate 0 k none v rotates_S512x128_d0)
    (broadcast S512x128 (Scalar.ofBits .f32 0x00000000#32)))

theorem step_apply (k : ℕ) (hk : k < 512) (v : FVec Ideal S512x128 .f32) (r : Fin 512) (l : Fin 128) :
    @Eq EReal (step (BitVec.ofNat 32 k) v (ix2 r l))
      (v (ix2 r l) + if k ≤ r.val then v (ix2 (⟨r.val - k, by omega⟩ : Fin 512) l) else 0) := by
  unfold step
  rw [show ∀ (a b : FVec Ideal S512x128 .f32) i, addf a b i = (a i + b i : EReal) from fun _ _ _ => rfl]
  refine congrArg (fun e : EReal => (v (ix2 r l) + e : EReal)) ?_
  pointwise
  have hr : r.val < 512 := r.isLt
  by_cases h : k ≤ r.val
  · rw [if_pos h]
    have e : IntOp.cmpi .sge (BitVec.ofNat 32 r.val) (BitVec.ofNat 32 k) = 1#1 :=
      (WordCmp.cmpi_sge_ofNat_eq_one_iff (w := 32) (by omega) (by omega)).mpr h
    rw [e]
    refine congrArg (fun q => v (ix2 q l)) (Fin.ext ?_)
    show (r.val + 512 - k % 2 ^ 32 % 512) % 512 = r.val - k
    omega
  · rw [if_neg h]
    have e : IntOp.cmpi .sge (BitVec.ofNat 32 r.val) (BitVec.ofNat 32 k) = 0#1 :=
      (WordCmp.cmpi_sge_ofNat_eq_zero_iff (w := 32) (by omega) (by omega)).mpr h
    rw [e]
    rfl

/-- The gates of a block before the running sum. -/
def gates (x : Vec Ideal S256x2048 .bf16) (w : Vec Ideal S128x2048 .bf16) (x' : Vec Ideal S256x2048 .bf16) (b : Vec Ideal S1x128 .f32) : FVec Ideal S512x128 .f32 :=
  have v4 : FVec Ideal S256x2048 .bf16 := shapeCast S256x2048 x shapeCasts_S256x2048_S256x2048
  have v6 : FVec Ideal S256x128 .f32 := matmul (φ₂ := .bf16) dot_S256x2048_S128x2048_S256x128_1_1_0_0_n_n none v4 w (constant S256x128 .f32 0x00000000#32)
  have v8 : FVec Ideal S256x2048 .bf16 := shapeCast S256x2048 x' shapeCasts_S256x2048_S256x2048
  have v10 : FVec Ideal S256x128 .f32 := matmul (φ₂ := .bf16) dot_S256x2048_S128x2048_S256x128_1_1_0_0_n_n none v8 w (constant S256x128 .f32 0x00000000#32)
  have v11 : FVec Ideal S512x128 .f32 := concatenate S512x128 0 [⟨S256x128, v6⟩, ⟨S256x128, v10⟩] concatenates_S256x128_S256x128_S512x128_d0
  have v13 : FVec Ideal S1x128 .f32 := shapeCast S1x128 b shapeCasts_S1x128_S1x128
  have z : FVec Ideal S512x128 .f32 := addf v11 (broadcastTo S512x128 v13 broadcasts_S1x128_S512x128)
  subf (minimumf z (broadcast S512x128 (Scalar.ofBits .f32 0x00000000#32)))
    (log (addf (broadcast S512x128 (Scalar.ofBits .f32 0x3F800000#32)) (exp (subf (broadcast S512x128 (Scalar.ofBits .f32 0x00000000#32)) (absf z)))))

theorem gates_apply (x : Vec Ideal S256x2048 .bf16) (w : Vec Ideal S128x2048 .bf16) (x' : Vec Ideal S256x2048 .bf16) (b : Vec Ideal S1x128 .f32) (r : Fin 512) (l : Fin 128) :
    @Eq EReal (gates x w x' b (ix2 r l))
      (lsig ((∑ k : Fin 2048, (if h : r.val < 256 then x (ix2 ⟨r.val, h⟩ k) else x' (ix2 ⟨r.val - 256, by omega⟩ k)) * w (ix2 l k)) + b (ix2 0 l))) := by
  unfold gates lsig
  pointwise
  by_cases h : r.val < 256 <;> simp only [h, ↓reduceDIte] <;> rfl

theorem pay6_eq (x : Vec Ideal S256x2048 .bf16) (w : Vec Ideal S128x2048 .bf16) (x' : Vec Ideal S256x2048 .bf16) (b : Vec Ideal S1x128 .f32) :
    k0_pay6 x w x' w b = step 1#32 (gates x w x' b) := rfl

theorem pay8_eq (v : FVec Ideal S512x128 .f32) :
    k0_pay8 rowIota v k0_pay7 2#32 = step 128#32 (step 64#32 (step 32#32 (step 16#32 (step 8#32 (step 4#32 (step 2#32 v)))))) := rfl

theorem pay9_apply (v : FVec Ideal S512x128 .f32) (q : Vec Ideal S1x128 .f32) (r : Fin 512) (l : Fin 128) :
    @Eq EReal (k0_pay9 rowIota v 256#32 q (ix2 r l)) (step 256#32 v (ix2 r l) + q (ix2 0 l)) := by
  rw [show k0_pay9 rowIota v 256#32 q = addf (step 256#32 v) (broadcastTo S512x128 q broadcasts_S1x128_S512x128) from rfl]
  generalize step 256#32 v = u
  pointwise

/-- What the doubling steps so far hold. -/
def Win (k : ℕ) (f : Fin 128 → ℕ → EReal) (v : FVec Ideal S512x128 .f32) : Prop :=
  ∀ (r : Fin 512) (l : Fin 128), @Eq EReal (v (ix2 r l)) (window k (f l) r.val)

theorem Win.step {k : ℕ} (hk : k < 512) {f : Fin 128 → ℕ → EReal} {v : FVec Ideal S512x128 .f32} (h : Win k f v) :
    Win (k + k) f (step (BitVec.ofNat 32 k) v) := fun r l => by
  rw [step_apply k hk, ← window_double, h r l]
  refine congrArg (fun e : EReal => window k (f l) r.val + e) ?_
  by_cases hr : k ≤ r.val
  · rw [if_pos hr, if_pos hr]; exact h _ l
  · rw [if_neg hr, if_neg hr]

/-- The running sums of a block, over the carried row. -/
def sums (x : Vec Ideal S256x2048 .bf16) (w : Vec Ideal S128x2048 .bf16) (x' : Vec Ideal S256x2048 .bf16) (b : Vec Ideal S1x128 .f32) (q : Vec Ideal S1x128 .f32) : FVec Ideal S512x128 .f32 :=
  k0_pay9 rowIota (k0_pay8 rowIota (k0_pay6 x w x' w b) k0_pay7 2#32) 256#32 q

theorem sums_apply (x : Vec Ideal S256x2048 .bf16) (w : Vec Ideal S128x2048 .bf16) (x' : Vec Ideal S256x2048 .bf16) (b : Vec Ideal S1x128 .f32) (q : Vec Ideal S1x128 .f32)
    (f : Fin 128 → ℕ → EReal) (hf : ∀ (r : Fin 512) (l : Fin 128), @Eq EReal (gates x w x' b (ix2 r l)) (f l r.val)) (r : Fin 512) (l : Fin 128) :
    @Eq EReal (sums x w x' b q (ix2 r l)) ((∑ j ∈ Finset.range (r.val + 1), f l j) + q (ix2 0 l)) := by
  unfold sums
  rw [pay9_apply, pay8_eq, pay6_eq]
  have h1 : Win 1 f (gates x w x' b) := fun r l => (hf r l).trans (window_one _ _).symm
  have h := (((((((((h1.step (by decide)).step (by decide)).step (by decide)).step (by decide)).step (by decide)).step (by decide)).step (by decide)).step (by decide)).step (by decide)) r l
  rw [← window_full 512 (f l) r.val r.isLt]
  exact congrArg (fun e : EReal => (e + q (ix2 0 l) : EReal)) h

/-- The three parts a running sum is split into, side by side. -/
def parts (u : FVec Ideal S512x128 .f32) : FVec Ideal S512x384 .bf16 :=
  have v91 : FVec Ideal S512x128 .f32 := mulf u (broadcast S512x128 (Scalar.ofBits .f32 0x3FB8AA3B#32))
  have v92 : FVec Ideal S512x128 .bf16 := truncf .bf16 v91 bitsLt_bf16_f32
  have v94 : FVec Ideal S512x128 .f32 := subf v91 (extf .f32 v92 bitsLt_bf16_f32)
  have v95 : FVec Ideal S512x128 .bf16 := truncf .bf16 v94 bitsLt_bf16_f32
  have v97 : FVec Ideal S512x128 .f32 := subf v94 (extf .f32 v95 bitsLt_bf16_f32)
  concatenate S512x384 1 [⟨S512x128, v92⟩, ⟨S512x128, v95⟩, ⟨S512x128, (truncf .bf16 v97 bitsLt_bf16_f32 : FVec Ideal S512x128 .bf16)⟩] concatenates_S512x128_S512x128_S512x128_S512x384_d1

theorem pay11_eq (v : FVec Ideal S512x128 .f32) (q : Vec Ideal S1x128 .f32) :
    k0_pay11 rowIota v 256#32 q = parts (k0_pay9 rowIota v 256#32 q) := rfl

/-- The factor every running sum is multiplied by. -/
abbrev scale : EReal := Ideal.ofBits .f32 0x3FB8AA3B#32

theorem parts_apply (u : FVec Ideal S512x128 .f32) (r : Fin 512) (p : Fin 3) (l : Fin 128) (hu : ∃ x : ℝ, @Eq EReal (u (ix2 r l) * scale) x) :
    @Eq EReal (parts u (ix2 r (⟨p.val * 128 + l.val, by omega⟩ : Fin 384))) (if p = 0 then u (ix2 r l) * scale else 0) := by
  obtain ⟨x, hx⟩ := hu
  unfold parts
  have h0 : @Eq EReal (u (ix2 r l) * scale - u (ix2 r l) * scale) 0 := by
    rw [show (u (ix2 r l) * scale : EReal) = x from hx, ← EReal.coe_sub, sub_self, EReal.coe_zero]
  fin_cases p
  · pointwise
  · pointwise
    exact h0
  · pointwise
    rw [dif_neg (by omega), dif_neg (by omega)]
    have e : (⟨256 + l.val - 128 - 128, by omega⟩ : Fin 128) = l := Fin.ext (by dsimp only; omega)
    rw [e]
    refine (congrArg₂ (fun a b : EReal => a - b) h0 h0).trans ?_
    exact sub_zero _

theorem pay2_apply (p : FVec Ideal S512x384 .bf16) (s : Vec Ideal S384x1024 .bf16) (b : Vec Ideal S1x1024 .f32) (r : Fin 256) (n : Fin 1024) :
    @Eq EReal (k0_pay2 p s b (ix2 r n)) ((∑ j : Fin 384, p (ix2 (⟨256 + r.val, by omega⟩ : Fin 512) j) * s (ix2 j n)) + b (ix2 0 n)) := by
  unfold k0_pay2
  pointwise

theorem pay3_apply (p : FVec Ideal S512x384 .bf16) (s : Vec Ideal S384x1024 .bf16) (b : Vec Ideal S1x1024 .f32) (r : Fin 256) (n : Fin 1024) :
    @Eq EReal (k0_pay3 p s b (ix2 r n)) ((∑ j : Fin 384, p (ix2 (⟨256 + r.val, by omega⟩ : Fin 512) j) * s (ix2 j n)) + b (ix2 0 n)) := by
  unfold k0_pay3
  pointwise

theorem pay13_apply (v : FVec Ideal S512x128 .f32) (q : Vec Ideal S1x128 .f32) (s : Vec Ideal S384x1024 .bf16) (b : Vec Ideal S1x1024 .f32) (r : Fin 256) (n : Fin 1024) :
    @Eq EReal (k0_pay13 rowIota v 256#32 q s b (ix2 r n)) ((∑ j : Fin 384, k0_pay11 rowIota v 256#32 q (ix2 (⟨r.val, by omega⟩ : Fin 512) j) * s (ix2 j n)) + b (ix2 0 n)) := by
  unfold k0_pay13
  generalize k0_pay11 rowIota v 256#32 q = p
  pointwise

theorem pay12_apply (v : FVec Ideal S512x128 .f32) (q : Vec Ideal S1x128 .f32) (s : Vec Ideal S384x1024 .bf16) (b : Vec Ideal S1x1024 .f32) (r : Fin 256) (n : Fin 1024) :
    @Eq EReal (k0_pay1 (k0_pay12 rowIota v 256#32 q s b) (ix2 r n)) ((∑ j : Fin 384, k0_pay11 rowIota v 256#32 q (ix2 (⟨r.val, by omega⟩ : Fin 512) j) * s (ix2 j n)) + b (ix2 0 n)) := by
  unfold k0_pay1 k0_pay12
  generalize k0_pay11 rowIota v 256#32 q = p
  pointwise

theorem pay10_apply (v : FVec Ideal S512x128 .f32) (q : Vec Ideal S1x128 .f32) (a : Fin 8) (l : Fin 128) :
    @Eq EReal (k0_pay10 rowIota v 256#32 q (ix2 a l)) (k0_pay9 rowIota v 256#32 q (ix2 (511 : Fin 512) l)) := by
  unfold k0_pay10
  generalize k0_pay9 rowIota v 256#32 q = p
  pointwise

theorem pay5_apply (w : Vec Ideal S1x128x2048 .f32) (l : Fin 128) (k : Fin 2048) (hl : l.val < 8) :
    @Eq EReal (k0_pay5 w (ix2 l k)) (w (ix3 0 l k)) := by
  unfold k0_pay5
  pointwise
  rw [(WordCmp.cmpi_slt_ofNat_eq_one_iff (w := 32) (a := l.val) (b := 8) (by omega) (by omega)).mpr hl]
  rfl

/-- A product with a matrix that has one entry in a column picks that entry. -/
theorem picked (p : Fin 384 → EReal) (s : Fin 384 → EReal) (j₀ : Fin 384) (hs : ∀ j, j ≠ j₀ → s j = 0) : ∑ j, p j * s j = p j₀ * s j₀ :=
  Finset.sum_eq_single j₀ (fun j _ hj => by rw [hs j hj, mul_zero]) (fun h => absurd (Finset.mem_univ _) h)

end Cert.FgateEq
-- ==== Proof.FgateEntry.lean ====
/-
  The arrays the forget-gate call starts from, read at an index.
-/
module

public import proofs.«01_k».proof.Defs
public import proofs.«01_k».proof.Proof.FgateScan
public import Idealize.ShloMosaic.Lib.Tactic
public import Idealize.ShloMosaic.Lib.Claim
public import Idealize.ShloMosaic.Lib.Pipeline.ValueKit.Acc
public import Idealize.ShloMosaic.Lib.Pipeline.ValueKit.Tiles
public import Idealize.ShloMosaic.Lib.Pipeline.ReadBack
public import Idealize.ShloMosaic.Lib.Pointwise
public import Idealize.ShloMosaic.Lib.WordCmp
public import Idealize.ShloMosaic.Lib.Routing.OpsOne

@[expose] public section

set_option maxRecDepth 8192

noncomputable section

open Idealize.ShloMosaic Idealize.ShloMosaic.TcCoe Idealize.SL.Sem

namespace Cert.FgateEq

open Cert.FgateIdeal Cert.FgateIdeal.Gen Cert.FgateIdeal.Value
open Cert.Gate

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 3072 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

theorem rows_apply (t : Fin cfg0.N) (r : Fin 512) (k : Fin 2048) :
    (iblk m c 0 t : Vec Ideal S512x2048 .bf16) (ix2 r k)
      = V m c main_v8 (ix2 (⟨512 * t.val + r.val, by have := t.isLt; have : cfg0.N = 32 := N_0; omega⟩ : Fin 16384) k) := by
  obtain ⟨h0, h1⟩ := idx0 t
  refine congrArg (V m c main_v8) (funext fun a => Fin.ext ?_)
  match a with
  | ⟨0, _⟩ => show win0_0.index t 0 * 512 + 1 * r.val = 512 * t.val + r.val; omega
  | ⟨1, _⟩ => show win0_0.index t 1 * 2048 + 1 * k.val = k.val; omega

theorem weight_apply (t : Fin cfg0.N) (a : Fin 128) (k : Fin 2048) :
    (iblk m c 1 t : Vec Ideal S1x128x2048 .f32) (ix3 0 a k)
      = V m c main_v9 (ix3 (1 : Fin 2) (⟨3072 + a.val, by omega⟩ : Fin 7176) k) := by
  obtain ⟨h0, h1, h2⟩ := idx1 t
  refine congrArg (V m c main_v9) (funext fun b => Fin.ext ?_)
  match b with
  | ⟨0, _⟩ => show win0_1.index t 0 + 1 * 0 = 1; omega
  | ⟨1, _⟩ => show win0_1.index t 1 + 1 * a.val = 3072 + a.val; omega
  | ⟨2, _⟩ => show win0_1.index t 2 + 1 * k.val = k.val; omega

theorem bias_apply (t : Fin cfg0.N) (l : Fin 128) :
    (iblk m c 2 t : Vec Ideal S1x128 .f32) (ix2 0 l) = V m c main_v6 (ix2 0 l) := by
  obtain ⟨h0, h1⟩ := idx2 t
  refine congrArg (V m c main_v6) (funext fun a => Fin.ext ?_)
  match a with
  | ⟨0, _⟩ => show win0_2.index t 0 * 1 + 1 * 0 = 0; omega
  | ⟨1, _⟩ => show win0_2.index t 1 * 128 + 1 * l.val = l.val; omega

theorem selk_apply (t : Fin cfg0.N) (j : Fin 384) (n : Fin 1024) :
    (iblk m c 3 t : Vec Ideal S384x1024 .bf16) (ix2 j n) = V m c main_v38 (ix2 j n) := by
  obtain ⟨h0, h1⟩ := idx3 t
  refine congrArg (V m c main_v38) (funext fun a => Fin.ext ?_)
  match a with
  | ⟨0, _⟩ => show win0_3.index t 0 * 384 + 1 * j.val = j.val; omega
  | ⟨1, _⟩ => show win0_3.index t 1 * 1024 + 1 * n.val = n.val; omega

theorem selq_apply (t : Fin cfg0.N) (j : Fin 384) (n : Fin 1024) :
    (iblk m c 4 t : Vec Ideal S384x1024 .bf16) (ix2 j n) = V m c main_v39 (ix2 j n) := by
  obtain ⟨h0, h1⟩ := idx4 t
  refine congrArg (V m c main_v39) (funext fun a => Fin.ext ?_)
  match a with
  | ⟨0, _⟩ => show win0_4.index t 0 * 384 + 1 * j.val = j.val; omega
  | ⟨1, _⟩ => show win0_4.index t 1 * 1024 + 1 * n.val = n.val; omega

theorem onek_apply (t : Fin cfg0.N) (n : Fin 1024) :
    (iblk m c 5 t : Vec Ideal S1x1024 .f32) (ix2 0 n) = V m c main_v33 (ix2 0 n) := by
  obtain ⟨h0, h1⟩ := idx5 t
  refine congrArg (V m c main_v33) (funext fun a => Fin.ext ?_)
  match a with
  | ⟨0, _⟩ => show win0_5.index t 0 * 1 + 1 * 0 = 0; omega
  | ⟨1, _⟩ => show win0_5.index t 1 * 1024 + 1 * n.val = n.val; omega

theorem oneq_apply (t : Fin cfg0.N) (n : Fin 1024) :
    (iblk m c 6 t : Vec Ideal S1x1024 .f32) (ix2 0 n) = V m c main_v37 (ix2 0 n) := by
  obtain ⟨h0, h1⟩ := idx6 t
  refine congrArg (V m c main_v37) (funext fun a => Fin.ext ?_)
  match a with
  | ⟨0, _⟩ => show win0_6.index t 0 * 1 + 1 * 0 = 0; omega
  | ⟨1, _⟩ => show win0_6.index t 1 * 1024 + 1 * n.val = n.val; omega

theorem entry_rows (r : Fin 16384) (k : Fin 2048) :
    V m c main_v8 (ix2 r k) = m ((c : Thread nD τ).loc main_arg0) (ix3 (⟨r.val / 4096, by omega⟩ : Fin 4) (⟨r.val % 4096, by omega⟩ : Fin 4096) k) := by
  unfold V
  simp only [List.flatten_cons, List.flatten_nil, List.append_nil, StableHlo.after_append]
  after_results_simp
  pointwise

theorem entry_weight (l : Fin 2) (a : Fin 7176) (k : Fin 2048) :
    V m c main_v9 (ix3 l a k) = m ((c : Thread nD τ).loc main_arg1) (ix3 l k a) := by
  unfold V
  simp only [List.flatten_cons, List.flatten_nil, List.append_nil, StableHlo.after_append]
  after_results_simp
  pointwise

open Idealize.ShloMosaic.Routing in
/-- Update `k` of a row written at `(0, 0)` lands at `(0, l)` exactly when `k` is `l`. -/
theorem lands_row (idx : IVec S2 32) (hidx : ∀ q : Fin 2, idx (ix1 q) = 0#32) (k : Fin 8) (l : Fin 128) :
    scatter_S1x128_S2_S8_0_0_01_0.resultIdx? (ix1 k) idx = some (ix2 (0 : Fin 1) l) ↔ k.val = l.val := by
  have hwin0 : scatter_S1x128_S2_S8_0_0_01_0.window (ix1 k) 0 = 0 := by
    unfold ScatterDims.window
    rw [dif_neg (by decide)]
  have hwin1 : scatter_S1x128_S2_S8_0_0_01_0.window (ix1 k) 1 = k.val := by
    unfold ScatterDims.window
    rw [dif_pos (by decide)]
    exact congrArg (fun t => ((ix1 k : S8.Idx) t).val) (Subsingleton.elim (α := Fin 1) _ 0)
  refine (resultIdx?_ix2 (R := 1) (C := 128) _ _ _ _ _).trans ?_
  rw [start_pair (R := 1) (C := 128) _ rfl rfl, start_pair (R := 1) (C := 128) _ rfl rfl, hwin0, hwin1]
  rw [show idx (Idealize.ShloMosaic.ValueIdx.ix1 (0 : Fin 2)) = 0#32 from hidx 0, show idx (Idealize.ShloMosaic.ValueIdx.ix1 (1 : Fin 2)) = 0#32 from hidx 1]
  have : (0#32 : BitVec 32).toInt = 0 := rfl
  rw [this]
  have : (0 : Fin 1).val = 0 := rfl
  omega

open Idealize.ShloMosaic.Routing in
theorem scatter_row (x0 : S1x128.Idx → EReal) (idx : IVec S2 32) (hidx : ∀ q : Fin 2, idx (ix1 q) = 0#32) (u : S8.Idx → EReal) (l : Fin 128) (hl : l.val < 8) :
    Host.scatter scatter_S1x128_S2_S8_0_0_01_0 (fun _ b => b) x0 idx u (ix2 (0 : Fin 1) l) = u (ix1 (⟨l.val, hl⟩ : Fin 8)) := by
  refine scatter_set_hit _ x0 idx u _ _ (fun k hk => ?_) (ix1 (⟨l.val, hl⟩ : Fin 8)) ((lands_row idx hidx _ l).2 rfl)
  obtain ⟨k, rfl⟩ : ∃ k' : Fin 8, k = ix1 k' := ⟨k 0, eq_ix1 k⟩
  have := (lands_row idx hidx k l).1 hk
  exact congrArg (fun e => u (ix1 e)) (Fin.ext this)

theorem entry_bias (l : Fin 128) (hl : l.val < 8) :
    V m c main_v6 (ix2 0 l) = m ((c : Thread nD τ).loc main_arg2) (ix2 (1 : Fin 2) (⟨l.val, hl⟩ : Fin 8)) := by
  unfold V
  simp only [List.flatten_cons, List.flatten_nil, List.append_nil, StableHlo.after_append]
  after_results_simp
  refine (scatter_row _ _ (fun q => ?_) _ l hl).trans ?_
  · fin_cases q
    · pointwise
      after_results_simp
      pointwise
    · pointwise
      after_results_simp
      pointwise
  · pointwise

theorem entry_selk (j : Fin 384) (n : Fin 1024) :
    @Eq EReal (V m c main_v38 (ix2 j n)) (if j.val % 128 = n.val / 128 ∧ n.val % 128 = j.val / 128 then -1 else 0) := by
  unfold V
  simp only [List.flatten_cons, List.flatten_nil, List.append_nil, StableHlo.after_append]
  after_results_simp
  simp only [StableHlo.TRef.toBuf, StableHlo.TRef.ofBuf, cast_eq]
  pointwise
  have hj : j.val < 384 := j.isLt
  have hn : n.val < 1024 := n.isLt
  have e : Ideal.ofBits .f32 3212836864#32 = (-1 : EReal) := by
    rw [show (-1 : EReal) = ((-(1 : ℝ) : ℝ) : EReal) by rw [EReal.coe_neg, EReal.coe_one]]
    simp [Ideal.ofBits, Ideal.ieee, -EReal.coe_mul, -EReal.coe_neg]; norm_num
  rw [e]
  word_cmp

theorem entry_selq (j : Fin 384) (n : Fin 1024) :
    @Eq EReal (V m c main_v39 (ix2 j n)) (if j.val % 128 = n.val / 128 ∧ n.val % 128 = j.val / 128 + 3 then 1 else 0) := by
  unfold V
  simp only [List.flatten_cons, List.flatten_nil, List.append_nil, StableHlo.after_append]
  after_results_simp
  simp only [StableHlo.TRef.toBuf, StableHlo.TRef.ofBuf, cast_eq]
  pointwise
  have hj : j.val < 384 := j.isLt
  have hn : n.val < 1024 := n.isLt
  rw [show IntOp.addi (BitVec.ofNat 32 (j.val / 128)) 3#32 = BitVec.ofNat 32 (j.val / 128 + 3) from (BitVec.ofNat_add _ _).symm]
  word_cmp

theorem entry_onek (n : Fin 1024) :
    @Eq EReal (V m c main_v33 (ix2 0 n)) (if 3 ≤ n.val % 128 ∧ n.val % 128 < 6 then 1 else 0) := by
  unfold V
  simp only [List.flatten_cons, List.flatten_nil, List.append_nil, StableHlo.after_append]
  after_results_simp
  simp only [StableHlo.TRef.toBuf, StableHlo.TRef.ofBuf, cast_eq]
  pointwise
  have hn : n.val < 1024 := n.isLt
  word_cmp

theorem entry_oneq (n : Fin 1024) :
    @Eq EReal (V m c main_v37 (ix2 0 n)) (if n.val % 128 < 3 then 1 else 0) := by
  unfold V
  simp only [List.flatten_cons, List.flatten_nil, List.append_nil, StableHlo.after_append]
  after_results_simp
  simp only [StableHlo.TRef.toBuf, StableHlo.TRef.ofBuf, cast_eq]
  pointwise
  have hn : n.val < 1024 := n.isLt
  word_cmp

end Cert.FgateEq
-- ==== Proof.FgateCarry.lean ====
/-
  What each step of the call that sums the forget gates leaves, from the carried row it starts with.
-/
module

public import proofs.«01_k».proof.Defs
public import proofs.«01_k».proof.Proof.FgateScan
public import proofs.«01_k».proof.Proof.FgateEntry
public import proofs.«01_k».proof.Proof.FoxAlgebraic
public import proofs.«01_k».proof.Proof.LayerNorm
public import proofs.«01_k».proof.Proof.Projection
public import proofs.«01_k».proof.Proof.Gen.FgateRefIdeal.Run
public import proofs.«01_k».proof.Proof.Gen.FgateRefIdeal.Read
public import proofs.«01_k».proof.Proof.Gen.Pre_finite_logits
public import Idealize.ShloMosaic.Lib.Tactic
public import Idealize.ShloMosaic.Lib.Claim
public import Idealize.ShloMosaic.Lib.Pipeline.ValueKit.Acc
public import Idealize.ShloMosaic.Lib.Pipeline.ValueKit.Tiles
public import Idealize.ShloMosaic.Lib.Pipeline.ReadBack
public import Idealize.ShloMosaic.Lib.Pointwise
public import Idealize.ShloMosaic.Lib.WordCmp

@[expose] public section

set_option maxRecDepth 8192

noncomputable section

open Idealize.ShloMosaic Idealize.ShloMosaic.TcCoe Idealize.SL.Sem

namespace Cert.FgateEq

open Cert.FgateIdeal Cert.FgateIdeal.Gen Cert.FgateIdeal.Value
open Cert.Gate
open Cert.Projection (held)

variable (m : (ℓ : Loc nD τ sig) → Buf (Elt Ideal) ℓ) (c : Dev nD)

/-- The upper half of a step's rows. -/
def low (t : Fin cfg0.N) : Vec Ideal S256x2048 .bf16 := View.ld (iblk m c 0 t) (Rect.unit ![0, 0] ![256, 2048] inb_S512x2048_S256x2048_0_0)

/-- The lower half of a step's rows. -/
def high (t : Fin cfg0.N) : Vec Ideal S256x2048 .bf16 := View.ld (iblk m c 0 t) (Rect.unit ![256, 0] ![256, 2048] inb_S512x2048_S256x2048_256_0)

/-- The gates of a step summed over windows of 256 rows. -/
def runs (t : Fin cfg0.N) (w : Vec Ideal S128x2048 .bf16) : FVec Ideal S512x128 .f32 :=
  k0_pay8 rowIota (k0_pay6 (low m c t) w (high m c t) w (iblk m c 2 t)) k0_pay7 2#32

/-- What a step leaves, from its weight and the carried row it starts with. -/
def outK (t : Fin cfg0.N) (w : Vec Ideal S128x2048 .bf16) (q : Vec Ideal S1x128 .f32) : Vec Ideal S512x1024 .bf16 :=
  View.canon [⟨Rect.unit ![256, 0] ![256, 1024] inb_S512x1024_S256x1024_256_0, k0_pay2 (k0_pay11 rowIota (runs m c t w) 256#32 q) (iblk m c 3 t) (iblk m c 5 t)⟩,
    ⟨Rect.unit ![0, 0] ![256, 1024] inb_S512x1024_S256x1024_0_0, k0_pay13 rowIota (runs m c t w) 256#32 q (iblk m c 3 t) (iblk m c 5 t)⟩]

/-- The second result of a step. -/
def outQ (t : Fin cfg0.N) (w : Vec Ideal S128x2048 .bf16) (q : Vec Ideal S1x128 .f32) : Vec Ideal S512x1024 .bf16 :=
  View.canon [⟨Rect.unit ![256, 0] ![256, 1024] inb_S512x1024_S256x1024_256_0, k0_pay3 (k0_pay11 rowIota (runs m c t w) 256#32 q) (iblk m c 4 t) (iblk m c 6 t)⟩,
    ⟨Rect.unit ![0, 0] ![256, 1024] inb_S512x1024_S256x1024_0_0, k0_pay1 (k0_pay12 rowIota (runs m c t w) 256#32 q (iblk m c 4 t) (iblk m c 6 t))⟩]

/-- The first row of the carried rows. -/
def headRow (v : Vec Ideal S8x128 .f32) : Vec Ideal S1x128 .f32 := View.ld v (Rect.unit ![0, 0] ![1, 128] inb_S8x128_S1x128_0_0)

/-- The zeros a sequence starts with. -/
def zeros : Vec Ideal S8x128 .f32 := k0_pay4 (F := Ideal)

/-- What the first step of a sequence reads as its carried row. -/
def zeroRow : Vec Ideal S1x128 .f32 :=
  (View.whole cc0_scratch0).readCov (Val := Elt Ideal) [⟨Rect.unit (s := S8x128) ![0, 0] S8x128.size inb_S8x128_S8x128_0_0, zeros⟩] (Rect.unit (s := S8x128) ![0, 0] ![1, 128] inb_S8x128_S1x128_0_0).toLoadRect

theorem first_step (t : Fin cfg0.N) (h0 : t.val % 8 = 0) :
    (outsAt0 m c t.val t.isLt).1 = outK m c t (k0_pay5 (iblk m c 1 t)) zeroRow
    ∧ (outsAt0 m c t.val t.isLt).2.1 = outQ m c t (k0_pay5 (iblk m c 1 t)) zeroRow
    ∧ (outsAt0 m c t.val t.isLt).2.2.1 = k0_pay10 rowIota (runs m c t (k0_pay5 (iblk m c 1 t))) 256#32 zeroRow
    ∧ (outsAt0 m c t.val t.isLt).2.2.2 = k0_pay5 (iblk m c 1 t) := by
  rw [outsAt0_A m c t h0]
  refine ⟨?_, ?_, ?_, ?_⟩
  · frame_out
    rfl
  · frame_out
    rfl
  · frame_out
    rfl
  · frame_out

theorem later_step (t : Fin cfg0.N) (h0 : ¬ t.val % 8 = 0) (w : Vec Ideal S128x2048 .bf16) (v : Vec Ideal S8x128 .f32)
    (hv : (outsAt0 m c (t.val - 1) (Nat.lt_of_le_of_lt (Nat.sub_le _ _) t.isLt)).2.2.1 = v)
    (hw : (outsAt0 m c (t.val - 1) (Nat.lt_of_le_of_lt (Nat.sub_le _ _) t.isLt)).2.2.2 = w) :
    (outsAt0 m c t.val t.isLt).1 = outK m c t w (headRow v)
    ∧ (outsAt0 m c t.val t.isLt).2.1 = outQ m c t w (headRow v)
    ∧ (outsAt0 m c t.val t.isLt).2.2.1 = k0_pay10 rowIota (runs m c t w) 256#32 (headRow v)
    ∧ (outsAt0 m c t.val t.isLt).2.2.2 = w := by
  rw [outsAt0_B m c t h0, hv, hw]
  refine ⟨?_, ?_, ?_, ?_⟩
  · frame_out
    rw [show View.read _ _ _ = _ from (Memref.isWhole_whole cc0_scratch0).read_unread _, show View.read _ _ _ = _ from (Memref.isWhole_whole cc0_scratch1).read_unread _]
    rfl
  · frame_out
    rw [show View.read _ _ _ = _ from (Memref.isWhole_whole cc0_scratch0).read_unread _, show View.read _ _ _ = _ from (Memref.isWhole_whole cc0_scratch1).read_unread _]
    rfl
  · frame_out
    rw [show View.read _ _ _ = _ from (Memref.isWhole_whole cc0_scratch0).read_unread _, show View.read _ _ _ = _ from (Memref.isWhole_whole cc0_scratch1).read_unread _]
    rfl
  · rfl

theorem same_weight (t t' : Fin cfg0.N) : (iblk m c 1 t : Vec Ideal S1x128x2048 .f32) = iblk m c 1 t' := by
  funext y
  obtain ⟨z, a, k, rfl⟩ : ∃ z a k, y = ix3 z a k := ⟨y 0, y 1, y 2, eq_ix3 y⟩
  obtain rfl : z = 0 := Subsingleton.elim _ _
  exact (weight_apply m c t a k).trans (weight_apply m c t' a k).symm

theorem zeroRow_eq : zeroRow = View.ld zeros (Rect.unit (s := S8x128) ![0, 0] ![1, 128] inb_S8x128_S1x128_0_0) :=
  View.readCov_fill _ _ _ _ _ (by decide)

theorem zero_row (l : Fin 128) : @Eq EReal (zeroRow (ix2 0 l)) 0 := by
  rw [zeroRow_eq]
  refine (Cert.RowNorm.band_ld 0 _ zeros 0 l 0 rfl).trans ?_
  unfold zeros k0_pay4
  pointwise

theorem head_row (v : Vec Ideal S8x128 .f32) (l : Fin 128) : @Eq EReal (headRow v (ix2 0 l)) (v (ix2 0 l)) :=
  Cert.RowNorm.band_ld 0 _ v 0 l 0 rfl

/-- The forget gate's logit at a row of a sequence, for a head. -/
def logit (X : Vec Ideal S4x4096x2048 .f32) (W : Vec Ideal S2x2048x7176 .f32) (B : Vec Ideal S2x8 .f32) (b : Fin 4) (s : Fin 4096) (g : Fin 8) : EReal :=
  (∑ k : Fin 2048, X (ix3 b s k) * W (ix3 1 k (⟨3072 + g.val, by omega⟩ : Fin 7176))) + B (ix2 1 g)

/-- The forget gates of a head along a sequence. -/
def gateSeq (X : Vec Ideal S4x4096x2048 .f32) (W : Vec Ideal S2x2048x7176 .f32) (B : Vec Ideal S2x8 .f32) (b : Fin 4) (g : Fin 8) (j : ℕ) : EReal :=
  lsig (logit X W B b ⟨j % 4096, Nat.mod_lt _ (by decide)⟩ g)

theorem lt_32 (t : Fin cfg0.N) : t.val < 32 := lt_of_lt_of_eq t.isLt N_0

/-- The gates of head `g` at a step. -/
abbrev seqOf (t : Fin cfg0.N) (g : Fin 8) : ℕ → EReal :=
  gateSeq (m ((c : Thread nD τ).loc main_arg0)) (m ((c : Thread nD τ).loc main_arg1)) (m ((c : Thread nD τ).loc main_arg2)) (⟨t.val / 8, by have := lt_32 t; omega⟩ : Fin 4) g

theorem low_apply (t : Fin cfg0.N) (a : Fin 256) (k : Fin 2048) (r : Fin 512) (h : r.val = 0 + a.val) :
    @Eq EReal (low m c t (ix2 a k)) ((iblk m c 0 t : Vec Ideal S512x2048 .bf16) (ix2 r k)) := by
  unfold low
  exact Cert.RowNorm.band_ld (Val := Elt Ideal) (e := .bf16) (n := 512) (m := 256) (c := 2048) 0 _ (iblk m c 0 t) a k r h

theorem high_apply (t : Fin cfg0.N) (a : Fin 256) (k : Fin 2048) (r : Fin 512) (h : r.val = 256 + a.val) :
    @Eq EReal (high m c t (ix2 a k)) ((iblk m c 0 t : Vec Ideal S512x2048 .bf16) (ix2 r k)) := by
  unfold high
  exact Cert.RowNorm.band_ld (Val := Elt Ideal) (e := .bf16) (n := 512) (m := 256) (c := 2048) 256 _ (iblk m c 0 t) a k r h

theorem gate_at (t : Fin cfg0.N) (r : Fin 512) (g : Fin 8) :
    @Eq EReal (gates (low m c t) (k0_pay5 (iblk m c 1 t)) (high m c t) (iblk m c 2 t) (ix2 r (⟨g.val, by omega⟩ : Fin 128)))
      (seqOf m c t g (512 * (t.val % 8) + r.val)) := by
  have ht := lt_32 t
  rw [gates_apply]
  unfold seqOf gateSeq logit
  refine congrArg lsig (congrArg₂ (fun a b : EReal => a + b) (Finset.sum_congr rfl fun k _ => ?_) ?_)
  · rw [pay5_apply _ _ _ g.isLt, weight_apply, entry_weight]
    refine congrArg₂ (fun a b : EReal => a * b) ?_ rfl
    have hx : ∀ v : Fin 512, v = r → @Eq EReal ((iblk m c 0 t : Vec Ideal S512x2048 .bf16) (ix2 v k)) (m ((c : Thread nD τ).loc main_arg0) (ix3 (⟨t.val / 8, by omega⟩ : Fin 4) (⟨(512 * (t.val % 8) + r.val) % 4096, Nat.mod_lt _ (by decide)⟩ : Fin 4096) k)) := by
      rintro v rfl
      rw [rows_apply, entry_rows]
      refine congrArg₂ (fun p q => m ((c : Thread nD τ).loc main_arg0) (ix3 p q k)) (Fin.ext ?_) (Fin.ext ?_)
      · dsimp only; omega
      · dsimp only; omega
    split_ifs with h
    · exact (low_apply m c t _ k r (Nat.zero_add _).symm).trans (hx r rfl)
    · exact (high_apply m c t _ k r (by dsimp only; omega)).trans (hx r rfl)
  · rw [bias_apply, entry_bias _ _ _ g.isLt]

/-- The running sums of a step, when the carried row holds what came before. -/
theorem sums_at (t : Fin cfg0.N) (q : Vec Ideal S1x128 .f32) (g : Fin 8)
    (hq : @Eq EReal (q (ix2 0 (⟨g.val, by omega⟩ : Fin 128))) (∑ j ∈ Finset.range (512 * (t.val % 8)), seqOf m c t g j)) (r : Fin 512) :
    @Eq EReal (k0_pay9 rowIota (runs m c t (k0_pay5 (iblk m c 1 t))) 256#32 q (ix2 r (⟨g.val, by omega⟩ : Fin 128)))
      (∑ j ∈ Finset.range (512 * (t.val % 8) + r.val + 1), seqOf m c t g j) := by
  refine (sums_apply (low m c t) (k0_pay5 (iblk m c 1 t)) (high m c t) (iblk m c 2 t) q
    (fun l j => gates (low m c t) (k0_pay5 (iblk m c 1 t)) (high m c t) (iblk m c 2 t) (ix2 (⟨j % 512, Nat.mod_lt _ (by decide)⟩ : Fin 512) l))
    (fun r l => congrArg (fun p => gates (low m c t) (k0_pay5 (iblk m c 1 t)) (high m c t) (iblk m c 2 t) (ix2 p l)) (Fin.ext (Nat.mod_eq_of_lt r.isLt).symm)) r _).trans ?_
  rw [hq, Nat.add_assoc, Finset.sum_range_add _ (512 * (t.val % 8)) (r.val + 1), add_comm]
  refine congrArg (fun e : EReal => (∑ j ∈ Finset.range (512 * (t.val % 8)), seqOf m c t g j) + e) (Finset.sum_congr rfl fun j hj => ?_)
  have hj' : j < 512 := lt_of_lt_of_le (Finset.mem_range.mp hj) r.isLt
  refine (gate_at m c t _ g).trans ?_
  exact congrArg (fun i => seqOf m c t g (512 * (t.val % 8) + i)) (Nat.mod_eq_of_lt hj')

/-- What a step starts with: its weight, and the sums of the rows before it. -/
theorem state : ∀ (n : ℕ) (h : n < cfg0.N), ∃ q : Vec Ideal S1x128 .f32,
    (∀ g : Fin 8, @Eq EReal (q (ix2 0 (⟨g.val, by omega⟩ : Fin 128))) (∑ j ∈ Finset.range (512 * (n % 8)), seqOf m c ⟨n, h⟩ g j))
    ∧ (outsAt0 m c n h).1 = outK m c ⟨n, h⟩ (k0_pay5 (iblk m c 1 ⟨n, h⟩)) q
    ∧ (outsAt0 m c n h).2.1 = outQ m c ⟨n, h⟩ (k0_pay5 (iblk m c 1 ⟨n, h⟩)) q
    ∧ (outsAt0 m c n h).2.2.1 = k0_pay10 rowIota (runs m c ⟨n, h⟩ (k0_pay5 (iblk m c 1 ⟨n, h⟩))) 256#32 q
    ∧ (outsAt0 m c n h).2.2.2 = k0_pay5 (iblk m c 1 ⟨n, h⟩) := by
  intro n
  induction n with
  | zero => exact fun h => ⟨zeroRow, fun g => zero_row _, first_step m c ⟨0, h⟩ rfl⟩
  | succ n ih =>
    intro h
    by_cases h0 : (n + 1) % 8 = 0
    · exact ⟨zeroRow, fun g => (zero_row _).trans (by rw [h0]; rfl), first_step m c ⟨n + 1, h⟩ h0⟩
    · obtain ⟨q, hq, -, -, hc, hw⟩ := ih (Nat.lt_of_succ_lt h)
      refine ⟨headRow (k0_pay10 rowIota (runs m c ⟨n, Nat.lt_of_succ_lt h⟩ (k0_pay5 (iblk m c 1 ⟨n, Nat.lt_of_succ_lt h⟩))) 256#32 q), fun g => ?_, ?_⟩
      · rw [head_row, pay10_apply, sums_at m c ⟨n, Nat.lt_of_succ_lt h⟩ q g (hq g) 511]
        have e1 : 512 * (n % 8) + (511 : Fin 512).val + 1 = 512 * ((n + 1) % 8) := by
          show 512 * (n % 8) + 511 + 1 = _
          omega
        have e2 : (⟨n / 8, by have := lt_32 ⟨n + 1, h⟩; dsimp only at this; omega⟩ : Fin 4) = ⟨(n + 1) / 8, by have := lt_32 ⟨n + 1, h⟩; dsimp only at this; omega⟩ := Fin.ext (by dsimp only; omega)
        dsimp only at e1 ⊢
        rw [e1]
        unfold seqOf
        dsimp only
        rw [e2]
      · exact later_step m c ⟨n + 1, h⟩ h0 _ _ hc (hw.trans (congrArg (fun x => k0_pay5 x) (same_weight m c _ _)))

end Cert.FgateEq
-- ==== Proof.FgateAlgebraic.lean ====
/-
  The call that sums the forget gates, read as a value, and what it is compared with.
-/
module

public import proofs.«01_k».proof.Defs
public import proofs.«01_k».proof.Proof.FgateScan
public import proofs.«01_k».proof.Proof.FgateEntry
public import proofs.«01_k».proof.Proof.FgateCarry
public import proofs.«01_k».proof.Proof.FoxAlgebraic
public import proofs.«01_k».proof.Proof.LayerNorm
public import proofs.«01_k».proof.Proof.Projection
public import proofs.«01_k».proof.Proof.Gen.FgateRefIdeal.Run
public import proofs.«01_k».proof.Proof.Gen.FgateRefIdeal.Read
public import proofs.«01_k».proof.Proof.Gen.Pre_finite_logits
public import Idealize.ShloMosaic.Lib.Tactic
public import Idealize.ShloMosaic.Lib.Claim
public import Idealize.ShloMosaic.Lib.Pipeline.ValueKit.Acc
public import Idealize.ShloMosaic.Lib.Pipeline.ValueKit.Tiles
public import Idealize.ShloMosaic.Lib.Pipeline.ReadBack
public import Idealize.ShloMosaic.Lib.Pointwise
public import Idealize.ShloMosaic.Lib.WordCmp

@[expose] public section

set_option maxRecDepth 8192

noncomputable section

open Idealize.ShloMosaic Idealize.ShloMosaic.TcCoe Idealize.SL.Sem

namespace Cert.FgateEq
open Cert.Gate

section Finite
open Cert.FoxEq (Fin' fin_of_abs)

theorem real_max (x y : ℝ) : max (x : EReal) (y : EReal) = ((max x y : ℝ) : EReal) := (EReal.coe_strictMono.monotone.map_max).symm
theorem real_min (x y : ℝ) : min (x : EReal) (y : EReal) = ((min x y : ℝ) : EReal) := (EReal.coe_strictMono.monotone.map_min).symm

theorem log_real (y : ℝ) : Ideal.log (1 + Ideal.exp (y : EReal)) = ((Real.log (1 + Real.exp y) : ℝ) : EReal) := by
  have h := Real.exp_pos y
  rw [Ideal.exp_coe, ← EReal.coe_one, ← EReal.coe_add, Ideal.log_coe, if_neg (by linarith)]

theorem lsig_real (x : ℝ) : lsig (x : EReal) = ((min x 0 - Real.log (1 + Real.exp (0 - max x (-x))) : ℝ) : EReal) := by
  unfold lsig
  rw [← EReal.coe_neg, real_max, ← EReal.coe_zero, real_min, ← EReal.coe_sub, log_real, ← EReal.coe_sub]

theorem sum_real (f : ℕ → EReal) (h : ∀ j, Fin' (f j)) (n : ℕ) : Fin' (∑ j ∈ Finset.range n, f j) := by
  induction n with
  | zero => exact ⟨0, by simp⟩
  | succ n ih => rw [Finset.sum_range_succ]; exact ih.add (h n)

theorem scale_real : Fin' scale := by
  unfold scale
  simp only [Ideal.ofBits, Ideal.ieee]
  norm_num
  exact ⟨_, rfl⟩

end Finite

section Kernel
open Cert.FgateIdeal Cert.FgateIdeal.Gen Cert.FgateIdeal.Value
open Cert.FoxEq (Fin' fin_of_abs)

/-- A sum against a column of a table that holds `e` where lane and part meet the column's head and place. -/
theorem sel_sum (p s : Fin 384 → EReal) (o : ℕ) (e : EReal) (n : Fin 1024)
    (hs : ∀ j, s j = if j.val % 128 = n.val / 128 ∧ n.val % 128 = j.val / 128 + o then e else 0) :
    ∑ j, p j * s j = if h : o ≤ n.val % 128 ∧ n.val % 128 < o + 3 then p (⟨(n.val % 128 - o) * 128 + n.val / 128, by omega⟩ : Fin 384) * e else 0 := by
  split_ifs with h
  · rw [picked p s ⟨(n.val % 128 - o) * 128 + n.val / 128, by omega⟩ fun j hj => ?_, hs, if_pos (by dsimp only; omega)]
    rw [hs, if_neg fun hc => hj (Fin.ext (by dsimp only; omega))]
  · refine Finset.sum_eq_zero fun j _ => ?_
    have := j.isLt
    rw [hs, if_neg (by omega), mul_zero]

theorem sel_parts (u : FVec Ideal S512x128 .f32) (r : Fin 512) (n : Fin 1024) (s : Fin 384 → EReal) (o : ℕ) (e : EReal)
    (hs : ∀ j, s j = if j.val % 128 = n.val / 128 ∧ n.val % 128 = j.val / 128 + o then e else 0)
    (hu : ∃ x : ℝ, @Eq EReal (u (ix2 r (⟨n.val / 128, by omega⟩ : Fin 128)) * scale) x) :
    @Eq EReal (∑ j : Fin 384, parts u (ix2 r j) * s j) (if n.val % 128 = o then u (ix2 r (⟨n.val / 128, by omega⟩ : Fin 128)) * scale * e else 0) := by
  refine (sel_sum (fun j => parts u (ix2 r j)) s o e n hs).trans ?_
  split_ifs with h h' h'
  · refine congrArg (fun a : EReal => a * e) ?_
    refine (parts_apply u r ⟨n.val % 128 - o, by omega⟩ ⟨n.val / 128, by omega⟩ hu).trans (if_pos (Fin.ext ?_))
    show n.val % 128 - o = 0
    omega
  · refine (congrArg (fun a : EReal => a * e) ?_).trans (zero_mul e)
    refine (parts_apply u r ⟨n.val % 128 - o, by omega⟩ ⟨n.val / 128, by omega⟩ hu).trans (if_neg fun hc => ?_)
    have : n.val % 128 - o = 0 := congrArg Fin.val hc
    omega
  · omega
  · rfl

variable (m : (ℓ : Loc nD τ sig) → Buf (Elt Ideal) ℓ) (c : Dev nD)

theorem outK_apply (t : Fin cfg0.N) (w : Vec Ideal S128x2048 .bf16) (q : Vec Ideal S1x128 .f32) (r : Fin 512) (n : Fin 1024) :
    @Eq EReal (outK m c t w q (ix2 r n))
      ((∑ j : Fin 384, parts (k0_pay9 rowIota (runs m c t w) 256#32 q) (ix2 r j) * (iblk m c 3 t : Vec Ideal S384x1024 .bf16) (ix2 j n)) + (iblk m c 5 t : Vec Ideal S1x1024 .f32) (ix2 0 n)) := by
  unfold outK
  canon_tiles y h
  all_goals (obtain ⟨a, j, rfl⟩ : ∃ (a : Fin 256) (j : Fin 1024), y = ix2 a j := ⟨y 0, y 1, eq_ix2 y⟩)
  all_goals (obtain rfl : n = j := Fin.ext h1)
  · have e : (⟨256 + a.val, by omega⟩ : Fin 512) = r := Fin.ext h0.symm
    refine (pay2_apply _ _ _ a n).trans ?_
    rw [pay11_eq, e]
  · have e : (⟨a.val, by omega⟩ : Fin 512) = r := Fin.ext h0.symm
    refine (pay13_apply _ _ _ _ a n).trans ?_
    rw [pay11_eq, e]

theorem outQ_apply (t : Fin cfg0.N) (w : Vec Ideal S128x2048 .bf16) (q : Vec Ideal S1x128 .f32) (r : Fin 512) (n : Fin 1024) :
    @Eq EReal (outQ m c t w q (ix2 r n))
      ((∑ j : Fin 384, parts (k0_pay9 rowIota (runs m c t w) 256#32 q) (ix2 r j) * (iblk m c 4 t : Vec Ideal S384x1024 .bf16) (ix2 j n)) + (iblk m c 6 t : Vec Ideal S1x1024 .f32) (ix2 0 n)) := by
  unfold outQ
  canon_tiles y h
  all_goals (obtain ⟨a, j, rfl⟩ : ∃ (a : Fin 256) (j : Fin 1024), y = ix2 a j := ⟨y 0, y 1, eq_ix2 y⟩)
  all_goals (obtain rfl : n = j := Fin.ext h1)
  · have e : (⟨256 + a.val, by omega⟩ : Fin 512) = r := Fin.ext h0.symm
    refine (pay3_apply _ _ _ a n).trans ?_
    rw [pay11_eq, e]
  · have e : (⟨a.val, by omega⟩ : Fin 512) = r := Fin.ext h0.symm
    refine (pay12_apply _ _ _ _ a n).trans ?_
    rw [pay11_eq, e]

/-- The running sum of a head's gates up to a row, times the factor. -/
def cum (X : Vec Ideal S4x4096x2048 .f32) (W : Vec Ideal S2x2048x7176 .f32) (B : Vec Ideal S2x8 .f32) (b : Fin 4) (g : Fin 8) (s : ℕ) : EReal :=
  (∑ j ∈ Finset.range (s + 1), gateSeq X W B b g j) * scale

theorem cum_real (X : Vec Ideal S4x4096x2048 .f32) (W : Vec Ideal S2x2048x7176 .f32) (B : Vec Ideal S2x8 .f32) (b : Fin 4) (g : Fin 8) (s : ℕ)
    (h : ∀ s, Fin' (logit X W B b s g)) : Fin' (cum X W B b g s) := by
  unfold cum
  refine (sum_real _ (fun j => ?_) _).mul scale_real
  unfold gateSeq
  obtain ⟨x, hx⟩ := h ⟨j % 4096, Nat.mod_lt _ (by decide)⟩
  rw [hx, lsig_real]
  exact ⟨_, rfl⟩

/-- The first result at a head's place `l`. -/
def specK (e : EReal) (l : ℕ) : EReal := (if l = 0 then e * -1 else 0) + (if 3 ≤ l ∧ l < 6 then 1 else 0)
/-- The second result at a head's place `l`. -/
def specQ (e : EReal) (l : ℕ) : EReal := (if l = 3 then e * 1 else 0) + (if l < 3 then 1 else 0)

abbrev cumOf (R : Fin 16384) (n : Fin 1024) : EReal :=
  cum (m ((c : Thread nD τ).loc main_arg0)) (m ((c : Thread nD τ).loc main_arg1)) (m ((c : Thread nD τ).loc main_arg2)) (⟨R.val / 4096, by omega⟩ : Fin 4) (⟨n.val / 128, by omega⟩ : Fin 8) (R.val % 4096)

/-- The step that writes a row, and the place of the row in it. -/
theorem sums_row (R : Fin 16384) (n : Fin 1024) (h : R.val / 512 < cfg0.N) (q : Vec Ideal S1x128 .f32)
    (hq : ∀ g : Fin 8, @Eq EReal (q (ix2 0 (⟨g.val, by omega⟩ : Fin 128))) (∑ j ∈ Finset.range (512 * (R.val / 512 % 8)), seqOf m c ⟨R.val / 512, h⟩ g j)) :
    @Eq EReal (k0_pay9 rowIota (runs m c ⟨R.val / 512, h⟩ (k0_pay5 (iblk m c 1 ⟨R.val / 512, h⟩))) 256#32 q (ix2 (⟨R.val % 512, by omega⟩ : Fin 512) (⟨n.val / 128, by omega⟩ : Fin 128)) * scale)
      (cumOf m c R n) := by
  unfold cumOf cum
  refine congrArg (fun a : EReal => a * scale) ((sums_at m c ⟨R.val / 512, h⟩ q ⟨n.val / 128, by omega⟩ (hq _) ⟨R.val % 512, by omega⟩).trans ?_)
  have e1 : 512 * (R.val / 512 % 8) + R.val % 512 + 1 = R.val % 4096 + 1 := by omega
  have e2 : ∀ hb, (⟨R.val / 512 / 8, hb⟩ : Fin 4) = ⟨R.val / 4096, by omega⟩ := fun hb => Fin.ext (by dsimp only; omega)
  unfold seqOf
  dsimp only
  rw [e1, e2]

theorem arrayK (hf : ∀ R n, Fin' (cumOf m c R n)) (R : Fin 16384) (n : Fin 1024) :
    @Eq EReal (G7 m c (ix2 R n)) (specK (cumOf m c R n) (n.val % 128)) := by
  have hN : cfg0.N = 32 := N_0
  have hp : pt7Of (ix2 R n) = R.val / 512 := by show 1 * (R.val / 512 - 0) + 1 * (n.val / 1024 - 0) = _; omega
  have hlt : R.val / 512 < cfg0.N := by omega
  have hlt' : pt7Of (ix2 R n) < cfg0.N := by omega
  unfold G7
  rw [dif_pos hlt', ← outsAt0_sweep m c _ hlt']
  have hl : loc7Of (ix2 R n) = ix2 (⟨R.val % 512, by omega⟩ : Fin 512) n :=
    (eq_ix2 _).trans (congrArg₂ ix2 rfl (Fin.ext (Nat.mod_eq_of_lt n.isLt)))
  rw [hl]
  have key : @Eq EReal ((outsAt0 m c (R.val / 512) hlt).1 (ix2 (⟨R.val % 512, by omega⟩ : Fin 512) n)) (specK (cumOf m c R n) (n.val % 128)) := by
    obtain ⟨q, hq, ho, -⟩ := state m c (R.val / 512) hlt
    rw [ho, outK_apply]
    have hu := sums_row m c R n hlt q hq
    have hs := sel_parts _ (⟨R.val % 512, by omega⟩ : Fin 512) n (fun j => (iblk m c 3 ⟨R.val / 512, hlt⟩ : Vec Ideal S384x1024 .bf16) (ix2 j n)) 0 (-1)
      (fun j => (selk_apply m c _ j n).trans (entry_selk m c j n)) ((hf R n).imp fun x hx => hu.trans hx)
    unfold specK
    refine congrArg₂ (fun a b : EReal => a + b) (hs.trans ?_) ((onek_apply m c _ n).trans (entry_onek m c n))
    rw [hu]
  simpa only [hp] using key

theorem arrayQ (hf : ∀ R n, Fin' (cumOf m c R n)) (R : Fin 16384) (n : Fin 1024) :
    @Eq EReal (G8 m c (ix2 R n)) (specQ (cumOf m c R n) (n.val % 128)) := by
  have hN : cfg0.N = 32 := N_0
  have hp : pt8Of (ix2 R n) = R.val / 512 := by show 1 * (R.val / 512 - 0) + 1 * (n.val / 1024 - 0) = _; omega
  have hlt : R.val / 512 < cfg0.N := by omega
  have hlt' : pt8Of (ix2 R n) < cfg0.N := by omega
  unfold G8
  rw [dif_pos hlt', ← outsAt0_sweep m c _ hlt']
  have hl : loc8Of (ix2 R n) = ix2 (⟨R.val % 512, by omega⟩ : Fin 512) n :=
    (eq_ix2 _).trans (congrArg₂ ix2 rfl (Fin.ext (Nat.mod_eq_of_lt n.isLt)))
  rw [hl]
  have key : @Eq EReal ((outsAt0 m c (R.val / 512) hlt).2.1 (ix2 (⟨R.val % 512, by omega⟩ : Fin 512) n)) (specQ (cumOf m c R n) (n.val % 128)) := by
    obtain ⟨q, hq, -, ho, -⟩ := state m c (R.val / 512) hlt
    rw [ho, outQ_apply]
    have hu := sums_row m c R n hlt q hq
    have hs := sel_parts _ (⟨R.val % 512, by omega⟩ : Fin 512) n (fun j => (iblk m c 4 ⟨R.val / 512, hlt⟩ : Vec Ideal S384x1024 .bf16) (ix2 j n)) 3 1
      (fun j => (selq_apply m c _ j n).trans (entry_selq m c j n)) ((hf R n).imp fun x hx => hu.trans hx)
    unfold specQ
    refine congrArg₂ (fun a b : EReal => a + b) (hs.trans ?_) ((oneq_apply m c _ n).trans (entry_oneq m c n))
    rw [hu]
  simpa only [hp] using key

end Kernel

section Reference
open Cert.FgateRefIdeal Cert.FgateRefIdeal.Gen
open Cert.FgateRefIdeal.Read
open Cert.FoxEq (Fin' fin_of_abs)
variable (X : Vec Ideal S4x4096x2048 .f32) (W : Vec Ideal S2x2048x7176 .f32) (B : Vec Ideal S2x8 .f32)

theorem ref_logit (b : Fin 4) (s : Fin 4096) (g : Fin 8) : @Eq EReal (val_main_v15 (F := Ideal) X W B (ix3 b s g)) (logit X W B b s g) := by
  unfold val_main_v15 val_main_v14 val_main_v13 val_main_v12 val_main_v11 val_main_v10 val_main_v9 val_main_v8 val_main_v7
  pointwise
  rfl

theorem pre_at (h : Cert.Pre_finite_logits.fn (F := Ideal) X W B = fun _ => 1#1) (b : Fin 4) (s : Fin 4096) (g : Fin 8) : Fin' (logit X W B b s g) := by
  have e := congrFun h (ix3 b s g)
  unfold Cert.Pre_finite_logits.fn at e
  pointwise at e
  have hT : Ideal.ofBits .f32 2139095040#32 = (⊤ : EReal) := by simp [Ideal.ofBits, Ideal.ieee]
  rw [hT] at e
  refine fin_of_abs ?_
  by_contra hn
  have hd : decide (max (logit X W B b s g) (-(logit X W B b s g)) < ⊤) = false := decide_eq_false hn
  have e' := (congrArg BitVec.ofBool hd).symm.trans e
  exact absurd e' (by decide)

theorem ref_gate (b : Fin 4) (s : Fin 4096) (g : Fin 8) (hf : Fin' (logit X W B b s g)) :
    @Eq EReal (val_main_v16 (F := Ideal) X W B (ix3 b s g)) (gateSeq X W B b g s.val) := by
  have hg : gateSeq X W B b g s.val = lsig (logit X W B b s g) := by
    unfold gateSeq
    rw [show (⟨s.val % 4096, Nat.mod_lt _ (by decide)⟩ : Fin 4096) = s from Fin.ext (Nat.mod_eq_of_lt s.isLt)]
  rw [hg]
  simp only [val_main_v16, val_main_call0_v1, val_main_call0_v0, val_main_call0_call0_v0, val_main_call0_call0_v1, val_main_call0_call0_v2, val_main_call0_call0_v3, val_main_call0_call0_v4, val_main_call0_call0_v5,
    val_main_call0_call0_v6, val_main_call0_call0_v7, val_main_call0_call0_v8, val_main_call0_call0_v9, val_main_call0_call0_v10, val_main_call0_call0_v11, val_main_call0_call0_cst]
  pointwise
  simp only [ref_logit]
  obtain ⟨x, hx⟩ := hf
  rw [hx, lsig_real, if_neg (not_not_intro rfl)]
  have ha : @Eq EReal (FloatOps.absf (F := Ideal) (φ := .f32) (-(x : EReal))) ((max (-x) x : ℝ) : EReal) := by
    show max (-(x : EReal)) (-(-(x : EReal))) = _
    rw [neg_neg, ← EReal.coe_neg, real_max]
  rw [ha]
  unfold Ideal.log1p
  rw [← EReal.coe_neg, ← EReal.coe_neg, log_real, ← EReal.coe_zero, real_max, ← EReal.coe_add, ← EReal.coe_neg, max_comm (-x) x, zero_sub]
  refine congrArg (fun a : ℝ => (a : EReal)) ?_
  rcases le_total x 0 with h | h
  · rw [max_eq_left (neg_nonneg.mpr h), min_eq_left h]
    ring
  · rw [max_eq_right (neg_nonpos.mpr h), min_eq_right h]
    ring

theorem ref_sum (b : Fin 4) (s : Fin 4096) (g : Fin 8) (hf : ∀ s, Fin' (logit X W B b s g)) :
    @Eq EReal (val_main_v18 (F := Ideal) X W B (ix3 b s g)) (∑ j ∈ Finset.range (s.val + 1), gateSeq X W B b g j) := by
  simp only [val_main_v18, val_main_v17, val_main_v6, val_main_v5, val_main_v4, val_main_v3, val_main_v2, val_main_v1, val_main_v0]
  pointwise
  have hr := s.isLt
  have hs : Finset.range (s.val + 1) = (Finset.range 4096).filter (fun j => j ≤ s.val) := by
    ext j
    simp only [Finset.mem_filter, Finset.mem_range]
    omega
  rw [hs, Finset.sum_filter, ← Fin.sum_univ_eq_sum_range (fun j => if j ≤ s.val then gateSeq X W B b g j else 0) 4096]
  refine Finset.sum_congr rfl fun j _ => ?_
  have hj := j.isLt
  rw [ref_gate X W B b j g (hf j)]
  have hc := WordCmp.cmpi_sle_ofNat_eq_one_iff (w := 32) (a := j.val) (b := s.val) (by omega) (by omega)
  by_cases h : j.val ≤ s.val
  · rw [if_pos h, hc.mpr h]
    have h1 : @Eq EReal (FloatOps.uitofp (F := Ideal) FTy.f32 1#1) 1 := by
      show (((1#1 : BitVec 1).toNat : ℝ) : EReal) = 1
      simp
    exact (congrArg (fun a : EReal => gateSeq X W B b g j.val * a) h1).trans (mul_one _)
  · rw [if_neg h, (WordCmp.cmpi_sle_ofNat_eq_zero_iff (w := 32) (a := j.val) (b := s.val) (by omega) (by omega)).mpr h]
    have h1 : @Eq EReal (FloatOps.uitofp (F := Ideal) FTy.f32 0#1) 0 := by
      show (((0#1 : BitVec 1).toNat : ℝ) : EReal) = 0
      simp
    exact (congrArg (fun a : EReal => gateSeq X W B b g j.val * a) h1).trans (mul_zero _)

theorem ref_cum (b : Fin 4) (s : Fin 4096) (g : Fin 8) (hf : ∀ s, Fin' (logit X W B b s g)) :
    @Eq EReal (val_main_v20 (F := Ideal) X W B (ix3 b s g)) (cum X W B b g s.val) := by
  simp only [val_main_v20, val_main_v19, val_main_cst]
  pointwise
  rw [ref_sum X W B b s g hf]
  rfl

theorem ones_K (l : Fin 128) : @Eq EReal (val_main_v31 (F := Ideal) (ix1 l)) (if 3 ≤ l.val ∧ l.val < 6 then 1 else 0) := by
  simp only [val_main_v31, val_main_call1_v1, val_main_call1_v0, val_main_cst_3, val_main_cst_2, val_main_v30, val_main_v29, val_main_v28, val_main_c_1, val_main_v27, val_main_v26, val_main_c_0, val_main_v22]
  pointwise
  have hl : l.val < 128 := l.isLt
  word_cmp

theorem ones_Q (l : Fin 128) : @Eq EReal (val_main_v37 (F := Ideal) (ix1 l)) (if l.val < 3 then 1 else 0) := by
  simp only [val_main_v37, val_main_call3_v1, val_main_call3_v0, val_main_cst_7, val_main_cst_6, val_main_v36, val_main_v35, val_main_c_5, val_main_v22]
  pointwise
  have hl : l.val < 128 := l.isLt
  word_cmp

theorem place_K (hf : ∀ b s g, Fin' (logit X W B b s g)) (b : Fin 4) (s : Fin 4096) (g : Fin 8) (l : Fin 128) :
    @Eq EReal (val_main_v32 (F := Ideal) X W B (ix4 b s g l)) (specK (cum X W B b g s.val) l.val) := by
  simp only [val_main_v32, val_main_call2_v3, val_main_call2_v2, val_main_call2_v1, val_main_call2_v0, val_main_v25, val_main_v24, val_main_v23, val_main_c, val_main_v22, val_main_v21]
  pointwise
  simp only [ref_cum X W B _ _ _ (fun s => hf _ s _), id_eq, ones_K]
  have hl : l.val < 128 := l.isLt
  unfold specK
  by_cases h : l.val = 0
  · rw [h, if_pos rfl, if_neg (by omega), mul_neg, mul_one, add_zero]
    rfl
  · have hc : IntOp.cmpi CmpIPredicate.eq (BitVec.ofNat 32 l.val) (BitVec.ofNat 32 0) = 0#1 := by
      word_cmp
    rw [if_neg h, zero_add, show (0#32 : BitVec 32) = BitVec.ofNat 32 0 from rfl, hc]
    rfl

theorem place_Q (hf : ∀ b s g, Fin' (logit X W B b s g)) (b : Fin 4) (s : Fin 4096) (g : Fin 8) (l : Fin 128) :
    @Eq EReal (val_main_v38 (F := Ideal) X W B (ix4 b s g l)) (specQ (cum X W B b g s.val) l.val) := by
  simp only [val_main_v38, val_main_call4_v3, val_main_call4_v2, val_main_call4_v1, val_main_call4_v0, val_main_v34, val_main_v33, val_main_c_4, val_main_v22, val_main_v21]
  pointwise
  simp only [ref_cum X W B _ _ _ (fun s => hf _ s _), id_eq, ones_Q]
  have hl : l.val < 128 := l.isLt
  unfold specQ
  by_cases h : l.val = 3
  · rw [h, if_pos rfl, if_neg (by omega), mul_one, add_zero]
    rfl
  · have hc : IntOp.cmpi CmpIPredicate.eq (BitVec.ofNat 32 l.val) (BitVec.ofNat 32 3) = 0#1 := by
      word_cmp
    rw [if_neg h, zero_add, show (3#32 : BitVec 32) = BitVec.ofNat 32 3 from rfl, hc]
    rfl

theorem ref_K (hf : ∀ b s g, Fin' (logit X W B b s g)) (R : Fin 16384) (n : Fin 1024) :
    @Eq EReal (val_main_v40 (F := Ideal) X W B (ix2 R n)) (specK (cum X W B (⟨R.val / 4096, by omega⟩ : Fin 4) (⟨n.val / 128, by omega⟩ : Fin 8) (R.val % 4096)) (n.val % 128)) := by
  unfold val_main_v40 val_main_v39
  pointwise
  exact place_K X W B hf _ _ _ _

theorem ref_Q (hf : ∀ b s g, Fin' (logit X W B b s g)) (R : Fin 16384) (n : Fin 1024) :
    @Eq EReal (val_main_v42 (F := Ideal) X W B (ix2 R n)) (specQ (cum X W B (⟨R.val / 4096, by omega⟩ : Fin 4) (⟨n.val / 128, by omega⟩ : Fin 8) (R.val % 4096)) (n.val % 128)) := by
  unfold val_main_v42 val_main_v41
  pointwise
  exact place_Q X W B hf _ _ _ _

end Reference
end Cert.FgateEq

theorem Cert.FgateEq.algebraic : algebraic_FgateIdeal_FgateRefIdeal_pre_finite_logits := by
  intro m ρ m' ρ' hpre hagree
  refine ⟨_, _, Cert.FgateIdeal.Value.run (F := Ideal) m ρ, ?_⟩
  refine (θ_run Cert.FgateRefIdeal.defs _ _).mono (fun _ h c => ⟨?_, ?_, (h c).2.2⟩) (Cert.FgateRefIdeal.Value.run (F := Ideal) m' ρ')
  · obtain ⟨h0, h1, h2⟩ := hagree c
    have hf := Cert.FgateEq.pre_at _ _ _ (hpre c)
    rw [(h c).1, Cert.FgateRefIdeal.Read.val_main_v40_eq, h0, h1, h2]
    funext i
    obtain ⟨r, a, rfl⟩ : ∃ (r : Fin 16384) (a : Fin 1024), i = ix2 r a := ⟨i 0, i 1, eq_ix2 i⟩
    exact (Cert.FgateEq.ref_K _ _ _ hf r a).trans (Cert.FgateEq.arrayK m c (fun R n => Cert.FgateEq.cum_real _ _ _ _ _ _ fun s => hf _ s _) r a).symm
  · obtain ⟨h0, h1, h2⟩ := hagree c
    have hf := Cert.FgateEq.pre_at _ _ _ (hpre c)
    rw [(h c).2.1, Cert.FgateRefIdeal.Read.val_main_v42_eq, h0, h1, h2]
    funext i
    obtain ⟨r, a, rfl⟩ : ∃ (r : Fin 16384) (a : Fin 1024), i = ix2 r a := ⟨i 0, i 1, eq_ix2 i⟩
    exact (Cert.FgateEq.ref_Q _ _ _ hf r a).trans (Cert.FgateEq.arrayQ m c (fun R n => Cert.FgateEq.cum_real _ _ _ _ _ _ fun s => hf _ s _) r a).symm
-- ==== Proof.lean ====
/- The claims of the calls, put together. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.FoxRefIdeal.Run
public import proofs.«01_k».proof.Proof.Gen.FoxRefIdeal.Read
public import proofs.«01_k».proof.Proof.Gen.Pre_finite_scores
public import proofs.«01_k».proof.Proof.InProj
public import proofs.«01_k».proof.Proof.FoxFrame
public import proofs.«01_k».proof.Proof.Exact.FoxFrame
public import proofs.«01_k».proof.Proof.FoxAlgebraic
public import proofs.«01_k».proof.Proof.UpAlgebraic
public import proofs.«01_k».proof.Proof.DownAlgebraic
public import proofs.«01_k».proof.Proof.MixAlgebraic
public import proofs.«01_k».proof.Proof.XqAlgebraic
public import proofs.«01_k».proof.Proof.CrossAlgebraic
public import proofs.«01_k».proof.Proof.QkAlgebraic
public import proofs.«01_k».proof.Proof.VtAlgebraic
public import proofs.«01_k».proof.Proof.HvAlgebraic
public import proofs.«01_k».proof.Proof.HgAlgebraic
public import proofs.«01_k».proof.Proof.KvAlgebraic
public import proofs.«01_k».proof.Proof.FgateAlgebraic
public import proofs.«01_k».proof.Proof.Gen.Up.Frame
public import proofs.«01_k».proof.Proof.Gen.UpIdeal.Value
public import proofs.«01_k».proof.Proof.Gen.UpRefIdeal.Run
public import proofs.«01_k».proof.Proof.Gen.UpRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Xq.Frame
public import proofs.«01_k».proof.Proof.Gen.XqIdeal.Value
public import proofs.«01_k».proof.Proof.Gen.XqRefIdeal.Run
public import proofs.«01_k».proof.Proof.Gen.XqRefIdeal.Read
public import proofs.«01_k».proof.Proof.Gen.Qk.Frame
public import proofs.«01_k».proof.Proof.Gen.QkIdeal.Value
public import proofs.«01_k».proof.Proof.Gen.QkRefIdeal.Run
public import proofs.«01_k».proof.Proof.Gen.QkRefIdeal.Read
public import proofs.«01_k».proof.Proof.Gen.Vt.Frame
public import proofs.«01_k».proof.Proof.Gen.VtIdeal.Value
public import proofs.«01_k».proof.Proof.Gen.VtRefIdeal.Run
public import proofs.«01_k».proof.Proof.Gen.VtRefIdeal.Read
public import proofs.«01_k».proof.Proof.Gen.Hv.Frame
public import proofs.«01_k».proof.Proof.Gen.HvIdeal.Value
public import proofs.«01_k».proof.Proof.Gen.HvRefIdeal.Run
public import proofs.«01_k».proof.Proof.Gen.HvRefIdeal.Read
public import proofs.«01_k».proof.Proof.Gen.Hg.Frame
public import proofs.«01_k».proof.Proof.Gen.HgIdeal.Value
public import proofs.«01_k».proof.Proof.Gen.HgRefIdeal.Run
public import proofs.«01_k».proof.Proof.Gen.HgRefIdeal.Read
public import proofs.«01_k».proof.Proof.Gen.Kv.Frame
public import proofs.«01_k».proof.Proof.Gen.KvIdeal.Value
public import proofs.«01_k».proof.Proof.Gen.KvRefIdeal.Run
public import proofs.«01_k».proof.Proof.Gen.KvRefIdeal.Read
public import proofs.«01_k».proof.Proof.Gen.Fgate.Frame
public import proofs.«01_k».proof.Proof.Gen.FgateIdeal.Value
public import proofs.«01_k».proof.Proof.Gen.FgateRefIdeal.Run
public import proofs.«01_k».proof.Proof.Gen.FgateRefIdeal.Read
public import proofs.«01_k».proof.Proof.Gen.Pre_finite_logits
public import proofs.«01_k».proof.Proof.Gen.Hgrn.Frame
public import proofs.«01_k».proof.Proof.Gen.HgrnIdeal.Value
public import proofs.«01_k».proof.Proof.Gen.HgrnRefIdeal.Run
public import proofs.«01_k».proof.Proof.Gen.HgrnRefIdeal.Read
public import proofs.«01_k».proof.Proof.Gen.Cross.Frame
public import proofs.«01_k».proof.Proof.Gen.CrossIdeal.Value
public import proofs.«01_k».proof.Proof.Gen.CrossRefIdeal.Run
public import proofs.«01_k».proof.Proof.Gen.CrossRefIdeal.Read
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_FoxRefIdeal : quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem quiescent_UpRefIdeal : quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem quiescent_DownRefIdeal : quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem quiescent_MixRefIdeal : quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

theorem quiescent_XqRefIdeal : quiescent_XqRefIdeal := fun m ρ _ =>
  (θ_run Cert.XqRefIdeal.defs _ _).mono (fun r h => ⟨fun c => (h c).2, sem_eq_zero_of_no_sems (by decide) r.2⟩)
    (Cert.XqRefIdeal.Value.run (F := Ideal) m ρ)

theorem quiescent_CrossRefIdeal : quiescent_CrossRefIdeal := fun m ρ _ =>
  (θ_run Cert.CrossRefIdeal.defs _ _).mono (fun r h => ⟨fun c => (h c).2.2, sem_eq_zero_of_no_sems (by decide) r.2⟩)
    (Cert.CrossRefIdeal.Value.run (F := Ideal) m ρ)

theorem quiescent_QkRefIdeal : quiescent_QkRefIdeal := fun m ρ _ =>
  (θ_run Cert.QkRefIdeal.defs _ _).mono (fun r h => ⟨fun c => (h c).2, sem_eq_zero_of_no_sems (by decide) r.2⟩)
    (Cert.QkRefIdeal.Value.run (F := Ideal) m ρ)

theorem quiescent_VtRefIdeal : quiescent_VtRefIdeal := fun m ρ _ =>
  (θ_run Cert.VtRefIdeal.defs _ _).mono (fun r h => ⟨fun c => (h c).2, sem_eq_zero_of_no_sems (by decide) r.2⟩)
    (Cert.VtRefIdeal.Value.run (F := Ideal) m ρ)

theorem quiescent_HvRefIdeal : quiescent_HvRefIdeal := fun m ρ _ =>
  (θ_run Cert.HvRefIdeal.defs _ _).mono (fun r h => ⟨fun c => (h c).2, sem_eq_zero_of_no_sems (by decide) r.2⟩)
    (Cert.HvRefIdeal.Value.run (F := Ideal) m ρ)

theorem quiescent_HgRefIdeal : quiescent_HgRefIdeal := fun m ρ _ =>
  (θ_run Cert.HgRefIdeal.defs _ _).mono (fun r h => ⟨fun c => (h c).2, sem_eq_zero_of_no_sems (by decide) r.2⟩)
    (Cert.HgRefIdeal.Value.run (F := Ideal) m ρ)

theorem quiescent_KvRefIdeal : quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

theorem quiescent_HgrnRefIdeal : quiescent_HgrnRefIdeal := fun m ρ _ =>
  (θ_run Cert.HgrnRefIdeal.defs _ _).mono (fun r h => ⟨fun c => (h c).2, sem_eq_zero_of_no_sems (by decide) r.2⟩)
    (Cert.HgrnRefIdeal.Value.run (F := Ideal) m ρ)

theorem quiescent_FgateRefIdeal : quiescent_FgateRefIdeal := fun m ρ _ =>
  (θ_run Cert.FgateRefIdeal.defs _ _).mono (fun r h => ⟨fun c => (h c).2.2, sem_eq_zero_of_no_sems (by decide) r.2⟩)
    (Cert.FgateRefIdeal.Value.run (F := Ideal) m ρ)

theorem claim : Cert.Claim :=
  ⟨Cert.Kernel.Gen.facts, Cert.KernelIdeal.Gen.facts, Cert.ReferenceIdeal.Gen.facts,
    Cert.Fox.Gen.facts, Cert.FoxIdeal.Gen.facts, Cert.FoxRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Mix.Gen.facts, Cert.MixIdeal.Gen.facts, Cert.MixRefIdeal.Gen.facts,
    Cert.Xq.Gen.facts, Cert.XqIdeal.Gen.facts, Cert.XqRefIdeal.Gen.facts,
    Cert.Cross.Gen.facts, Cert.CrossIdeal.Gen.facts, Cert.CrossRefIdeal.Gen.facts,
    Cert.Qk.Gen.facts, Cert.QkIdeal.Gen.facts, Cert.QkRefIdeal.Gen.facts,
    Cert.Vt.Gen.facts, Cert.VtIdeal.Gen.facts, Cert.VtRefIdeal.Gen.facts,
    Cert.Hv.Gen.facts, Cert.HvIdeal.Gen.facts, Cert.HvRefIdeal.Gen.facts,
    Cert.Hg.Gen.facts, Cert.HgIdeal.Gen.facts, Cert.HgRefIdeal.Gen.facts,
    Cert.Kv.Gen.facts, Cert.KvIdeal.Gen.facts, Cert.KvRefIdeal.Gen.facts,
    Cert.Hgrn.Gen.facts, Cert.HgrnIdeal.Gen.facts, Cert.HgrnRefIdeal.Gen.facts,
    Cert.Fgate.Gen.facts, Cert.FgateIdeal.Gen.facts, Cert.FgateRefIdeal.Gen.facts,
    Cert.Pre_finite_scores.Gen.facts, Cert.Pre_finite_logits.Gen.facts,
    fun m ρ _ => Cert.Kernel.Gen.frame m ρ, fun m ρ _ => Cert.KernelIdeal.Gen.frame m ρ, quiescent_ReferenceIdeal,
    fun m ρ _ => Cert.Fox.Flash.frame m ρ, fun m ρ _ => Cert.FoxIdeal.Flash.frame m ρ, fun m ρ _ => Cert.FoxIdeal.Flash.frame m ρ,
    quiescent_FoxRefIdeal, fun m ρ _ => quiescent_FoxRefIdeal m ρ trivial,
    fun m ρ _ => Cert.Up.Gen.frame m ρ, fun m ρ _ => Cert.UpIdeal.Gen.frame m ρ, quiescent_UpRefIdeal,
    fun m ρ _ => Cert.Down.Gen.frame m ρ, fun m ρ _ => Cert.DownIdeal.Gen.frame m ρ, quiescent_DownRefIdeal,
    fun m ρ _ => Cert.Mix.Gen.frame m ρ, fun m ρ _ => Cert.MixIdeal.Gen.frame m ρ, quiescent_MixRefIdeal,
    fun m ρ _ => Cert.Xq.Gen.frame m ρ, fun m ρ _ => Cert.XqIdeal.Gen.frame m ρ, quiescent_XqRefIdeal,
    fun m ρ _ => Cert.Cross.Gen.frame m ρ, fun m ρ _ => Cert.CrossIdeal.Gen.frame m ρ, quiescent_CrossRefIdeal,
    fun m ρ _ => Cert.Qk.Gen.frame m ρ, fun m ρ _ => Cert.QkIdeal.Gen.frame m ρ, quiescent_QkRefIdeal,
    fun m ρ _ => Cert.Vt.Gen.frame m ρ, fun m ρ _ => Cert.VtIdeal.Gen.frame m ρ, quiescent_VtRefIdeal,
    fun m ρ _ => Cert.Hv.Gen.frame m ρ, fun m ρ _ => Cert.HvIdeal.Gen.frame m ρ, quiescent_HvRefIdeal,
    fun m ρ _ => Cert.Hg.Gen.frame m ρ, fun m ρ _ => Cert.HgIdeal.Gen.frame m ρ, quiescent_HgRefIdeal,
    fun m ρ _ => Cert.Kv.Gen.frame m ρ, fun m ρ _ => Cert.KvIdeal.Gen.frame m ρ, quiescent_KvRefIdeal,
    fun m ρ _ => Cert.Hgrn.Gen.frame m ρ, fun m ρ _ => Cert.HgrnIdeal.Gen.frame m ρ, quiescent_HgrnRefIdeal,
    fun m ρ _ => Cert.Fgate.Gen.frame m ρ, fun m ρ _ => Cert.FgateIdeal.Gen.frame m ρ, fun m ρ _ => Cert.FgateIdeal.Gen.frame m ρ,
    quiescent_FgateRefIdeal, fun m ρ _ => quiescent_FgateRefIdeal m ρ trivial,
    (trivial : preserves_Kernel_KernelIdeal), Cert.InProj.algebraic,
    IdealRules.named_const.statement Cert.FoxIdeal.κ "mask" .f32 0xF149F2CA#32 ⊥ rfl, Cert.FoxEq.algebraic,
    (trivial : preserves_Up_UpIdeal), Cert.UpEq.algebraic,
    (trivial : preserves_Down_DownIdeal), Cert.DownEq.algebraic,
    (trivial : preserves_Mix_MixIdeal), Cert.MixEq.algebraic,
    (trivial : preserves_Xq_XqIdeal), Cert.XqEq.algebraic,
    (trivial : preserves_Cross_CrossIdeal), Cert.CrossEq.algebraic,
    (trivial : preserves_Qk_QkIdeal), Cert.QkEq.algebraic,
    (trivial : preserves_Vt_VtIdeal), Cert.VtEq.algebraic,
    (trivial : preserves_Hv_HvIdeal), Cert.HvEq.algebraic,
    (trivial : preserves_Hg_HgIdeal), Cert.HgEq.algebraic,
    (trivial : preserves_Kv_KvIdeal), Cert.KvEq.algebraic,
    IdealRules.named_const.statement Cert.HgrnIdeal.κ "inv_ln2" .f32 0x3FB8AA3B#32 (((Real.log 2)⁻¹ : ℝ) : EReal) rfl,
    (trivial : preserves_Fgate_FgateIdeal), Cert.FgateEq.algebraic⟩

end Cert.Proof

end
